-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_slots [hPre_distinct_slots : Cert.Pre_distinct_slots.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_slots [hPre_distinct_slots : Cert.Pre_distinct_slots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_slots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed_counts : Cert.Pre_routed_counts.Facts] (m : (ℓ : Loc Cert.Kernel2.nD Cert.Kernel2.τ Cert.Kernel2.sig) → Buf (Elt Bits) ℓ) : Prop :=
  ∀ c : Dev Cert.Kernel2.nD,
    (Cert.Pre_routed_counts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed_counts : Cert.Pre_routed_counts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed_counts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed_counts [hPre_routed_counts : Cert.Pre_routed_counts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed_counts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_distinct_slots [hKernelIdeal : Cert.KernelIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_slots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_distinct_slots [hReferenceIdeal : Cert.ReferenceIdeal.Facts] [hPre_distinct_slots : Cert.Pre_distinct_slots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_slots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed_counts : Cert.Pre_routed_counts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed_counts : Cert.Pre_routed_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed_counts [hReference2Ideal : Cert.Reference2Ideal.Facts] [hPre_routed_counts : Cert.Pre_routed_counts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed_counts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_distinct_slots [hKernelIdeal : Cert.KernelIdeal.Facts] [hReferenceIdeal : Cert.ReferenceIdeal.Facts] [hPre_distinct_slots : Cert.Pre_distinct_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_slots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed_counts : Cert.Pre_routed_counts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)) (v6 : (c : Dev Cert.Kernel4Ideal.nD) → Buf (Elt Ideal) ((c.tc : Thread Cert.Kernel4Ideal.nD Cert.Kernel4Ideal.τ).loc Cert.Kernel4Ideal.main_v9_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_v9_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_v156) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v159) = v3 c
          ∧ r.2.mem ((c.tc : Thread Cert.Reference4Ideal.nD Cert.Reference4Ideal.τ).loc Cert.Reference4Ideal.main_v161) = v4 c
          ∧ r.2.mem ((c.tc : Thread Cert.Reference4Ideal.nD Cert.Reference4Ideal.τ).loc Cert.Reference4Ideal.main_v164) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_distinct_slots : Cert.Pre_distinct_slots.Facts) (hPre_routed_counts : Cert.Pre_routed_counts.Facts),
    quiescent_Kernel (hKernel := hKernel)
    ∧ quiescent_KernelIdeal (hKernelIdeal := hKernelIdeal)
    ∧ quiescent_KernelIdeal_pre_distinct_slots (hKernelIdeal := hKernelIdeal) (hPre_distinct_slots := hPre_distinct_slots)
    ∧ quiescent_ReferenceIdeal (hReferenceIdeal := hReferenceIdeal)
    ∧ quiescent_ReferenceIdeal_pre_distinct_slots (hReferenceIdeal := hReferenceIdeal) (hPre_distinct_slots := hPre_distinct_slots)
    ∧ quiescent_Kernel2 (hKernel2 := hKernel2) (hPre_routed_counts := hPre_routed_counts)
    ∧ quiescent_Kernel2Ideal (hKernel2Ideal := hKernel2Ideal) (hPre_routed_counts := hPre_routed_counts)
    ∧ quiescent_Reference2Ideal (hReference2Ideal := hReference2Ideal)
    ∧ quiescent_Reference2Ideal_pre_routed_counts (hReference2Ideal := hReference2Ideal) (hPre_routed_counts := hPre_routed_counts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_distinct_slots (hKernelIdeal := hKernelIdeal) (hReferenceIdeal := hReferenceIdeal) (hPre_distinct_slots := hPre_distinct_slots)
    ∧ preserves_Kernel2_Kernel2Ideal
    ∧ algebraic_Kernel2Ideal_Reference2Ideal (hKernel2Ideal := hKernel2Ideal) (hReference2Ideal := hReference2Ideal) (hPre_routed_counts := hPre_routed_counts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_distinct_slots.lean ====
abbrev S17920x1024 : Shape := ⟨2, ![17920, 1024]⟩
abbrev S70x768x512 : Shape := ⟨3, ![70, 768, 512]⟩
abbrev S17920x128 : Shape := ⟨2, ![17920, 128]⟩
abbrev S1024 : Shape := ⟨1, ![1024]⟩
abbrev S17408x1 : Shape := ⟨2, ![17408, 1]⟩
abbrev S17408 : Shape := ⟨1, ![17408]⟩
abbrev S_ : Shape := ⟨0, ![]⟩

class Facts : Prop where
  slices_S17920x128_S17408x1_0_4 : S17920x128.Slices ![0, 4] S17408x1
  shapeCasts_S17408x1_S17408 : S17408x1.ShapeCasts S17408
  slices_S17920x128_S17408x1_0_5 : S17920x128.Slices ![0, 5] S17408x1
  reducesTo_S17408_S_d0 : S17408.ReducesTo [0] S_
  h_S_ : 0 < S_.numel

variable [Facts]

def fn {F : FTy → Type} [FloatOps F] (main_arg0 : FVec F S17920x1024 .f32) (main_arg1 : IVec S70x768x512 32) (main_arg2 : FVec F S17920x128 .f32) (main_arg3 : FVec F S1024 .f32) : IVec S_ 1 :=
  let main_v0 : FVec F S17408x1 .f32 := (extractStridedSlice S17408x1 ![0, 4] · slices_S17920x128_S17408x1_0_4) main_arg2
  let main_v1 : FVec F S17408 .f32 := shapeCast S17408 main_v0 shapeCasts_S17408x1_S17408
  let main_v2 : IVec S17408 32 := fptosi 32 main_v1
  let main_v3 : FVec F S17408x1 .f32 := (extractStridedSlice S17408x1 ![0, 5] · slices_S17920x128_S17408x1_0_5) main_arg2
  let main_v4 : FVec F S17408 .f32 := shapeCast S17408 main_v3 shapeCasts_S17408x1_S17408
  let main_v5 : IVec S17408 32 := fptosi 32 main_v4
  let main_v6 : IVec S17408 1 := cmpi .ne main_v2 main_v5
  let main_c : IVec S_ 1 := constantI S_ 1 1#1
  let main_v7 : IVec S_ 1 := (fun x v => Host.reduce IntOp.andi x v reducesTo_S17408_S_d0 h_S_) main_v6 main_c
  main_v7
-- ==== Pre_routed_counts.lean ====
abbrev S32 : Shape := ⟨1, ![32]⟩
abbrev S44032x1024 : Shape := ⟨2, ![44032, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S44032x1024 .f32) (main_arg2 : FVec F S1024 .f32) (main_arg3 : FVec F S32x1024x256 .f32) (main_arg4 : FVec F S32x1024x256 .f32) (main_arg5 : FVec F S32x256x1024 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 35840#32
  let main_v3 : IVec S32 32 := broadcastInDim S32 ![] bcast_S_S32 main_c_1
  let main_v4 : IVec S32 1 := cmpi .sle main_arg0 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg0 main_c_3
  let main_c_4 : IVec S_ 32 := constantI S_ 32 1#32
  let main_v8 : IVec S_ 1 := cmpi .sge main_v7 main_c_4
  let main_v9 : IVec S_ 1 := andi main_v6 main_v8
  let main_c_5 : IVec S_ 32 := constantI S_ 32 0#32
  let main_v10 : IVec S_ 32 := (fun x v => Host.reduce IntOp.addi x v reducesTo_S32_S_d0 h_S_) main_arg0 main_c_5
  let main_c_6 : IVec S_ 32 := constantI S_ 32 35840#32
  let main_v11 : IVec S_ 1 := cmpi .sle main_v10 main_c_6
  let main_v12 : IVec S_ 1 := andi main_v9 main_v11
  main_v12
-- ==== Kernel.lean ====
abbrev S17920x1024 : Shape := ⟨2, ![17920, 1024]⟩
abbrev S70x768x512 : Shape := ⟨3, ![70, 768, 512]⟩
abbrev S17920x128 : Shape := ⟨2, ![17920, 128]⟩
abbrev S1024 : Shape := ⟨1, ![1024]⟩
abbrev S1x1024 : Shape := ⟨2, ![1, 1024]⟩
abbrev S8x2048x1024 : Shape := ⟨3, ![8, 2048, 1024]⟩
abbrev S128x8x1024 : Shape := ⟨3, ![128, 8, 1024]⟩
abbrev S512x1024 : Shape := ⟨2, ![512, 1024]⟩
abbrev S2x768x512 : Shape := ⟨3, ![2, 768, 512]⟩
abbrev S512x128 : Shape := ⟨2, ![512, 128]⟩
abbrev S8x64x1024 : Shape := ⟨3, ![8, 64, 1024]⟩
abbrev S64x8x1024 : Shape := ⟨3, ![64, 8, 1024]⟩
abbrev S256x768 : Shape := ⟨2, ![256, 768]⟩
abbrev S256x128 : Shape := ⟨2, ![256, 128]⟩
abbrev S256x1 : Shape := ⟨2, ![256, 1]⟩
abbrev S1x768x512 : Shape := ⟨3, ![1, 768, 512]⟩
abbrev S768x512 : Shape := ⟨2, ![768, 512]⟩
abbrev S256x512 : Shape := ⟨2, ![256, 512]⟩
abbrev S256x1024 : Shape := ⟨2, ![256, 1024]⟩
abbrev S512 : Shape := ⟨1, ![512]⟩
abbrev S512x1 : Shape := ⟨2, ![512, 1]⟩
abbrev S8x1024 : Shape := ⟨2, ![8, 1024]⟩
abbrev S8x1x1024 : Shape := ⟨3, ![8, 1, 1024]⟩
abbrev S64x1024 : Shape := ⟨2, ![64, 1024]⟩
abbrev S64x1x1024 : Shape := ⟨3, ![64, 1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S17920x1024, .f32⟩
  | .hbm, ⟨1, _⟩ => ⟨S70x768x512, .i32⟩
  | .hbm, ⟨2, _⟩ => ⟨S17920x128, .f32⟩
  | .hbm, ⟨3, _⟩ => ⟨S1024, .f32⟩
  | .hbm, ⟨4, _⟩ => ⟨S1x1024, .f32⟩
  | .hbm, ⟨5, _⟩ => ⟨S8x2048x1024, .f32⟩
  | .hbm, ⟨6, _⟩ => ⟨S128x8x1024, .f32⟩
  | .local _ .vmem, ⟨0, _⟩ => ⟨S512x1024, .f32⟩
  | .local _ .vmem, ⟨1, _⟩ => ⟨S512x1024, .f32⟩
  | .local _ .vmem, ⟨2, _⟩ => ⟨S2x768x512, .i32⟩
  | .local _ .vmem, ⟨3, _⟩ => ⟨S2x768x512, .i32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S8x64x1024, .f32⟩
  | .local _ .vmem, ⟨8, _⟩ => ⟨S8x64x1024, .f32⟩
  | .local _ .vmem, ⟨9, _⟩ => ⟨S64x8x1024, .f32⟩
  | .local _ .vmem, ⟨10, _⟩ => ⟨S64x8x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v74 : BitVec 1 := Scalar.cmpi .slt arg0 c32_i32
  let v75 : BitVec 32 := Scalar.extui v74
  let c0_i32 : BitVec 32 := 0#32
  let v76 : BitVec 1 := Scalar.cmpi .ne v75 c0_i32
  v76

def k0_cond2 (i : grid0.Coords) : BitVec 1 :=
  let arg0 : BitVec 32 := BitVec.ofNat 32 (i 0).val
  let c32_i32_19 : BitVec 32 := 32#32
  let v77 : BitVec 1 := Scalar.cmpi .sge arg0 c32_i32_19
  let v78 : BitVec 32 := Scalar.extui v77
  let c0_i32_20 : BitVec 32 := 0#32
  let v79 : BitVec 1 := Scalar.cmpi .ne v78 c0_i32_20
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x768x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S17920x1024 : Shape := ⟨2, ![17920, 1024]⟩
abbrev S70x768x512 : Shape := ⟨3, ![70, 768, 512]⟩
abbrev S17920x128 : Shape := ⟨2, ![17920, 128]⟩
abbrev S1024 : Shape := ⟨1, ![1024]⟩
abbrev S68x768x512 : Shape := ⟨3, ![68, 768, 512]⟩
abbrev S_ : Shape := ⟨0, ![]⟩
abbrev S68x768x1024 : Shape := ⟨3, ![68, 768, 1024]⟩
abbrev S17408x2 : Shape := ⟨2, ![17408, 2]⟩
abbrev S17408x2x1 : Shape := ⟨3, ![17408, 2, 1]⟩
abbrev S1x1x768 : Shape := ⟨3, ![1, 1, 768]⟩
abbrev S17408x2x768 : Shape := ⟨3, ![17408, 2, 768]⟩
abbrev S17408x768 : Shape := ⟨2, ![17408, 768]⟩
abbrev S68x256x768 : Shape := ⟨3, ![68, 256, 768]⟩
abbrev S68x256x1024 : Shape := ⟨3, ![68, 256, 1024]⟩
abbrev S17408x1024 : Shape := ⟨2, ![17408, 1024]⟩
abbrev S17408 : Shape := ⟨1, ![17408]⟩
abbrev S17408x1 : Shape := ⟨2, ![17408, 1]⟩
abbrev S1x1024 : Shape := ⟨2, ![1, 1024]⟩
abbrev S16384x1024 : Shape := ⟨2, ![16384, 1024]⟩
abbrev S2048x8x1024 : Shape := ⟨3, ![2048, 8, 1024]⟩
abbrev S8x2048x1024 : Shape := ⟨3, ![8, 2048, 1024]⟩
abbrev S1024x1024 : Shape := ⟨2, ![1024, 1024]⟩
abbrev S2x8x64x1024 : Shape := ⟨4, ![2, 8, 64, 1024]⟩
abbrev S2x64x8x1024 : Shape := ⟨4, ![2, 64, 8, 1024]⟩
abbrev S128x8x1024 : Shape := ⟨3, ![128, 8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S70x768x512, .i32⟩
  | .hbm, ⟨2, _⟩ => ⟨S17920x128, .f32⟩
  | .hbm, ⟨3, _⟩ => ⟨S1024, .f32⟩
  | .hbm, ⟨4, _⟩ => ⟨S68x768x512, .i32⟩
  | .hbm, ⟨5, _⟩ => ⟨S_, .i32⟩
  | .hbm, ⟨6, _⟩ => ⟨S68x768x512, .i32⟩
  | .hbm, ⟨7, _⟩ => ⟨S68x768x512, .i32⟩
  | .hbm, ⟨8, _⟩ => ⟨S68x768x512, .f32⟩
  | .hbm, ⟨9, _⟩ => ⟨S68x768x512, .i32⟩
  | .hbm, ⟨10, _⟩ => ⟨S_, .i32⟩
  | .hbm, ⟨11, _⟩ => ⟨S68x768x512, .i32⟩
  | .hbm, ⟨12, _⟩ => ⟨S68x768x512, .i32⟩
  | .hbm, ⟨13, _⟩ => ⟨S68x768x512, .f32⟩
  | .hbm, ⟨14, _⟩ => ⟨S68x768x1024, .f32⟩
  | .hbm, ⟨15, _⟩ => ⟨S17408x2, .f32⟩
  | .hbm, ⟨16, _⟩ => ⟨S17408x2, .f32⟩
  | .hbm, ⟨17, _⟩ => ⟨S17408x2, .i32⟩
  | .hbm, ⟨18, _⟩ => ⟨S17408x2x1, .i32⟩
  | .hbm, ⟨19, _⟩ => ⟨S1x1x768, .i32⟩
  | .hbm, ⟨20, _⟩ => ⟨S17408x2x768, .i32⟩
  | .hbm, ⟨21, _⟩ => ⟨S17408x2x768, .i32⟩
  | .hbm, ⟨22, _⟩ => ⟨S17408x2x768, .i1⟩
  | .hbm, ⟨23, _⟩ => ⟨S17408x2x768, .f32⟩
  | .hbm, ⟨24, _⟩ => ⟨S17408x2x1, .f32⟩
  | .hbm, ⟨25, _⟩ => ⟨S17408x2x768, .f32⟩
  | .hbm, ⟨26, _⟩ => ⟨S17408x2x768, .f32⟩
  | .hbm, ⟨27, _⟩ => ⟨S_, .f32⟩
  | .hbm, ⟨28, _⟩ => ⟨S17408x768, .f32⟩
  | .hbm, ⟨29, _⟩ => ⟨S68x256x768, .f32⟩
  | .hbm, ⟨30, _⟩ => ⟨S68x256x1024, .f32⟩
  | .hbm, ⟨31, _⟩ => ⟨S17408x1024, .f32⟩
  | .hbm, ⟨32, _⟩ => ⟨S17408x1024, .f32⟩
  | .hbm, ⟨33, _⟩ => ⟨S17408x1024, .f32⟩
  | .hbm, ⟨34, _⟩ => ⟨S17408x1024, .f32⟩
  | .hbm, ⟨35, _⟩ => ⟨S_, .f32⟩
  | .hbm, ⟨36, _⟩ => ⟨S17408, .f32⟩
  | .hbm, ⟨37, _⟩ => ⟨S17408x1, .f32⟩
  | .hbm, ⟨38, _⟩ => ⟨S_, .f32⟩
  | .hbm, ⟨39, _⟩ => ⟨S17408x1, .f32⟩
  | .hbm, ⟨40, _⟩ => ⟨S17408x1, .f32⟩
  | .hbm, ⟨41, _⟩ => ⟨S_, .f32⟩
  | .hbm, ⟨42, _⟩ => ⟨S17408x1, .f32⟩
  | .hbm, ⟨43, _⟩ => ⟨S17408x1, .f32⟩
  | .hbm, ⟨44, _⟩ => ⟨S17408x1, .f32⟩
  | .hbm, ⟨45, _⟩ => ⟨S17408x1024, .f32⟩
  | .hbm, ⟨46, _⟩ => ⟨S17408x1024, .f32⟩
  | .hbm, ⟨47, _⟩ => ⟨S1x1024, .f32⟩
  | .hbm, ⟨48, _⟩ => ⟨S17408x1024, .f32⟩
  | .hbm, ⟨49, _⟩ => ⟨S17408x1024, .f32⟩
  | .hbm, ⟨50, _⟩ => ⟨S16384x1024, .f32⟩
  | .hbm, ⟨51, _⟩ => ⟨S2048x8x1024, .f32⟩
  | .hbm, ⟨52, _⟩ => ⟨S8x2048x1024, .f32⟩
  | .hbm, ⟨53, _⟩ => ⟨S1024x1024, .f32⟩
  | .hbm, ⟨54, _⟩ => ⟨S2x8x64x1024, .f32⟩
  | .hbm, ⟨55, _⟩ => ⟨S2x64x8x1024, .f32⟩
  | .hbm, ⟨56, _⟩ => ⟨S128x8x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel2.lean ====
abbrev S32 : Shape := ⟨1, ![32]⟩
abbrev S44032x1024 : Shape := ⟨2, ![44032, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩
abbrev S1 : Shape := ⟨1, ![1]⟩
abbrev S172 : Shape := ⟨1, ![172]⟩
abbrev S172x1 : Shape := ⟨2, ![172, 1]⟩
abbrev S1x32 : Shape := ⟨2, ![1, 32]⟩
abbrev S172x32 : Shape := ⟨2, ![172, 32]⟩
abbrev S1x1024 : Shape := ⟨2, ![1, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x512 : Shape := ⟨2, ![1024, 512]⟩
abbrev S1024x256 : Shape := ⟨2, ![1024, 256]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 52
  | .vmem => 13
  | .smem => 3
  | _ => 0

abbrev bufTy : (tb : Table) → Fin (tcTables nBuf tb) → BufTy
  | .hbm, ⟨0, _⟩ => ⟨S32, .i32⟩
  | .hbm, ⟨1, _⟩ => ⟨S44032x1024, .f32⟩
  | .hbm, ⟨2, _⟩ => ⟨S1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S1, .i32⟩
  | .hbm, ⟨34, _⟩ => ⟨S_, .i32⟩
  | .hbm, ⟨35, _⟩ => ⟨S172, .i32⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S172, .i32⟩
  | .hbm, ⟨40, _⟩ => ⟨S172x1, .i32⟩
  | .hbm, ⟨41, _⟩ => ⟨S1x32, .i32⟩
  | .hbm, ⟨42, _⟩ => ⟨S172x32, .i32⟩
  | .hbm, ⟨43, _⟩ => ⟨S172x32, .i32⟩
  | .hbm, ⟨44, _⟩ => ⟨S172x32, .i1⟩
  | .hbm, ⟨45, _⟩ => ⟨S172x32, .i32⟩
  | .hbm, ⟨46, _⟩ => ⟨S_, .i32⟩
  | .hbm, ⟨47, _⟩ => ⟨S172, .i32⟩
  | .hbm, ⟨48, _⟩ => ⟨S_, .i32⟩
  | .hbm, ⟨49, _⟩ => ⟨S172, .i32⟩
  | .hbm, ⟨50, _⟩ => ⟨S1x1024, .f32⟩
  | .hbm, ⟨51, _⟩ => ⟨S44032x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .f32⟩
  | .local _ .vmem, ⟨10, _⟩ => ⟨S256x1024, .f32⟩
  | .local _ .vmem, ⟨11, _⟩ => ⟨S1024x512, .bf16⟩
  | .local _ .vmem, ⟨12, _⟩ => ⟨S256x1024, .bf16⟩
  | .local _ .smem, ⟨0, _⟩ => ⟨S172, .i32⟩
  | .local _ .smem, ⟨1, _⟩ => ⟨S172, .i32⟩
  | .local _ .smem, ⟨2, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v23 : Ref sig .tc := ⟨.hbm, 50, rfl⟩
abbrev main_v24 : Ref sig .tc := ⟨.hbm, 51, rfl⟩
abbrev main_v13 : Ref sig .tc := ⟨.smem, 0, rfl⟩
abbrev main_v22 : Ref sig .tc := ⟨.smem, 1, rfl⟩
abbrev main_v8 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![172], ![false]⟩

abbrev pre0 : Pipeline.Prefetch sig := ⟨3, ![main_v13.idx, main_v22.idx, main_v8.idx], fun | 0 => main_v13.names | 1 => main_v22.names | 2 => main_v8.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S172.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S172) ![v0.toNat] S1.size (k0_off1_inb i)) numel1_S1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S172.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S172) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S172.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S172) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S172.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S172) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S44032x1024 : Shape := ⟨2, ![44032, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩
abbrev S44032 : Shape := ⟨1, ![44032]⟩
abbrev S44032x1 : Shape := ⟨2, ![44032, 1]⟩
abbrev S1x32 : Shape := ⟨2, ![1, 32]⟩
abbrev S44032x32 : Shape := ⟨2, ![44032, 32]⟩
abbrev S1x1024 : Shape := ⟨2, ![1, 1024]⟩
abbrev S44032x32x256 : Shape := ⟨3, ![44032, 32, 256]⟩
abbrev S44032x32x1 : Shape := ⟨3, ![44032, 32, 1]⟩

abbrev nBuf : Space → Nat
  | .hbm => 81
  | .vmem => 0
  | .smem => 0
  | _ => 0

abbrev bufTy : (tb : Table) → Fin (tcTables nBuf tb) → BufTy
  | .hbm, ⟨0, _⟩ => ⟨S32, .i32⟩
  | .hbm, ⟨1, _⟩ => ⟨S44032x1024, .f32⟩
  | .hbm, ⟨2, _⟩ => ⟨S1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S_, .i32⟩
  | .hbm, ⟨29, _⟩ => ⟨S32, .i32⟩
  | .hbm, ⟨30, _⟩ => ⟨S44032, .i32⟩
  | .hbm, ⟨31, _⟩ => ⟨S44032x1, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S1x32, .i32⟩
  | .hbm, ⟨37, _⟩ => ⟨S44032x32, .i32⟩
  | .hbm, ⟨38, _⟩ => ⟨S44032x32, .i32⟩
  | .hbm, ⟨39, _⟩ => ⟨S44032x32, .i1⟩
  | .hbm, ⟨40, _⟩ => ⟨S_, .i32⟩
  | .hbm, ⟨41, _⟩ => ⟨S32, .i32⟩
  | .hbm, ⟨42, _⟩ => ⟨S32, .i32⟩
  | .hbm, ⟨43, _⟩ => ⟨S1x32, .i32⟩
  | .hbm, ⟨44, _⟩ => ⟨S44032x32, .i32⟩
  | .hbm, ⟨45, _⟩ => ⟨S44032x32, .i32⟩
  | .hbm, ⟨46, _⟩ => ⟨S44032x32, .i1⟩
  | .hbm, ⟨47, _⟩ => ⟨S44032x32, .i1⟩
  | .hbm, ⟨48, _⟩ => ⟨S44032x32, .f32⟩
  | .hbm, ⟨49, _⟩ => ⟨S44032x1024, .f32⟩
  | .hbm, ⟨50, _⟩ => ⟨S_, .f32⟩
  | .hbm, ⟨51, _⟩ => ⟨S44032, .f32⟩
  | .hbm, ⟨52, _⟩ => ⟨S44032x1, .f32⟩
  | .hbm, ⟨53, _⟩ => ⟨S_, .f32⟩
  | .hbm, ⟨54, _⟩ => ⟨S44032x1, .f32⟩
  | .hbm, ⟨55, _⟩ => ⟨S44032x1, .f32⟩
  | .hbm, ⟨56, _⟩ => ⟨S_, .f32⟩
  | .hbm, ⟨57, _⟩ => ⟨S44032x1, .f32⟩
  | .hbm, ⟨58, _⟩ => ⟨S44032x1, .f32⟩
  | .hbm, ⟨59, _⟩ => ⟨S44032x1, .f32⟩
  | .hbm, ⟨60, _⟩ => ⟨S44032x1024, .f32⟩
  | .hbm, ⟨61, _⟩ => ⟨S44032x1024, .f32⟩
  | .hbm, ⟨62, _⟩ => ⟨S1x1024, .f32⟩
  | .hbm, ⟨63, _⟩ => ⟨S44032x1024, .f32⟩
  | .hbm, ⟨64, _⟩ => ⟨S44032x1024, .f32⟩
  | .hbm, ⟨65, _⟩ => ⟨S44032x32x256, .f32⟩
  | .hbm, ⟨66, _⟩ => ⟨S44032x32x256, .f32⟩
  | .hbm, ⟨67, _⟩ => ⟨S44032x32x256, .f32⟩
  | .hbm, ⟨68, _⟩ => ⟨S44032x32x256, .f32⟩
  | .hbm, ⟨69, _⟩ => ⟨S_, .f32⟩
  | .hbm, ⟨70, _⟩ => ⟨S44032x32x256, .f32⟩
  | .hbm, ⟨71, _⟩ => ⟨S44032x32x256, .f32⟩
  | .hbm, ⟨72, _⟩ => ⟨S_, .f32⟩
  | .hbm, ⟨73, _⟩ => ⟨S44032x32x256, .f32⟩
  | .hbm, ⟨74, _⟩ => ⟨S44032x32x256, .f32⟩
  | .hbm, ⟨75, _⟩ => ⟨S44032x32x256, .f32⟩
  | .hbm, ⟨76, _⟩ => ⟨S44032x32x256, .f32⟩
  | .hbm, ⟨77, _⟩ => ⟨S44032x32x1, .f32⟩
  | .hbm, ⟨78, _⟩ => ⟨S44032x32x256, .f32⟩
  | .hbm, ⟨79, _⟩ => ⟨S44032x32x256, .f32⟩
  | .hbm, ⟨80, _⟩ => ⟨S44032x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_call1_call0_c : Ref sig .tc := ⟨.hbm, 27, rfl⟩
abbrev main_call1_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩

abbrev nD : Nat := 1
abbrev τ : Topo := Topo.v7x

variable {F : FTy → Type} [FloatOps F]
-- ==== Kernel3.lean ====
abbrev S17920x128 : Shape := ⟨2, ![17920, 128]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S17920x128, .f32⟩
  | .hbm, ⟨1, _⟩ => ⟨S17920x128, .f32⟩
  | .hbm, ⟨2, _⟩ => ⟨S1x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | _, _ => ⟨S17920x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![140], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S17920x128 : Shape := ⟨2, ![17920, 128]⟩
abbrev S17920x1 : Shape := ⟨2, ![17920, 1]⟩
abbrev S128 : Shape := ⟨1, ![128]⟩
abbrev S1x128 : Shape := ⟨2, ![1, 128]⟩
abbrev S_ : Shape := ⟨0, ![]⟩
abbrev S17920 : Shape := ⟨1, ![17920]⟩
abbrev S17920x2 : Shape := ⟨2, ![17920, 2]⟩

abbrev nBuf : Space → Nat
  | .hbm => 37
  | .vmem => 0
  | .smem => 0
  | _ => 0

abbrev bufTy : (tb : Table) → Fin (tcTables nBuf tb) → BufTy
  | .hbm, ⟨0, _⟩ => ⟨S17920x128, .f32⟩
  | .hbm, ⟨1, _⟩ => ⟨S17920x1, .f32⟩
  | .hbm, ⟨2, _⟩ => ⟨S128, .i32⟩
  | .hbm, ⟨3, _⟩ => ⟨S128, .f32⟩
  | .hbm, ⟨4, _⟩ => ⟨S1x128, .f32⟩
  | .hbm, ⟨5, _⟩ => ⟨S17920x128, .f32⟩
  | .hbm, ⟨6, _⟩ => ⟨S17920x128, .f32⟩
  | .hbm, ⟨7, _⟩ => ⟨S17920x128, .i1⟩
  | .hbm, ⟨8, _⟩ => ⟨S17920x128, .f32⟩
  | .hbm, ⟨9, _⟩ => ⟨S17920x1, .f32⟩
  | .hbm, ⟨10, _⟩ => ⟨S128, .i32⟩
  | .hbm, ⟨11, _⟩ => ⟨S128, .f32⟩
  | .hbm, ⟨12, _⟩ => ⟨S1x128, .f32⟩
  | .hbm, ⟨13, _⟩ => ⟨S17920x128, .f32⟩
  | .hbm, ⟨14, _⟩ => ⟨S17920x128, .f32⟩
  | .hbm, ⟨15, _⟩ => ⟨S17920x128, .i1⟩
  | .hbm, ⟨16, _⟩ => ⟨S17920x128, .f32⟩
  | .hbm, ⟨17, _⟩ => ⟨S17920x128, .f32⟩
  | .hbm, ⟨18, _⟩ => ⟨S_, .f32⟩
  | .hbm, ⟨19, _⟩ => ⟨S_, .f32⟩
  | .hbm, ⟨20, _⟩ => ⟨S17920x128, .f32⟩
  | .hbm, ⟨21, _⟩ => ⟨S17920x128, .f32⟩
  | .hbm, ⟨22, _⟩ => ⟨S17920x128, .f32⟩
  | .hbm, ⟨23, _⟩ => ⟨S_, .f32⟩
  | .hbm, ⟨24, _⟩ => ⟨S17920, .f32⟩
  | .hbm, ⟨25, _⟩ => ⟨S17920x128, .f32⟩
  | .hbm, ⟨26, _⟩ => ⟨S_, .f32⟩
  | .hbm, ⟨27, _⟩ => ⟨S17920, .f32⟩
  | .hbm, ⟨28, _⟩ => ⟨S17920x1, .f32⟩
  | .hbm, ⟨29, _⟩ => ⟨S17920x1, .f32⟩
  | .hbm, ⟨30, _⟩ => ⟨S17920x2, .f32⟩
  | .hbm, ⟨31, _⟩ => ⟨S_, .i32⟩
  | .hbm, ⟨32, _⟩ => ⟨S_, .f32⟩
  | .hbm, ⟨33, _⟩ => ⟨S17920x128, .f32⟩
  | .hbm, ⟨34, _⟩ => ⟨S_, .f32⟩
  | .hbm, ⟨35, _⟩ => ⟨S128, .f32⟩
  | .hbm, ⟨36, _⟩ => ⟨S1x128, .f32⟩
  | _, _ => ⟨S17920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_call0_call0_cst : Ref sig .tc := ⟨.hbm, 18, rfl⟩
abbrev main_call0_call0_v0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_call1_v0 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel4.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S64x8x16x16 : Shape := ⟨4, ![64, 8, 16, 16]⟩
abbrev S64x8x16x64 : Shape := ⟨4, ![64, 8, 16, 64]⟩
abbrev S1x1x64 : Shape := ⟨3, ![1, 1, 64]⟩
abbrev S1x1x1 : Shape := ⟨3, ![1, 1, 1]⟩
abbrev S1x16x64 : Shape := ⟨3, ![1, 16, 64]⟩
abbrev S1x8x16x16 : Shape := ⟨4, ![1, 8, 16, 16]⟩
abbrev S1x8x16x64 : Shape := ⟨4, ![1, 8, 16, 64]⟩
abbrev S1x64 : Shape := ⟨2, ![1, 64]⟩
abbrev S1x1 : Shape := ⟨2, ![1, 1]⟩
abbrev S16x64 : Shape := ⟨2, ![16, 64]⟩
abbrev S1x1x16x64 : Shape := ⟨4, ![1, 1, 16, 64]⟩
abbrev S16x16 : Shape := ⟨2, ![16, 16]⟩
abbrev S1x1x16x16 : Shape := ⟨4, ![1, 1, 16, 16]⟩

abbrev nBuf : Space → Nat
  | .hbm => 23
  | .vmem => 28
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S64x64x16, .f32⟩
  | .hbm, ⟨8, _⟩ => ⟨S64x16x64, .f32⟩
  | .hbm, ⟨9, _⟩ => ⟨S64x64x16, .f32⟩
  | .hbm, ⟨10, _⟩ => ⟨S64x16x64, .f32⟩
  | .hbm, ⟨11, _⟩ => ⟨S64x16x64, .f32⟩
  | .hbm, ⟨12, _⟩ => ⟨S64x16x64, .f32⟩
  | .hbm, ⟨13, _⟩ => ⟨S64x1x64, .f32⟩
  | .hbm, ⟨14, _⟩ => ⟨S64x1x64, .f32⟩
  | .hbm, ⟨15, _⟩ => ⟨S64x1x1, .f32⟩
  | .hbm, ⟨16, _⟩ => ⟨S64x8x16x16, .f32⟩
  | .hbm, ⟨17, _⟩ => ⟨S64x8x16x64, .f32⟩
  | .hbm, ⟨18, _⟩ => ⟨S64x8x16x64, .f32⟩
  | .hbm, ⟨19, _⟩ => ⟨S64x8x16x64, .f32⟩
  | .hbm, ⟨20, _⟩ => ⟨S64x8x16x64, .f32⟩
  | .hbm, ⟨21, _⟩ => ⟨S64x1x64, .f32⟩
  | .hbm, ⟨22, _⟩ => ⟨S64x1x64, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x1, .f32⟩
  | .local _ .vmem, ⟨5, _⟩ => ⟨S1x1x1, .f32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x16x64, .f32⟩
  | .local _ .vmem, ⟨11, _⟩ => ⟨S1x16x64, .f32⟩
  | .local _ .vmem, ⟨12, _⟩ => ⟨S1x16x64, .f32⟩
  | .local _ .vmem, ⟨13, _⟩ => ⟨S1x16x64, .f32⟩
  | .local _ .vmem, ⟨14, _⟩ => ⟨S1x8x16x16, .f32⟩
  | .local _ .vmem, ⟨15, _⟩ => ⟨S1x8x16x16, .f32⟩
  | .local _ .vmem, ⟨16, _⟩ => ⟨S1x8x16x64, .f32⟩
  | .local _ .vmem, ⟨17, _⟩ => ⟨S1x8x16x64, .f32⟩
  | .local _ .vmem, ⟨18, _⟩ => ⟨S1x8x16x64, .f32⟩
  | .local _ .vmem, ⟨19, _⟩ => ⟨S1x8x16x64, .f32⟩
  | .local _ .vmem, ⟨20, _⟩ => ⟨S1x8x16x64, .f32⟩
  | .local _ .vmem, ⟨21, _⟩ => ⟨S1x8x16x64, .f32⟩
  | .local _ .vmem, ⟨22, _⟩ => ⟨S1x8x16x64, .f32⟩
  | .local _ .vmem, ⟨23, _⟩ => ⟨S1x8x16x64, .f32⟩
  | .local _ .vmem, ⟨24, _⟩ => ⟨S1x1x64, .f32⟩
  | .local _ .vmem, ⟨25, _⟩ => ⟨S1x1x64, .f32⟩
  | .local _ .vmem, ⟨26, _⟩ => ⟨S1x1x64, .f32⟩
  | .local _ .vmem, ⟨27, _⟩ => ⟨S1x1x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x16x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x16x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S_ : Shape := ⟨0, ![]⟩
abbrev S2x32x64x1 : Shape := ⟨4, ![2, 32, 64, 1]⟩
abbrev S2x32x1x64 : Shape := ⟨4, ![2, 32, 1, 64]⟩
abbrev S2x32x9x64 : Shape := ⟨4, ![2, 32, 9, 64]⟩
abbrev S2x32x9x1x64 : Shape := ⟨5, ![2, 32, 9, 1, 64]⟩
abbrev S2x32x1x16x64 : Shape := ⟨5, ![2, 32, 1, 16, 64]⟩
abbrev S2x32x9x16x64 : Shape := ⟨5, ![2, 32, 9, 16, 64]⟩
abbrev S2x32x8x1x64 : Shape := ⟨5, ![2, 32, 8, 1, 64]⟩
abbrev S2x32x8x16x64 : Shape := ⟨5, ![2, 32, 8, 16, 64]⟩
abbrev S2x32x8x16x16 : Shape := ⟨5, ![2, 32, 8, 16, 16]⟩
abbrev S64x8x16x16 : Shape := ⟨4, ![64, 8, 16, 16]⟩
abbrev S64x8x16x64 : Shape := ⟨4, ![64, 8, 16, 64]⟩
abbrev S2x32x1x1x64 : Shape := ⟨5, ![2, 32, 1, 1, 64]⟩
abbrev S64x1x64 : Shape := ⟨3, ![64, 1, 64]⟩

abbrev nBuf : Space → Nat
  | .hbm => 178
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x16x64, .f32⟩
  | 6 => ⟨S2x32x16x64, .f32⟩
  | 7 => ⟨S2x32, .f32⟩
  | 8 => ⟨S2x32x1, .f32⟩
  | 9 => ⟨S2x32x64, .f32⟩
  | 10 => ⟨S2x32x64, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S_, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S2x32x64, .f32⟩
  | 34 => ⟨S2x32x64x1, .f32⟩
  | 35 => ⟨S2x32x64x16, .f32⟩
  | 36 => ⟨S2x32x64x16, .f32⟩
  | 37 => ⟨S2x32x64x1, .f32⟩
  | 38 => ⟨S2x32x64x16, .f32⟩
  | 39 => ⟨S2x32x64x16, .f32⟩
  | 40 => ⟨S2x32x64x16, .f32⟩
  | 41 => ⟨S2x32x64x1, .f32⟩
  | 42 => ⟨S2x32x64x16, .f32⟩
  | 43 => ⟨S2x32x64x16, .f32⟩
  | 44 => ⟨S2x32x64x1, .f32⟩
  | 45 => ⟨S2x32x64x16, .f32⟩
  | 46 => ⟨S2x32x64x16, .f32⟩
  | 47 => ⟨S2x32x64x16, .f32⟩
  | 48 => ⟨S_, .f32⟩
  | 49 => ⟨S2x32x64, .f32⟩
  | 50 => ⟨S_, .f32⟩
  | 51 => ⟨S2x32x64, .f32⟩
  | 52 => ⟨S2x32x64, .f32⟩
  | 53 => ⟨S2x32x64, .f32⟩
  | 54 => ⟨S2x32x64, .f32⟩
  | 55 => ⟨S2x32x64, .f32⟩
  | 56 => ⟨S2x32x64, .f32⟩
  | 57 => ⟨S2x32x64, .f32⟩
  | 58 => ⟨S2x32x64, .f32⟩
  | 59 => ⟨S2x32x64, .f32⟩
  | 60 => ⟨S2x32x64, .f32⟩
  | 61 => ⟨S2x32x64, .f32⟩
  | 62 => ⟨S2x32x64, .f32⟩
  | 63 => ⟨S2x32x64, .f32⟩
  | 64 => ⟨S2x32x64, .f32⟩
  | 65 => ⟨S2x32x64, .f32⟩
  | 66 => ⟨S2x32x64, .f32⟩
  | 67 => ⟨S2x32x64, .f32⟩
  | 68 => ⟨S2x32x64, .f32⟩
  | 69 => ⟨S2x32x64, .f32⟩
  | 70 => ⟨S2x32x64, .f32⟩
  | 71 => ⟨S2x32x64, .f32⟩
  | 72 => ⟨S2x32x64, .f32⟩
  | 73 => ⟨S2x32x64, .f32⟩
  | 74 => ⟨S2x32x64, .f32⟩
  | 75 => ⟨S2x32x64, .f32⟩
  | 76 => ⟨S2x32x64, .f32⟩
  | 77 => ⟨S2x32x64, .f32⟩
  | 78 => ⟨S2x32x64, .f32⟩
  | 79 => ⟨S2x32x64, .f32⟩
  | 80 => ⟨S2x32x64, .f32⟩
  | 81 => ⟨S2x32x64, .f32⟩
  | 82 => ⟨S2x32x64, .f32⟩
  | 83 => ⟨S2x32x64, .f32⟩
  | 84 => ⟨S2x32x64, .f32⟩
  | 85 => ⟨S2x32x64, .f32⟩
  | 86 => ⟨S2x32x64, .f32⟩
  | 87 => ⟨S2x32x64, .f32⟩
  | 88 => ⟨S2x32x64, .f32⟩
  | 89 => ⟨S2x32x64, .f32⟩
  | 90 => ⟨S2x32x64, .f32⟩
  | 91 => ⟨S2x32x64, .f32⟩
  | 92 => ⟨S2x32x64, .f32⟩
  | 93 => ⟨S2x32x64, .f32⟩
  | 94 => ⟨S2x32x64, .f32⟩
  | 95 => ⟨S2x32x64, .f32⟩
  | 96 => ⟨S2x32x64, .f32⟩
  | 97 => ⟨S2x32x64, .f32⟩
  | 98 => ⟨S2x32x64, .f32⟩
  | 99 => ⟨S2x32x64, .f32⟩
  | 100 => ⟨S2x32x1x64, .f32⟩
  | 101 => ⟨S2x32x1x64, .f32⟩
  | 102 => ⟨S2x32x1x64, .f32⟩
  | 103 => ⟨S2x32x1x64, .f32⟩
  | 104 => ⟨S2x32x1x64, .f32⟩
  | 105 => ⟨S2x32x1x64, .f32⟩
  | 106 => ⟨S2x32x1x64, .f32⟩
  | 107 => ⟨S2x32x1x64, .f32⟩
  | 108 => ⟨S2x32x1x64, .f32⟩
  | 109 => ⟨S2x32x9x64, .f32⟩
  | 110 => ⟨S2x32x9x1x64, .f32⟩
  | 111 => ⟨S2x32x1x64, .f32⟩
  | 112 => ⟨S2x32x1x64, .f32⟩
  | 113 => ⟨S2x32x1x64, .f32⟩
  | 114 => ⟨S2x32x1x64, .f32⟩
  | 115 => ⟨S2x32x1x64, .f32⟩
  | 116 => ⟨S2x32x1x64, .f32⟩
  | 117 => ⟨S2x32x1x64, .f32⟩
  | 118 => ⟨S2x32x1x64, .f32⟩
  | 119 => ⟨S2x32x1x64, .f32⟩
  | 120 => ⟨S2x32x9x64, .f32⟩
  | 121 => ⟨S2x32x9x1x64, .f32⟩
  | 122 => ⟨S2x32x1x16x64, .f32⟩
  | 123 => ⟨S2x32x1x16x64, .f32⟩
  | 124 => ⟨S2x32x9x16x64, .f32⟩
  | 125 => ⟨S2x32x9x16x64, .f32⟩
  | 126 => ⟨S2x32x9x16x64, .f32⟩
  | 127 => ⟨S2x32x9x16x64, .f32⟩
  | _ => ⟨S2x32x64, .f32⟩

abbrev hbmTy0_1 (i : Nat) : BufTy := match i % 128 with
  | 0 => ⟨S2x32x9x16x64, .f32⟩
  | 1 => ⟨S2x32x9x16x64, .f32⟩
  | 2 => ⟨S2x32x9x16x64, .f32⟩
  | 3 => ⟨S2x32x9x16x64, .f32⟩
  | 4 => ⟨S2x32x9x16x64, .f32⟩
  | 5 => ⟨S2x32x9x16x64, .f32⟩
  | 6 => ⟨S2x32x9x16x64, .f32⟩
  | 7 => ⟨S2x32x9x16x64, .f32⟩
  | 8 => ⟨S2x32x9x16x64, .f32⟩
  | 9 => ⟨S2x32x9x16x64, .f32⟩
  | 10 => ⟨S2x32x16x64, .f32⟩
  | 11 => ⟨S2x32x1x16x64, .f32⟩
  | 12 => ⟨S2x32x16x64, .f32⟩
  | 13 => ⟨S2x32x1x16x64, .f32⟩
  | 14 => ⟨S2x32x8x1x64, .f32⟩
  | 15 => ⟨S2x32x8x16x64, .f32⟩
  | 16 => ⟨S2x32x8x16x64, .f32⟩
  | 17 => ⟨S2x32x8x16x64, .f32⟩
  | 18 => ⟨S2x32x8x1x64, .f32⟩
  | 19 => ⟨S2x32x8x16x64, .f32⟩
  | 20 => ⟨S2x32x8x16x64, .f32⟩
  | 21 => ⟨S2x32x8x16x64, .f32⟩
  | 22 => ⟨S2x32x8x16x64, .f32⟩
  | 23 => ⟨S2x32x8x1x64, .f32⟩
  | 24 => ⟨S2x32x8x16x64, .f32⟩
  | 25 => ⟨S2x32x8x16x64, .f32⟩
  | 26 => ⟨S2x32x8x16x64, .f32⟩
  | 27 => ⟨S2x32x8x1x64, .f32⟩
  | 28 => ⟨S2x32x8x16x64, .f32⟩
  | 29 => ⟨S2x32x8x16x64, .f32⟩
  | 30 => ⟨S2x32x8x16x64, .f32⟩
  | 31 => ⟨S2x32x8x16x64, .f32⟩
  | 32 => ⟨S2x32x8x16x64, .f32⟩
  | 33 => ⟨S2x32x8x16x16, .f32⟩
  | 34 => ⟨S2x32x8x16x64, .f32⟩
  | 35 => ⟨S2x32x8x16x16, .f32⟩
  | 36 => ⟨S2x32x8x16x16, .f32⟩
  | 37 => ⟨S64x8x16x16, .f32⟩
  | 38 => ⟨S64x8x16x64, .f32⟩
  | 39 => ⟨S64x8x16x64, .f32⟩
  | 40 => ⟨S2x32x8x16x64, .f32⟩
  | 41 => ⟨S64x8x16x64, .f32⟩
  | 42 => ⟨S2x32x8x16x64, .f32⟩
  | 43 => ⟨S64x8x16x64, .f32⟩
  | 44 => ⟨S2x32x1x1x64, .f32⟩
  | 45 => ⟨S2x32x1x64, .f32⟩
  | 46 => ⟨S64x1x64, .f32⟩
  | 47 => ⟨S2x32x1x1x64, .f32⟩
  | 48 => ⟨S2x32x1x64, .f32⟩
  | 49 => ⟨S64x1x64, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_0 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩

abbrev nD : Nat := 1
abbrev τ : Topo := Topo.v7x

variable {F : FTy → Type} [FloatOps F]
-- ==== Proof.FinKit.lean ====
/- What one grid point of the last call computes, from the blocks it is handed: the normed block of 512 rows, and the two
   shapes its rows are laid out in (prompt rows 8 to a position, sample rows 64 to a position). -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Pipeline.FrameBody
public import Idealize.ShloMosaic.Lib.Tactic

@[expose] public section

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 512 normed rows of a point, from its blocks of the residual stream, the expert outputs, the routing and the gain. -/
def rows (x0 : Vec F S512x1024 .f32) (x1 : Vec F S2x768x512 .i32) (x2 : Vec F S512x128 .f32) (x3 : Vec F S1x1024 .f32) :
    FVec F S512x1024 .f32 :=
  k0_pay1
    (k0_pay79 (View.ld x2 (Rect.unit (s := S512x128) ![0, 0] S256x128.size inb_S512x128_S256x128_0_0))
      (View.ld x1 (Rect.unit (s := S2x768x512) ![0, 0, 0] S1x768x512.size inb_S2x768x512_S1x768x512_0_0_0)))
    (k0_pay80 (View.ld x2 (Rect.unit (s := S512x128) ![256, 0] S256x128.size inb_S512x128_S256x128_256_0)))
    (View.ld x1 (Rect.unit (s := S2x768x512) ![1, 0, 0] S1x768x512.size inb_S2x768x512_S1x768x512_1_0_0))
    (View.ld x0 (Rect.unit (s := S512x1024) ![0, 0] S512x1024.size inb_S512x1024_S512x1024_0_0))
    (View.ld x3 (Rect.unit (s := S1x1024) ![0, 0] S1x1024.size inb_S1x1024_S1x1024_0_0))

/-- The prompt layout of 512 rows: row `8 l + b` is sequence `b`'s position `l`. -/
def prompt (y : FVec F S512x1024 .f32) : Vec F S8x64x1024 .f32 := fun j =>
  y (fun a => match a with
    | ⟨0, _⟩ => ⟨8 * (j (1 : Fin 3)).val + (j (0 : Fin 3)).val, by have h0 : (j (0 : Fin 3)).val < 8 := (j (0 : Fin 3)).isLt; have h1 : (j (1 : Fin 3)).val < 64 := (j (1 : Fin 3)).isLt; show _ < 512; omega⟩
    | ⟨1, _⟩ => ⟨(j (2 : Fin 3)).val, (j (2 : Fin 3)).isLt⟩)

/-- The sample layout of 512 rows: row `64 l + b` is sequence `b`'s position `l`. -/
def sample (y : FVec F S512x1024 .f32) : Vec F S64x8x1024 .f32 := fun j =>
  y (fun a => match a with
    | ⟨0, _⟩ => ⟨64 * (j (1 : Fin 3)).val + (j (0 : Fin 3)).val, by have h0 : (j (0 : Fin 3)).val < 64 := (j (0 : Fin 3)).isLt; have h1 : (j (1 : Fin 3)).val < 8 := (j (1 : Fin 3)).isLt; show _ < 512; omega⟩
    | ⟨1, _⟩ => ⟨(j (2 : Fin 3)).val, (j (2 : Fin 3)).isLt⟩)

/-- Eight rows cut out at `off`, given a unit axis, are the prompt layout's position `l` when `off = 8 l`. -/
theorem cut8 {Y y : FVec F S512x1024 .f32} (key : Y = y) {off : Fin 2 → ℕ} {po : Fin 3 → ℕ} (hs : S512x1024.Slices off S8x1024)
    (inb : ∀ a, po a + S8x1x1024.size a ≤ S8x64x1024.size a)
    (h0 : off 0 = 8 * po 1) (h1 : off 1 = 0) (p0 : po 0 = 0) (p2 : po 2 = 0) (x : S8x1x1024.Idx) :
    shapeCast S8x1x1024 (extractStridedSlice S8x1024 off Y hs) shapeCasts_S8x1024_S8x1x1024 x
      = prompt y ((Rect.unit (s := S8x64x1024) po S8x1x1024.size inb).emb x) := by
  subst key
  have hx1 : (x 1).val < 1 := (x 1).isLt
  rw [shapeCast_apply _ shapeCasts_S8x1024_S8x1x1024 x (fun a => match a with
    | ⟨0, _⟩ => ⟨(x 0).val, (x 0).isLt⟩
    | ⟨1, _⟩ => ⟨(x 2).val, (x 2).isLt⟩) (by rw [Shape.rowMajor_val_two, Shape.rowMajor_val_three]; simp; omega)]
  unfold prompt
  rw [extractStridedSlice_apply _ _ hs]
  intro a
  match a with
  | ⟨0, _⟩ => simp [Rect.emb, Rect.unit]; omega
  | ⟨1, _⟩ => simp [Rect.emb, Rect.unit]; omega

/-- Sixty-four rows cut out at `off`, given a unit axis, are the sample layout's position `l` when `off = 64 l`. -/
theorem cut64 {Y y : FVec F S512x1024 .f32} (key : Y = y) {off : Fin 2 → ℕ} {po : Fin 3 → ℕ} (hs : S512x1024.Slices off S64x1024)
    (inb : ∀ a, po a + S64x1x1024.size a ≤ S64x8x1024.size a)
    (h0 : off 0 = 64 * po 1) (h1 : off 1 = 0) (p0 : po 0 = 0) (p2 : po 2 = 0) (x : S64x1x1024.Idx) :
    shapeCast S64x1x1024 (extractStridedSlice S64x1024 off Y hs) shapeCasts_S64x1024_S64x1x1024 x
      = sample y ((Rect.unit (s := S64x8x1024) po S64x1x1024.size inb).emb x) := by
  subst key
  have hx1 : (x 1).val < 1 := (x 1).isLt
  rw [shapeCast_apply _ shapeCasts_S64x1024_S64x1x1024 x (fun a => match a with
    | ⟨0, _⟩ => ⟨(x 0).val, (x 0).isLt⟩
    | ⟨1, _⟩ => ⟨(x 2).val, (x 2).isLt⟩) (by rw [Shape.rowMajor_val_two, Shape.rowMajor_val_three]; simp; omega)]
  unfold sample
  rw [extractStridedSlice_apply _ _ hs]
  intro a
  match a with
  | ⟨0, _⟩ => simp [Rect.emb, Rect.unit]; omega
  | ⟨1, _⟩ => simp [Rect.emb, Rect.unit]; omega

/-- The body's first branch is taken exactly at the prompt's points. -/
abbrev cond0 (i : grid0.Coords) : Prop := k0_cond1 i = 1#1
theorem hcond0 : ∀ t : Fin cfg0.N, cond0 (grid0.coords t) ↔ t.val < 32 :=
  (by decide +kernel : ∀ t : Fin grid0.N, cond0 (grid0.coords t) ↔ t.val < 32)

/-- The body's second branch is taken exactly at the samples' points. -/
abbrev cond1 (i : grid0.Coords) : Prop := k0_cond2 i = 1#1
theorem hcond1 : ∀ t : Fin cfg0.N, cond1 (grid0.coords t) ↔ 32 ≤ t.val :=
  (by decide +kernel : ∀ t : Fin grid0.N, cond1 (grid0.coords t) ↔ 32 ≤ t.val)

end Cert.KernelIdeal.Fin

end
-- ==== Proof.FinRunA.lean ====
/- The body's run at the prompt points, with what it leaves. -/
module

public import proofs.«01_k».proof.Proof.FinKit

@[expose] public section

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a prompt point: the prompt window ends at the prompt layout of the normed rows, the sample window is left alone. -/
theorem runA (c : Dev nD) (i : grid0.Coords) (arg1 : Memref sig .tc .vmem S512x1024 .f32) (harg1 : arg1.IsWhole) (arg2 : Memref sig .tc .vmem S2x768x512 .i32) (harg2 : arg2.IsWhole) (arg3 : Memref sig .tc .vmem S512x128 .f32) (harg3 : arg3.IsWhole) (arg4 : Memref sig .tc .vmem S1x1024 .f32) (harg4 : arg4.IsWhole) (arg5 : Memref sig .tc .vmem S8x64x1024 .f32) (harg5 : arg5.IsWhole) (arg6 : Memref sig .tc .vmem S64x8x1024 .f32) (harg6 : arg6.IsWhole)
    (hc0 : cond0 i) (hc1 : ¬cond1 i)
    (x0 : Vec F S512x1024 .f32) (x1 : Vec F S2x768x512 .i32) (x2 : Vec F S512x128 .f32) (x3 : Vec F S1x1024 .f32) (o : Vec F S64x8x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (owns (c : Thread nD τ) arg6 fullShare o)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (prompt (rows x0 x1 x2 x3)) ∗ owns (c : Thread nD τ) arg6 fullShare o) -∗ K ⟨⟩))
          ⊢ wp frame (wpE (defs₀ (F := F)) Variants.none c none) E (cc0_finish i arg1 harg1 arg2 harg2 arg3 harg3 arg4 harg4 arg5 harg5 arg6 harg6) K := by
  intro E K
  simp only [cc0_finish_eq_skeleton]; unfold cc0_finish_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have key : k0_pay1
        (k0_pay79 (View.readAt (Elt F) arg3.view (Rect.unit (s := S512x128) ![0, 0] S256x128.size inb_S512x128_S256x128_0_0).toLoadRect (harg3.unread x2))
          (View.readAt (Elt F) arg2.view (Rect.unit (s := S2x768x512) ![0, 0, 0] S1x768x512.size inb_S2x768x512_S1x768x512_0_0_0).toLoadRect (harg2.unread x1)))
        (k0_pay80 (View.readAt (Elt F) arg3.view (Rect.unit (s := S512x128) ![256, 0] S256x128.size inb_S512x128_S256x128_256_0).toLoadRect (harg3.unread x2)))
        (View.readAt (Elt F) arg2.view (Rect.unit (s := S2x768x512) ![1, 0, 0] S1x768x512.size inb_S2x768x512_S1x768x512_1_0_0).toLoadRect (harg2.unread x1))
        (View.readAt (Elt F) arg1.view (Rect.unit (s := S512x1024) ![0, 0] S512x1024.size inb_S512x1024_S512x1024_0_0).toLoadRect (harg1.unread x0))
        (View.readAt (Elt F) arg4.view (Rect.unit (s := S1x1024) ![0, 0] S1x1024.size inb_S1x1024_S1x1024_0_0).toLoadRect (harg4.unread x3))
        = rows x0 x1 x2 x3 := by
      unfold rows
      simp only [View.readAt_eq_ld, Memref.IsWhole.read_unread]
    refine (View.read_writes_eq_canon _ _ _ ?_).trans ?_
    · exact View.cover_of_tiled _ S8x1x1024.size rfl
    funext y
    refine View.canon_apply_of_pieces (prompt (rows x0 x1 x2 x3)) _ ?_ y ?_
    swap; · revert y; exact View.cover_of_tiled _ S8x1x1024.size rfl
    repeat refine List.forall_mem_cons.mpr ⟨fun x => cut8 key (by exact ⟨rfl, by decide⟩) (by decide) (by rfl) (by rfl) (by rfl) (by rfl) x, ?_⟩
    exact fun p hp => absurd hp List.not_mem_nil
  iexists _; isplitr; swap; · iexact H5
  ipureintro; exact hf5

end Cert.KernelIdeal.Fin

end
-- ==== Proof.FinRunB.lean ====
/- The body's run at the sample points, with what it leaves. -/
module

public import proofs.«01_k».proof.Proof.FinKit

@[expose] public section

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a sample point: the sample window ends at the sample layout of the normed rows, the prompt window is left alone. -/
theorem runB (c : Dev nD) (i : grid0.Coords) (arg1 : Memref sig .tc .vmem S512x1024 .f32) (harg1 : arg1.IsWhole) (arg2 : Memref sig .tc .vmem S2x768x512 .i32) (harg2 : arg2.IsWhole) (arg3 : Memref sig .tc .vmem S512x128 .f32) (harg3 : arg3.IsWhole) (arg4 : Memref sig .tc .vmem S1x1024 .f32) (harg4 : arg4.IsWhole) (arg5 : Memref sig .tc .vmem S8x64x1024 .f32) (harg5 : arg5.IsWhole) (arg6 : Memref sig .tc .vmem S64x8x1024 .f32) (harg6 : arg6.IsWhole)
    (hc0 : ¬cond0 i) (hc1 : cond1 i)
    (x0 : Vec F S512x1024 .f32) (x1 : Vec F S2x768x512 .i32) (x2 : Vec F S512x128 .f32) (x3 : Vec F S1x1024 .f32) (o : Vec F S8x64x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (owns (c : Thread nD τ) arg5 fullShare o) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare o ∗ owns (c : Thread nD τ) arg6 fullShare (sample (rows x0 x1 x2 x3))) -∗ K ⟨⟩))
          ⊢ wp frame (wpE (defs₀ (F := F)) Variants.none c none) E (cc0_finish i arg1 harg1 arg2 harg2 arg3 harg3 arg4 harg4 arg5 harg5 arg6 harg6) K := by
  intro E K
  simp only [cc0_finish_eq_skeleton]; unfold cc0_finish_skel
  simp only [k0_part10_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; exact hf4
  iexists _; isplitr; swap; · iexact H5
  ipureintro
  have key : k0_pay1
      (k0_pay79 (View.readAt (Elt F) arg3.view (Rect.unit (s := S512x128) ![0, 0] S256x128.size inb_S512x128_S256x128_0_0).toLoadRect (harg3.unread x2))
        (View.readAt (Elt F) arg2.view (Rect.unit (s := S2x768x512) ![0, 0, 0] S1x768x512.size inb_S2x768x512_S1x768x512_0_0_0).toLoadRect (harg2.unread x1)))
      (k0_pay80 (View.readAt (Elt F) arg3.view (Rect.unit (s := S512x128) ![256, 0] S256x128.size inb_S512x128_S256x128_256_0).toLoadRect (harg3.unread x2)))
      (View.readAt (Elt F) arg2.view (Rect.unit (s := S2x768x512) ![1, 0, 0] S1x768x512.size inb_S2x768x512_S1x768x512_1_0_0).toLoadRect (harg2.unread x1))
      (View.readAt (Elt F) arg1.view (Rect.unit (s := S512x1024) ![0, 0] S512x1024.size inb_S512x1024_S512x1024_0_0).toLoadRect (harg1.unread x0))
      (View.readAt (Elt F) arg4.view (Rect.unit (s := S1x1024) ![0, 0] S1x1024.size inb_S1x1024_S1x1024_0_0).toLoadRect (harg4.unread x3))
      = rows x0 x1 x2 x3 := by
    unfold rows
    simp only [View.readAt_eq_ld, Memref.IsWhole.read_unread]
  refine (View.read_writes_eq_canon _ _ _ ?_).trans ?_
  · exact View.cover_of_tiled _ S64x1x1024.size rfl
  funext y
  refine View.canon_apply_of_pieces (sample (rows x0 x1 x2 x3)) _ ?_ y ?_
  swap; · revert y; exact View.cover_of_tiled _ S64x1x1024.size rfl
  repeat refine List.forall_mem_cons.mpr ⟨fun x => cut64 key (by exact ⟨rfl, by decide⟩) (by decide) (by rfl) (by rfl) (by rfl) (by rfl) x, ?_⟩
  exact fun p hp => absurd hp List.not_mem_nil

end Cert.KernelIdeal.Fin

end
-- ==== Proof.FinDat.lean ====
/- The last call's launch: its proof data with both outputs named, the body at every point, and the run. -/
module

public import proofs.«01_k».proof.Proof.FinRunA
public import proofs.«01_k».proof.Proof.FinRunB
public import Idealize.ShloMosaic.Lib.Pipeline.TableIdle
public import Idealize.ShloMosaic.Lib.Claim

@[expose] public section

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normed rows of point `t`, of the argument arrays as launched. -/
def rowsAt (c : Dev nD) (t : Fin cfg0.N) : FVec F S512x1024 .f32 :=
  rows (iblk m c 0 t) (iblk m c 1 t) (iblk m c 2 t) (iblk m c 3 t)

/-- The last point at or before `t` that stores the prompt window. -/
def lastPrompt (t : Fin cfg0.N) : Fin cfg0.N := ⟨min t.val 31, lt_of_le_of_lt (Nat.min_le_left _ _) t.isLt⟩

/-- The proof data: each input's buffer at its block, the prompt window at the layout of the last prompt point's rows, the
    sample window at the layout of the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prompt (rowsAt m c (lastPrompt t))
    | ⟨5, _⟩ => sample (rowsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = prompt (rowsAt m c (lastPrompt t)) := by dsimp only [dats]
theorem after0_5 (c : Dev nD) (t : Fin cfg0.N) : (dats m 0 c).after 5 t = sample (rowsAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The prompt window is idle exactly at the samples' points, -/
theorem idle4 : ∀ t : Fin cfg0.N, cfg0.idle 4 (cfg0.grid.coords t) = true ↔ 32 ≤ t.val :=
  (by decide +kernel : ∀ t : Fin grid0.N, idle0 4 (grid0.coords t) = true ↔ 32 ≤ t.val)
/-- the sample window exactly at the prompt's. -/
theorem idle5 : ∀ t : Fin cfg0.N, cfg0.idle 5 (cfg0.grid.coords t) = true ↔ t.val < 32 :=
  (by decide +kernel : ∀ t : Fin grid0.N, idle0 5 (grid0.coords t) = true ↔ t.val < 32)

theorem flush4 : ∀ t : Fin cfg0.N, (cfg0.win 4).flush t = true ↔ t.val < 31 ∨ t.val = 33 := by
  have h : ∀ t : Fin grid0.N, win0_4.flushF t = true ↔ t.val < 31 ∨ t.val = 33 := by decide +kernel
  intro t; rw [Window.flush_eq_flushF]; exact h t
theorem flush5 : ∀ t : Fin cfg0.N, (cfg0.win 5).flush t = true ↔ 32 ≤ t.val := by
  have h : ∀ t : Fin grid0.N, win0_5.flushF t = true ↔ 32 ≤ t.val := by decide +kernel
  intro t; rw [Window.flush_eq_flushF]; exact h t

/-- From the last prompt point on, the prompt window's buffer is what that point left. -/
theorem fresh4 (n : ℕ) (h : 32 ≤ n) (hn : n < 34) : cfg0.fresh 4 n = false := by
  have hN : cfg0.N = 34 := N_0
  have hg : cfg0.grid.N = 34 := N_0
  have h32 : cfg0.fresh 4 32 = false := by
    rw [show (32 : ℕ) = 31 + 1 from rfl, Cfg.fresh, dif_pos (by omega)]
    have hf : (cfg0.win 4).flush ⟨31, by omega⟩ = false := by
      rw [← Bool.not_eq_true]; intro hh; rcases (flush4 _).mp hh with h | h <;> simp at h
    have hi : cfg0.idle 4 (cfg0.grid.coords ⟨31, by omega⟩) = false := by
      rw [← Bool.not_eq_true]; intro hh; have := (idle4 _).mp hh; simp at this
    rw [hf, hi]; rfl
  rcases (by omega : n = 32 ∨ n = 33) with rfl | rfl
  · exact h32
  · rw [show (33 : ℕ) = 32 + 1 from rfl, Cfg.fresh, dif_pos (by omega), h32]
    have hf : (cfg0.win 4).flush ⟨32, by omega⟩ = false := by
      rw [← Bool.not_eq_true]; intro hh; rcases (flush4 _).mp hh with h | h <;> simp at h
    rw [hf]; simp

theorem lastPrompt_late (t : Fin cfg0.N) (h : 32 ≤ t.val) : lastPrompt ⟨t.val - 1, by omega⟩ = lastPrompt t := by
  apply Fin.ext; show min (t.val - 1) 31 = min t.val 31; omega

theorem before0_4 (c : Dev nD) (t : Fin cfg0.N) (h : 32 ≤ t.val) (d) :
    (dats m 0 c).before 4 t d = prompt (rowsAt m c (lastPrompt t)) := by
  have hN : t.val < 34 := lt_of_lt_of_eq t.isLt (show cfg0.N = 34 from N_0)
  have := (dats m 0 c).before_out_traj 4 rfl (fun _ _ => rfl)
    (fun t ht hi _ => by rw [after0_4, after0_4, lastPrompt_late t ((idle4 t).mp hi)]) t.val t rfl d
  rw [this, fresh4 t.val h hN, if_neg Bool.false_ne_true, after0_4, lastPrompt_late t h]

theorem liveAt0_0 (t : Fin cfg0.N) : cfg0.idle 0 (cfg0.grid.coords t) = false := rfl
theorem liveAt0_1 (t : Fin cfg0.N) : cfg0.idle 1 (cfg0.grid.coords t) = false := rfl
theorem liveAt0_2 (t : Fin cfg0.N) : cfg0.idle 2 (cfg0.grid.coords t) = false := rfl
theorem liveAt0_3 (t : Fin cfg0.N) : cfg0.idle 3 (cfg0.grid.coords t) = false := rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the prompt's run before point 32, the samples' from it on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 34 := lt_of_lt_of_eq t.isLt (show cfg0.N = 34 from N_0)
  rw [show (dats m 0 c).leavesExact 0 t = owns (c : Thread nD τ) (st0_0 t) fullShare ((dats m 0 c).after 0 t) from by
    unfold Dat.leavesExact; rw [liveAt0_0 t], after0_0]
  rw [show (dats m 0 c).leavesExact 1 t = owns (c : Thread nD τ) (st0_1 t) fullShare ((dats m 0 c).after 1 t) from by
    unfold Dat.leavesExact; rw [liveAt0_1 t], after0_1]
  rw [show (dats m 0 c).leavesExact 2 t = owns (c : Thread nD τ) (st0_2 t) fullShare ((dats m 0 c).after 2 t) from by
    unfold Dat.leavesExact; rw [liveAt0_2 t], after0_2]
  rw [show (dats m 0 c).leavesExact 3 t = owns (c : Thread nD τ) (st0_3 t) fullShare ((dats m 0 c).after 3 t) from by
    unfold Dat.leavesExact; rw [liveAt0_3 t], after0_3]
  by_cases h0 : t.val < 32
  · have hi4 : cfg0.idle 4 (cfg0.grid.coords t) = false := by
      rw [← Bool.not_eq_true]; intro hh; have := (idle4 t).mp hh; omega
    have hi5 := (idle5 t).mpr h0
    have hf5 : (cfg0.win 5).flush t = false := by
      rw [← Bool.not_eq_true]; intro hh; have := (flush5 t).mp hh; omega
    rw [show (dats m 0 c).leavesExact 4 t = owns (c : Thread nD τ) (st0_4 t) fullShare ((dats m 0 c).after 4 t) from by
      unfold Dat.leavesExact; rw [hi4], after0_4]
    rw [show (dats m 0 c).leavesExact 5 t = iprop(∃ d, owns (c : Thread nD τ) (st0_5 t) fullShare ((dats m 0 c).before 5 t d)) from
      Dat.leavesExact_idle _ 5 t hi5 hf5]
    rw [show lastPrompt t = t from Fin.ext (by show min t.val 31 = t.val; omega)]
    unfold rowsAt
    iintro ⟨HΦ, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ ((hcond0 t).mpr h0) (fun h => absurd ((hcond1 t).mp h) (by omega)) (iblk m c 0 t) (iblk m c 1 t) (iblk m c 2 t) (iblk m c 3 t) ((dats m 0 c).before 5 t d5)) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  · have h32 : 32 ≤ t.val := by omega
    have hi4 := (idle4 t).mpr h32
    have hi5 : cfg0.idle 5 (cfg0.grid.coords t) = false := by
      rw [← Bool.not_eq_true]; intro hh; have := (idle5 t).mp hh; omega
    rw [show (dats m 0 c).leavesExact 5 t = owns (c : Thread nD τ) (st0_5 t) fullShare ((dats m 0 c).after 5 t) from by
      unfold Dat.leavesExact; rw [hi5], after0_5]
    have hl4 : (owns (c : Thread nD τ) (st0_4 t) fullShare (prompt (rowsAt m c (lastPrompt t))) : sProp 𝕄) ⊢ (dats m 0 c).leavesExact 4 t := by
      unfold Dat.leavesExact
      rw [hi4]
      cases hf : (cfg0.win 4).flush t
      · simp only [before0_4 m c t h32]
        iintro H; iexists (prompt (rowsAt m c (lastPrompt t))); iexact H
      · simp only [after0_4]
        iintro H; iexact H
    simp only [before0_4 m c t h32]
    unfold rowsAt at hl4 ⊢
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun h => absurd ((hcond0 t).mp h) h0) ((hcond1 t).mpr h32) (iblk m c 0 t) (iblk m c 1 t) (iblk m c 2 t) (iblk m c 3 t) _) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply hl4; iexact H4
    iexact H5

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Fin

end
-- ==== Proof.FinSpec.lean ====
/- The row the last call computes, as a formula on extended reals: a token's residual row plus its weighted expert rows,
   divided by the root of its mean square, times the gain. -/
module

public import Idealize.ShloMosaic.Lib.Pointwise
public import Idealize.ShloMosaic.Lib.KernelVsHost

@[expose] public section

noncomputable section

namespace Cert.Proof.Spec

open Idealize.ShloMosaic

/-- The weight a token gives row `k` of its tile's sorted block: its first choice's gate at that choice's slot, its second's
    at that one's, zero elsewhere. -/
def weight (p1 p2 : BitVec 32) (q1 q2 : EReal) (k : Fin 768) : EReal :=
  if BitVec.ofNat 32 k.val = p1 then q1 else if BitVec.ofNat 32 k.val = p2 then q2 else 0

/-- The bf16 value in half `i` of a word. -/
def part (i : ℕ) (w : BitVec 32) : EReal := Ideal.ofBits .bf16 (w.extractLsb' (i * 16) 16)

/-- Column `e` of a row of packed words: the low halves first, then the high halves. -/
def wide (w : Fin 512 → BitVec 32) (e : Fin 1024) : EReal :=
  if h : e.val < 512 then part 0 (w ⟨e.val, h⟩) else part 1 (w ⟨e.val - 512, by omega⟩)

/-- A row after the combination. -/
def summed (x : Fin 1024 → EReal) (wt : Fin 768 → EReal) (y : Fin 768 → Fin 512 → BitVec 32) (e : Fin 1024) : EReal :=
  x e + ∑ k : Fin 768, wt k * wide (y k) e

/-- A row normed: divided by the root of its mean square (plus the norm's small constant), times the gain. -/
def normed (u g : Fin 1024 → EReal) (d : Fin 1024) : EReal :=
  u d * Ideal.rsqrt (Ideal.div (∑ e : Fin 1024, u e * u e) (Ideal.ofBits .f32 0x44800000#32) + Ideal.ofBits .f32 0x358637BD#32) * g d

/-- A slot column read as a word. -/
abbrev slot (x : EReal) : BitVec 32 := FloatOps.fptosi (F := Ideal) (φ := .f32) 32 x

/-- Row `r`, column `d` of the normed rows, from the residual stream, the packed expert outputs, the routing and the gain. -/
def out (x0 : Fin 17920 → Fin 1024 → EReal) (x1 : Fin 70 → Fin 768 → Fin 512 → BitVec 32) (x2 : Fin 17920 → Fin 128 → EReal) (x3 : Fin 1024 → EReal)
    (r : Fin 17408) (d : Fin 1024) : EReal :=
  normed (summed (fun e => x0 ⟨r.val, by omega⟩ e)
    (weight (slot (x2 ⟨r.val, by omega⟩ 4)) (slot (x2 ⟨r.val, by omega⟩ 5)) (x2 ⟨r.val, by omega⟩ 2) (x2 ⟨r.val, by omega⟩ 3))
    (fun k l => x1 ⟨r.val / 256, by omega⟩ k l)) x3 d

end Cert.Proof.Spec

end
-- ==== Proof.FinKer.lean ====
/- The last call's payloads read at an index, at the extended reals. -/
module

public import proofs.«01_k».proof.Proof.FinSpec
public import proofs.«01_k».proof.Proof.FinKit
public import Idealize.ShloMosaic.Lib.Pipeline.ValueKit.Tiles

@[expose] public section

set_option maxRecDepth 16384

noncomputable section

namespace Cert.KernelIdeal.Fin

open Cert.KernelIdeal Cert.KernelIdeal.Gen Cert.Proof.Spec
open Idealize.ShloMosaic

theorem pay80_apply (x : Vec Ideal S256x128 .f32) (r : Fin 256) (k : Fin 768) :
    k0_pay80 (F := Ideal) x (ix2 r k)
      = weight (slot (x (ix2 r (4 : Fin 128)))) (slot (x (ix2 r (5 : Fin 128)))) (x (ix2 r (2 : Fin 128))) (x (ix2 r (3 : Fin 128))) k := by
  pointwise [k0_pay80, weight]
  unfold Scalar.select
  exact if_congr IntOp.cmpi_eq rfl (if_congr IntOp.cmpi_eq rfl rfl)

/-- The expert half of a tile's 256 rows, from its weights and its packed block. -/
def half (w : FVec Ideal S256x768 .bf16) (y : Vec Ideal S1x768x512 .i32) : FVec Ideal S256x1024 .f32 :=
  concatenate S256x1024 1 [⟨S256x512, matmul dot_S256x768_S768x512_S256x512_1_0_0_1_n_n none w (truncf .bf16 (unpackElementwise (F := Ideal) 0 (shapeCast S768x512 y shapeCasts_S1x768x512_S768x512)) bitsLt_bf16_f32) (constant S256x512 .f32 0x00000000#32)⟩,
    ⟨S256x512, matmul dot_S256x768_S768x512_S256x512_1_0_0_1_n_n none w (truncf .bf16 (unpackElementwise (F := Ideal) 1 (shapeCast S768x512 y shapeCasts_S1x768x512_S768x512)) bitsLt_bf16_f32) (constant S256x512 .f32 0x00000000#32)⟩] concatenates_S256x512_S256x512_S256x1024_d1

theorem half_apply (w : FVec Ideal S256x768 .bf16) (y : Vec Ideal S1x768x512 .i32) (r : Fin 256) (e : Fin 1024) :
    half w y (ix2 r e) = ∑ k : Fin 768, w (ix2 r k) * wide (fun l => y (ix3 (0 : Fin 1) k l)) e := by
  unfold wide part
  pointwise [half]
  split <;> rfl

theorem pay79_eq (x : Vec Ideal S256x128 .f32) (y : Vec Ideal S1x768x512 .i32) :
    k0_pay79 (F := Ideal) x y = half (k0_pay80 (F := Ideal) x) y := rfl

/-- The two tiles' expert halves, one above the other, added to the residual rows. -/
def added (v28 : FVec Ideal S256x1024 .f32) (v56 : FVec Ideal S256x1024 .f32) (v57 : Vec Ideal S512x1024 .f32) : FVec Ideal S512x1024 .f32 :=
  addf (s := S512x1024) (φ := .f32) v57 (concatenate S512x1024 0 [⟨S256x1024, v28⟩, ⟨S256x1024, v56⟩] concatenates_S256x1024_S256x1024_S512x1024_d0)

theorem added_apply (v28 v56 : FVec Ideal S256x1024 .f32) (v57 : Vec Ideal S512x1024 .f32) (r : Fin 512) (e : Fin 1024) :
    added v28 v56 v57 (ix2 r e) = v57 (ix2 r e) + (if h : r.val < 256 then v28 (ix2 ⟨r.val, h⟩ e) else v56 (ix2 ⟨r.val - 256, by omega⟩ e)) := by
  pointwise [added]

/-- The norm of 512 rows. -/
def tail (u : FVec Ideal S512x1024 .f32) (g : Vec Ideal S1x1024 .f32) : FVec Ideal S512x1024 .f32 :=
  mulf (mulf u (broadcastTo S512x1024 (rsqrt (addf (divf (shapeCast S512x1 (multiReduction .add [1] S512 (mulf u u) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

theorem tail_apply (u : FVec Ideal S512x1024 .f32) (g : Vec Ideal S1x1024 .f32) (r : Fin 512) (d : Fin 1024) :
    tail u g (ix2 r d) = normed (fun e => u (ix2 r e)) (fun e => g (ix2 (0 : Fin 1) e)) d := by
  unfold normed
  pointwise [tail]

theorem pay1_eq (v28 : FVec Ideal S256x1024 .f32) (v47 : FVec Ideal S256x768 .bf16) (v48 : Vec Ideal S1x768x512 .i32) (v57 : Vec Ideal S512x1024 .f32) (v70 : Vec Ideal S1x1024 .f32) :
    k0_pay1 (F := Ideal) v28 v47 v48 v57 v70 = tail (added v28 (half v47 v48) v57) v70 := rfl

/-- 256 rows of the routing block, from row `o` on, at a row and a lane. -/
theorem ld2 (x2 : Vec Ideal S512x128 .f32) (off : Fin 2 → ℕ) (inb : ∀ a, off a + S256x128.size a ≤ S512x128.size a) (r' : Fin 256) (j : Fin 128)
    (r : Fin 512) (h : r.val = off 0 + r'.val) (h1 : off 1 = 0) :
    View.ld x2 (Rect.unit (s := S512x128) off S256x128.size inb) (ix2 r' j) = x2 (ix2 r j) :=
  View.ld_unit_apply_of x2 _ _ _ _ _ (fun a => match a with
    | ⟨0, _⟩ => h
    | ⟨1, _⟩ => by show j.val = off 1 + j.val; omega)

/-- Row `r` of a point's normed rows, from the point's blocks. -/
theorem rows_apply (x0 : Vec Ideal S512x1024 .f32) (x1 : Vec Ideal S2x768x512 .i32) (x2 : Vec Ideal S512x128 .f32) (x3 : Vec Ideal S1x1024 .f32)
    (r : Fin 512) (d : Fin 1024) :
    rows x0 x1 x2 x3 (ix2 r d)
      = normed (summed (fun e => x0 (ix2 r e))
          (weight (slot (x2 (ix2 r (4 : Fin 128)))) (slot (x2 (ix2 r (5 : Fin 128)))) (x2 (ix2 r (2 : Fin 128))) (x2 (ix2 r (3 : Fin 128))))
          (fun k l => x1 (ix3 (⟨r.val / 256, by omega⟩ : Fin 2) k l))) (fun e => x3 (ix2 (0 : Fin 1) e)) d := by
  unfold rows
  rw [pay1_eq, pay79_eq, tail_apply, View.ld_unit_zero (by funext a; fin_cases a <;> rfl), View.ld_unit_zero (by funext a; fin_cases a <;> rfl)]
  congr 1
  funext e
  rw [added_apply]
  unfold summed
  congr 1
  split
  next h =>
    rw [half_apply]
    refine Finset.sum_congr rfl fun k _ => ?_
    have hq : r.val / 256 = 0 := by omega
    rw [pay80_apply, ld2 x2 _ _ _ _ r (by show r.val = 0 + r.val; omega) rfl, ld2 x2 _ _ _ _ r (by show r.val = 0 + r.val; omega) rfl, ld2 x2 _ _ _ _ r (by show r.val = 0 + r.val; omega) rfl, ld2 x2 _ _ _ _ r (by show r.val = 0 + r.val; omega) rfl]
    congr 1
    refine congrArg (fun z => wide z e) (funext fun l => ?_)
    exact View.ld_unit_apply_of x1 _ _ _ _ _ (fun a => match a with
      | ⟨0, _⟩ => by show r.val / 256 = 0 + 0; omega
      | ⟨1, _⟩ => by show k.val = 0 + k.val; omega
      | ⟨2, _⟩ => by show l.val = 0 + l.val; omega)
  next h =>
    rw [half_apply]
    refine Finset.sum_congr rfl fun k _ => ?_
    rw [pay80_apply, ld2 x2 _ _ _ _ r (by show r.val = 256 + (r.val - 256); omega) rfl, ld2 x2 _ _ _ _ r (by show r.val = 256 + (r.val - 256); omega) rfl, ld2 x2 _ _ _ _ r (by show r.val = 256 + (r.val - 256); omega) rfl, ld2 x2 _ _ _ _ r (by show r.val = 256 + (r.val - 256); omega) rfl]
    congr 1
    refine congrArg (fun z => wide z e) (funext fun l => ?_)
    exact View.ld_unit_apply_of x1 _ _ _ _ _ (fun a => match a with
      | ⟨0, _⟩ => by show r.val / 256 = 1 + 0; omega
      | ⟨1, _⟩ => by show k.val = 0 + k.val; omega
      | ⟨2, _⟩ => by show l.val = 0 + l.val; omega)

end Cert.KernelIdeal.Fin

end
-- ==== Proof.FinValue.lean ====
/- What the last call's two result arrays hold after the run, at the extended reals. -/
module

public import proofs.«01_k».proof.Proof.FinDat
public import proofs.«01_k».proof.Proof.FinKer
public import Idealize.ShloMosaic.Lib.Pipeline.ValueKit.Basic
public import Idealize.ShloMosaic.Lib.StableHlo.Run

@[expose] public section

set_option maxRecDepth 16384

noncomputable section

namespace Cert.KernelIdeal.Fin

open Cert.KernelIdeal Cert.KernelIdeal.Gen Cert.Proof.Spec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The arguments as functions of plain coordinates. -/
abbrev in0 (c : Dev nD) (r : Fin 17920) (e : Fin 1024) : EReal := (m ((c : Thread nD τ).loc main_arg0) : S17920x1024.Idx → EReal) (ix2 r e)
abbrev in1 (c : Dev nD) (n : Fin 70) (k : Fin 768) (l : Fin 512) : BitVec 32 := (m ((c : Thread nD τ).loc main_arg1) : S70x768x512.Idx → BitVec 32) (ix3 n k l)
abbrev in2 (c : Dev nD) (r : Fin 17920) (j : Fin 128) : EReal := (m ((c : Thread nD τ).loc main_arg2) : S17920x128.Idx → EReal) (ix2 r j)
abbrev in3 (c : Dev nD) (e : Fin 1024) : EReal := (m ((c : Thread nD τ).loc main_arg3) : S1024.Idx → EReal) (ix1 e)

/-- The gain's row, as the region finds it. -/
theorem V_main_v0 (c : Dev nD) : V m c main_v0 = shapeCast S1x1024 (m ((c : Thread nD τ).loc main_arg3) : S1024.Idx → EReal) shapeCasts_S1024_S1x1024 := by
  show StableHlo.after hostOps0 (fun b => m (c, b)) (Proc.tc.devRef main_v0) = _
  after_results_simp
  rfl

theorem idx0_0 : ∀ t : Fin grid0.N, win0_0.index t 0 = t.val ∧ win0_0.index t 1 = 0 := by decide +kernel
theorem idx0_1 : ∀ t : Fin grid0.N, win0_1.index t 0 = t.val ∧ win0_1.index t 1 = 0 ∧ win0_1.index t 2 = 0 := by decide +kernel
theorem idx0_2 : ∀ t : Fin grid0.N, win0_2.index t 0 = t.val ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = 0 ∧ win0_4.index t 1 = min t.val 31 ∧ win0_4.index t 2 = 0 := by decide +kernel
theorem idx0_5 : ∀ t : Fin grid0.N, win0_5.index t 0 = t.val - 32 ∧ win0_5.index t 1 = 0 ∧ win0_5.index t 2 = 0 := by decide +kernel

theorem blk0 (c : Dev nD) (t : Fin cfg0.N) (r : Fin 512) (e : Fin 1024) (r' : Fin 17920) (h : r'.val = t.val * 512 + r.val) :
    (iblk m c 0 t : S512x1024.Idx → EReal) (ix2 r e) = in0 m c r' e := by
  unfold iblk
  show (V m c main_arg0) ((win0_0.rect t).emb (ix2 r e)) = _
  rw [V_main_arg0]
  refine congrArg _ (funext fun a => Fin.ext ?_)
  refine (Pipeline.Window.rect_emb_val win0_0 t _ a).trans ?_
  match a with
  | ⟨0, _⟩ => show win0_0.index t 0 * 512 + r.val = r'.val; rw [(idx0_0 t).1, h]
  | ⟨1, _⟩ => show win0_0.index t 1 * 1024 + e.val = e.val; rw [(idx0_0 t).2]; omega

theorem blk1 (c : Dev nD) (t : Fin cfg0.N) (n : Fin 2) (k : Fin 768) (l : Fin 512) (n' : Fin 70) (h : n'.val = t.val * 2 + n.val) :
    (iblk m c 1 t : S2x768x512.Idx → BitVec 32) (ix3 n k l) = in1 m c n' k l := by
  unfold iblk
  show (V m c main_arg1) ((win0_1.rect t).emb (ix3 n k l)) = _
  rw [V_main_arg1]
  refine congrArg _ (funext fun a => Fin.ext ?_)
  refine (Pipeline.Window.rect_emb_val win0_1 t _ a).trans ?_
  match a with
  | ⟨0, _⟩ => show win0_1.index t 0 * 2 + n.val = n'.val; rw [(idx0_1 t).1, h]
  | ⟨1, _⟩ => show win0_1.index t 1 * 768 + k.val = k.val; rw [(idx0_1 t).2.1]; omega
  | ⟨2, _⟩ => show win0_1.index t 2 * 512 + l.val = l.val; rw [(idx0_1 t).2.2]; omega

theorem blk2 (c : Dev nD) (t : Fin cfg0.N) (r : Fin 512) (j : Fin 128) (r' : Fin 17920) (h : r'.val = t.val * 512 + r.val) :
    (iblk m c 2 t : S512x128.Idx → EReal) (ix2 r j) = in2 m c r' j := by
  unfold iblk
  show (V m c main_arg2) ((win0_2.rect t).emb (ix2 r j)) = _
  rw [V_main_arg2]
  refine congrArg _ (funext fun a => Fin.ext ?_)
  refine (Pipeline.Window.rect_emb_val win0_2 t _ a).trans ?_
  match a with
  | ⟨0, _⟩ => show win0_2.index t 0 * 512 + r.val = r'.val; rw [(idx0_2 t).1, h]
  | ⟨1, _⟩ => show win0_2.index t 1 * 128 + j.val = j.val; rw [(idx0_2 t).2]; omega

theorem blk3 (c : Dev nD) (t : Fin cfg0.N) (e : Fin 1024) :
    (iblk m c 3 t : S1x1024.Idx → EReal) (ix2 (0 : Fin 1) e) = in3 m c e := by
  unfold iblk
  show (V m c main_v0) ((win0_3.rect t).emb (ix2 (0 : Fin 1) e)) = _
  rw [V_main_v0]
  have ee : (win0_3.rect t).emb (ix2 (0 : Fin 1) e) = (ix2 (0 : Fin 1) e : S1x1024.Idx) := by
    funext a
    apply Fin.ext
    refine (Pipeline.Window.rect_emb_val win0_3 t _ a).trans ?_
    match a with
    | ⟨0, _⟩ => show win0_3.index t 0 * 1 + 0 = 0; rw [(idx0_3 t).1]
    | ⟨1, _⟩ => show win0_3.index t 1 * 1024 + e.val = e.val; rw [(idx0_3 t).2]; omega
  rw [ee]
  exact shapeCast_apply _ _ _ (ix1 e) (by rw [Shape.rowMajor_val_two]; show _ = 0 * 1024 + e.val; simp [Shape.rowMajor_val_one, ix1])

/-- A point's normed rows are the launch's. -/
theorem rowsAt_apply (c : Dev nD) (t : Fin cfg0.N) (r : Fin 512) (d : Fin 1024) (r' : Fin 17408) (h : r'.val = t.val * 512 + r.val) :
    rowsAt m c t (ix2 r d) = out (in0 m c) (in1 m c) (in2 m c) (in3 m c) r' d := by
  unfold rowsAt out
  rw [rows_apply]
  have h2 (j : Fin 128) := blk2 m c t r j ⟨r'.val, by omega⟩ h
  have h0 (e : Fin 1024) := blk0 m c t r e ⟨r'.val, by omega⟩ h
  have h1 (k : Fin 768) (l : Fin 512) := blk1 m c t ⟨r.val / 256, by omega⟩ k l ⟨r'.val / 256, by omega⟩ (by show r'.val / 256 = t.val * 2 + r.val / 256; omega)
  have h3 (e : Fin 1024) := blk3 m c t e
  simp only [h0, h1, h2, h3]

/-- The prompt's result, -/
def val4 (c : Dev nD) : Buf (Elt Ideal) ((c : Thread nD τ).loc main_v1_0) := fun (j : S8x2048x1024.Idx) =>
  out (in0 m c) (in1 m c) (in2 m c) (in3 m c)
    ⟨8 * (j 1).val + (j 0).val, by have h0 : (j 0).val < 8 := (j 0).isLt; have h1 : (j 1).val < 2048 := (j 1).isLt; omega⟩ (j 2)

/-- and the samples'. -/
def val5 (c : Dev nD) : Buf (Elt Ideal) ((c : Thread nD τ).loc main_v1_1) := fun (j : S128x8x1024.Idx) =>
  out (in0 m c) (in1 m c) (in2 m c) (in3 m c)
    ⟨16384 + ((j 0).val / 64 * 512 + 64 * (j 1).val + (j 0).val % 64), by have h0 : (j 0).val < 128 := (j 0).isLt; have h1 : (j 1).val < 8 := (j 1).isLt; omega⟩ (j 2)

theorem flushed4 (c : Dev nD) (t : Fin cfg0.N) :
    (dats m 0 c).flushed 4 t = (win0_4.blk t).view.read (Elt Ideal) (val4 m c) := by
  show (cfg0.win 4).cut (grid0.coords t) ((dats m 0 c).after 4 t) = _
  rw [after0_4]
  funext (y : S8x64x1024.Idx)
  have y0 : (y 0).val < 8 := (y 0).isLt
  have y1 : (y 1).val < 64 := (y 1).isLt
  have e0 : (((win0_4.rect t).emb y) 0).val = win0_4.index t 0 * 8 + (y 0).val := Pipeline.Window.rect_emb_val win0_4 t y 0
  have e1 : (((win0_4.rect t).emb y) 1).val = win0_4.index t 1 * 64 + (y 1).val := Pipeline.Window.rect_emb_val win0_4 t y 1
  have e2 : (((win0_4.rect t).emb y) 2).val = win0_4.index t 2 * 1024 + (y 2).val := Pipeline.Window.rect_emb_val win0_4 t y 2
  rw [(idx0_4 t).1] at e0
  rw [(idx0_4 t).2.1] at e1
  rw [(idx0_4 t).2.2] at e2
  show prompt (rowsAt m c (lastPrompt t)) y = val4 m c ((win0_4.rect t).emb y)
  unfold prompt val4
  refine Eq.trans (congrArg _ (?_ : _ = ix2 (⟨8 * (y 1).val + (y 0).val, by omega⟩ : Fin 512) (⟨(y 2).val, (y 2).isLt⟩ : Fin 1024))) ?_
  · funext a; fin_cases a <;> rfl
  · refine (rowsAt_apply m c (lastPrompt t) _ _ ⟨8 * (((win0_4.rect t).emb y) 1).val + (((win0_4.rect t).emb y) 0).val, by rw [e0, e1]; omega⟩
      (by show 8 * (((win0_4.rect t).emb y) 1).val + (((win0_4.rect t).emb y) 0).val = min t.val 31 * 512 + (8 * (y 1).val + (y 0).val); rw [e0, e1]; omega)).trans ?_
    refine congrArg _ (Fin.ext ?_)
    show (y 2).val = (((win0_4.rect t).emb y) 2).val
    omega

theorem flushed5 (c : Dev nD) (t : Fin cfg0.N) (ht : 32 ≤ t.val) :
    (dats m 0 c).flushed 5 t = (win0_5.blk t).view.read (Elt Ideal) (val5 m c) := by
  have hN : cfg0.N = 34 := N_0
  have htN := t.isLt
  show (cfg0.win 5).cut (grid0.coords t) ((dats m 0 c).after 5 t) = _
  rw [after0_5]
  funext (y : S64x8x1024.Idx)
  have y0 : (y 0).val < 64 := (y 0).isLt
  have y1 : (y 1).val < 8 := (y 1).isLt
  have e0 : (((win0_5.rect t).emb y) 0).val = win0_5.index t 0 * 64 + (y 0).val := Pipeline.Window.rect_emb_val win0_5 t y 0
  have e1 : (((win0_5.rect t).emb y) 1).val = win0_5.index t 1 * 8 + (y 1).val := Pipeline.Window.rect_emb_val win0_5 t y 1
  have e2 : (((win0_5.rect t).emb y) 2).val = win0_5.index t 2 * 1024 + (y 2).val := Pipeline.Window.rect_emb_val win0_5 t y 2
  rw [(idx0_5 t).1] at e0
  rw [(idx0_5 t).2.1] at e1
  rw [(idx0_5 t).2.2] at e2
  show sample (rowsAt m c t) y = val5 m c ((win0_5.rect t).emb y)
  unfold sample val5
  refine Eq.trans (congrArg _ (?_ : _ = ix2 (⟨64 * (y 1).val + (y 0).val, by omega⟩ : Fin 512) (⟨(y 2).val, (y 2).isLt⟩ : Fin 1024))) ?_
  · funext a; fin_cases a <;> rfl
  · refine (rowsAt_apply m c t _ _ ⟨16384 + ((((win0_5.rect t).emb y) 0).val / 64 * 512 + 64 * (((win0_5.rect t).emb y) 1).val + (((win0_5.rect t).emb y) 0).val % 64), by rw [e0, e1]; omega⟩
      (by show 16384 + ((((win0_5.rect t).emb y) 0).val / 64 * 512 + 64 * (((win0_5.rect t).emb y) 1).val + (((win0_5.rect t).emb y) 0).val % 64) = t.val * 512 + (64 * (y 1).val + (y 0).val); rw [e0, e1]; omega)).trans ?_
    refine congrArg _ (Fin.ext ?_)
    show (y 2).val = (((win0_5.rect t).emb y) 2).val
    omega

theorem cover4 (i : S8x2048x1024.Idx) : ∃ t : Fin cfg0.N, (cfg0.win 4).flush t = true ∧ i ∈ ((cfg0.win 4).blk t).view.set := by
  have h0 : (i 0 : ℕ) < 8 := (i 0).isLt
  have h1 : (i 1 : ℕ) < 2048 := (i 1).isLt
  have h2 : (i 2 : ℕ) < 1024 := (i 2).isLt
  have hN : cfg0.N = 34 := N_0
  have ht : (if (i 1 : ℕ) / 64 < 31 then (i 1 : ℕ) / 64 else 33) < cfg0.N := by split <;> omega
  refine ⟨⟨_, ht⟩, (flush4 _).mpr (by show _ ∨ _; dsimp only; split <;> omega), ?_⟩
  show i ∈ ((View.whole main_v1_0).slice (win0_4.rect ⟨_, ht⟩)).set
  rw [View.set_slice_whole, Pipeline.Window.mem_rect_iff (w := win0_4)]
  have e := idx0_4 ⟨_, ht⟩
  intro a
  match a with
  | ⟨0, _⟩ => show win0_4.index ⟨_, ht⟩ 0 * 8 ≤ (i 0 : ℕ) ∧ (i 0 : ℕ) < win0_4.index ⟨_, ht⟩ 0 * 8 + 8; rw [e.1]; omega
  | ⟨1, _⟩ => show win0_4.index ⟨_, ht⟩ 1 * 64 ≤ (i 1 : ℕ) ∧ (i 1 : ℕ) < win0_4.index ⟨_, ht⟩ 1 * 64 + 64; rw [e.2.1]; dsimp only; split <;> omega
  | ⟨2, _⟩ => show win0_4.index ⟨_, ht⟩ 2 * 1024 ≤ (i 2 : ℕ) ∧ (i 2 : ℕ) < win0_4.index ⟨_, ht⟩ 2 * 1024 + 1024; rw [e.2.2]; omega

theorem cover5 (i : S128x8x1024.Idx) : ∃ t : Fin cfg0.N, (cfg0.win 5).flush t = true ∧ i ∈ ((cfg0.win 5).blk t).view.set := by
  have h0 : (i 0 : ℕ) < 128 := (i 0).isLt
  have h1 : (i 1 : ℕ) < 8 := (i 1).isLt
  have h2 : (i 2 : ℕ) < 1024 := (i 2).isLt
  have hN : cfg0.N = 34 := N_0
  have ht : 32 + (i 0 : ℕ) / 64 < cfg0.N := by omega
  refine ⟨⟨_, ht⟩, (flush5 _).mpr (by show 32 ≤ 32 + (i 0 : ℕ) / 64; omega), ?_⟩
  show i ∈ ((View.whole main_v1_1).slice (win0_5.rect ⟨_, ht⟩)).set
  rw [View.set_slice_whole, Pipeline.Window.mem_rect_iff (w := win0_5)]
  have e := idx0_5 ⟨_, ht⟩
  intro a
  match a with
  | ⟨0, _⟩ => show win0_5.index ⟨_, ht⟩ 0 * 64 ≤ (i 0 : ℕ) ∧ (i 0 : ℕ) < win0_5.index ⟨_, ht⟩ 0 * 64 + 64; rw [e.1]; dsimp only; omega
  | ⟨1, _⟩ => show win0_5.index ⟨_, ht⟩ 1 * 8 ≤ (i 1 : ℕ) ∧ (i 1 : ℕ) < win0_5.index ⟨_, ht⟩ 1 * 8 + 8; rw [e.2.1]; omega
  | ⟨2, _⟩ => show win0_5.index ⟨_, ht⟩ 2 * 1024 ≤ (i 2 : ℕ) ∧ (i 2 : ℕ) < win0_5.index ⟨_, ht⟩ 2 * 1024 + 1024; rw [e.2.2]; omega

theorem final4 (c : Dev nD) : (dats m 0 c).arrAt 4 cfg0.N = val4 m c :=
  (dats m 0 c).arrAt_eq_of_cover 4 (val4 m c) (fun t _ => flushed4 m c t) cover4

theorem final5 (c : Dev nD) : (dats m 0 c).arrAt 5 cfg0.N = val5 m c :=
  (dats m 0 c).arrAt_eq_of_cover 5 (val5 m c) (fun t ht => flushed5 m c t ((flush5 t).mp ht)) cover5

/-- The run, read: both results and the arguments unchanged. -/
theorem run : θ_run defs (onTc (τ := τ) (main (F := Ideal))) ⟨m, fun _ => 0, ρ⟩ fun r => ∀ c : Dev nD,
      r.2.mem ((c : Thread nD τ).loc main_v1_0) = val4 m c
      ∧ r.2.mem ((c : Thread nD τ).loc main_v1_1) = val5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Fin

end
-- ==== Proof.FinWord.lean ====
/- A bf16's bits above sixteen zero bits are the f32 of the same value. -/
module

public import proofs.«01_k».proof.Proof.FinSpec

@[expose] public section

noncomputable section

namespace Cert.Proof.Spec

open Idealize.ShloMosaic

/-- A half word in the upper half of a word. -/
def raised (h : BitVec 16) : BitVec 32 := h.setWidth 32 <<< 16

theorem raised_toNat (h : BitVec 16) : (raised h).toNat = h.toNat * 65536 := by
  have := h.isLt
  unfold raised
  rw [BitVec.toNat_shiftLeft, BitVec.toNat_setWidth, Nat.shiftLeft_eq]
  omega

/-- The lower half shifted up, -/
theorem shifted (w : BitVec 32) : w <<< 16 = raised (w.extractLsb' (0 * 16) 16) := by
  apply BitVec.eq_of_toNat_eq
  rw [raised_toNat, BitVec.toNat_shiftLeft, BitVec.extractLsb'_toNat, Nat.shiftLeft_eq]
  simp only [Nat.zero_mul, Nat.shiftRight_zero]
  have := w.isLt
  omega

/-- and the upper half with the lower masked off. -/
theorem masked (w : BitVec 32) : w &&& 4294901760#32 = raised (w.extractLsb' (1 * 16) 16) := by
  have e : (4294901760#32 : BitVec 32) = (BitVec.allOnes 16).setWidth 32 <<< 16 := by decide
  rw [e]
  unfold raised
  apply BitVec.eq_of_getLsbD_eq
  intro i hi
  simp only [BitVec.getLsbD_and, BitVec.getLsbD_shiftLeft, BitVec.getLsbD_setWidth, BitVec.getLsbD_extractLsb', BitVec.getLsbD_allOnes]
  by_cases h : i < 16
  · simp [h]
  · have e1 : 1 * 16 + (i - 16) = i := by omega
    have e2 : i - 16 < 16 := by omega
    have e3 : i - 16 < 32 := by omega
    simp [h, e2, e3, hi, show 16 + (i - 16) = i by omega]

/-- Sixteen more fraction bits. -/
theorem step (z : ℤ) : (2 : ℝ) ^ (z - ((7 : ℕ) : ℤ)) = (2 : ℝ) ^ (z - ((23 : ℕ) : ℤ)) * 65536 := by
  have e : z - ((7 : ℕ) : ℤ) = (z - ((23 : ℕ) : ℤ)) + 16 := by push_cast; ring
  rw [e, zpow_add₀ (by norm_num)]
  norm_num

theorem ieee_raised (h : BitVec 16) : Ideal.ieee 8 23 (raised h) = Ideal.ieee 8 7 h := by
  have h0 := raised_toNat h
  have hs : (raised h).extractLsb' (8 + 23) 1 = h.extractLsb' (8 + 7) 1 := by
    apply BitVec.eq_of_toNat_eq
    rw [BitVec.extractLsb'_toNat, BitVec.extractLsb'_toNat, h0, Nat.shiftRight_eq_div_pow, Nat.shiftRight_eq_div_pow]
    omega
  have hx : ((raised h).extractLsb' 23 8).toNat = (h.extractLsb' 7 8).toNat := by
    rw [BitVec.extractLsb'_toNat, BitVec.extractLsb'_toNat, h0, Nat.shiftRight_eq_div_pow, Nat.shiftRight_eq_div_pow]
    omega
  have hf : ((raised h).extractLsb' 0 23).toNat = (h.extractLsb' 0 7).toNat * 65536 := by
    rw [BitVec.extractLsb'_toNat, BitVec.extractLsb'_toNat, h0, Nat.shiftRight_zero, Nat.shiftRight_zero]
    omega
  unfold Ideal.ieee
  dsimp only
  rw [hs, hx, hf]
  generalize (h.extractLsb' 7 8).toNat = ex
  generalize (h.extractLsb' 0 7).toNat = fr
  generalize (if (h.extractLsb' (8 + 7) 1 == 1#1) = true then (-1 : ℝ) else 1) = sg
  have hfr : fr * 65536 = 0 ↔ fr = 0 := by omega
  simp only [hfr]
  split
  · rfl
  · split
    · refine congrArg (fun x : ℝ => (x : EReal)) ?_
      rw [step]
      generalize (2 : ℝ) ^ (_ - ((23 : ℕ) : ℤ)) = q
      push_cast
      ring
    · refine congrArg (fun x : ℝ => (x : EReal)) ?_
      rw [step]
      generalize (2 : ℝ) ^ (_ - ((23 : ℕ) : ℤ)) = q
      push_cast
      ring

/-- The word's lower half read as the reference reads it, -/
theorem low_part (w : BitVec 32) : Ideal.ofBits .f32 (w <<< 16) = part 0 w := by
  rw [shifted]; exact ieee_raised _

/-- and its upper half. -/
theorem high_part (w : BitVec 32) : Ideal.ofBits .f32 (w &&& 4294901760#32) = part 1 w := by
  rw [masked]; exact ieee_raised _

end Cert.Proof.Spec

end
-- ==== Proof.FinRef.lean ====
/- The reference's norm of the combined rows, read at an index. -/
module

public import proofs.«01_k».proof.Proof.FinSpec
public import proofs.«01_k».proof.Proof.FinWord
public import proofs.«01_k».proof.Proof.Gen.ReferenceIdeal.Read
public import Idealize.ShloMosaic.Lib.KernelVsHost
public import Idealize.ShloMosaic.Lib.Pointwise
public import Idealize.ShloMosaic.Lib.WordCmp

@[expose] public section

set_option maxRecDepth 16384

noncomputable section

namespace Cert.ReferenceIdeal.Fin

open Cert.ReferenceIdeal Cert.ReferenceIdeal.Read Cert.Proof.Spec
open Idealize.ShloMosaic

/-- Two one-hot rows times their gates, summed, are the two choices' weight when the choices differ. -/
theorem two_choices (p1 p2 : BitVec 32) (q1 q2 : EReal) (k : Fin 768) (hne : p1 ≠ p2) :
    FloatOps.ofBits (F := Ideal) .f32 0#32 +
      (FloatOps.mulf (F := Ideal) (φ := .f32) (FloatOps.uitofp .f32 (IntOp.cmpi .eq p1 (BitVec.ofNat 32 k.val))) q1
        + FloatOps.mulf (F := Ideal) (φ := .f32) (FloatOps.uitofp .f32 (IntOp.cmpi .eq p2 (BitVec.ofNat 32 k.val))) q2)
      = weight p1 p2 q1 q2 k := by
  have hz : FloatOps.ofBits (F := Ideal) .f32 0#32 = (0 : EReal) := Ideal.ofBits_zero_f32
  have hb (p : BitVec 32) : FloatOps.uitofp (F := Ideal) .f32 (IntOp.cmpi .eq p (BitVec.ofNat 32 k.val)) = if BitVec.ofNat 32 k.val = p then (1 : EReal) else 0 := by
    show (((IntOp.cmpi .eq p (BitVec.ofNat 32 k.val)).toNat : ℝ) : EReal) = _
    rw [WordCmp.cmpi_eq_eq]
    by_cases h : BitVec.ofNat 32 k.val = p
    · simp [h]
    · have h' : ¬ p = BitVec.ofNat 32 k.val := fun e => h e.symm
      simp [h, h']
  rw [hz, zero_add, hb, hb]
  show (if _ then (1 : EReal) else 0) * q1 + (if _ then (1 : EReal) else 0) * q2 = _
  unfold weight
  by_cases h1 : BitVec.ofNat 32 k.val = p1
  · have h2 : ¬ BitVec.ofNat 32 k.val = p2 := fun e => hne (h1.symm.trans e)
    rw [if_pos h1, if_pos h1, if_neg h2, one_mul, zero_mul, add_zero]
  · rw [if_neg h1, if_neg h1, zero_mul, zero_add]
    by_cases h2 : BitVec.ofNat 32 k.val = p2
    · rw [if_pos h2, if_pos h2, one_mul]
    · rw [if_neg h2, if_neg h2, zero_mul]

/-- A row's weight of a slot: the one-hot rows times their gates, summed. -/
theorem weights (x2 : FVec Ideal S17920x128 .f32) (r : Fin 17408) (k : Fin 768)
    (hne : slot (x2 (ix2 (⟨r.val, by omega⟩ : Fin 17920) (4 : Fin 128))) ≠ slot (x2 (ix2 (⟨r.val, by omega⟩ : Fin 17920) (5 : Fin 128)))) :
    val_main_v16 (F := Ideal) x2 (ix2 r k)
      = weight (slot (x2 (ix2 (⟨r.val, by omega⟩ : Fin 17920) (4 : Fin 128)))) (slot (x2 (ix2 (⟨r.val, by omega⟩ : Fin 17920) (5 : Fin 128))))
          (x2 (ix2 (⟨r.val, by omega⟩ : Fin 17920) (2 : Fin 128))) (x2 (ix2 (⟨r.val, by omega⟩ : Fin 17920) (3 : Fin 128))) k := by
  rw [val_main_v16_apply, Fin.sum_univ_two]
  simp only [val_main_v15_apply, val_main_v12_apply, val_main_v14_apply, val_main_v13_apply, val_main_v9_apply, val_main_call0_v4_apply, val_main_call0_v3_apply, val_main_call0_v2_apply,
    val_main_call0_v1_apply, val_main_call0_v0_apply, val_main_v11_apply, val_main_v10_apply, val_main_cst_apply]
  have e4 : idx_main_v10 (idx_main_call0_v0 (idx_main_call0_v2 (idx_main_v16 (ix2 r k) 0))) = ix2 (⟨r.val, by omega⟩ : Fin 17920) (4 : Fin 128) := by funext a; fin_cases a <;> rfl
  have e5 : idx_main_v10 (idx_main_call0_v0 (idx_main_call0_v2 (idx_main_v16 (ix2 r k) 1))) = ix2 (⟨r.val, by omega⟩ : Fin 17920) (5 : Fin 128) := by funext a; fin_cases a <;> rfl
  have e2 : idx_main_v9 (idx_main_v13 (idx_main_v14 (idx_main_v16 (ix2 r k) 0))) = ix2 (⟨r.val, by omega⟩ : Fin 17920) (2 : Fin 128) := by funext a; fin_cases a <;> rfl
  have e3 : idx_main_v9 (idx_main_v13 (idx_main_v14 (idx_main_v16 (ix2 r k) 1))) = ix2 (⟨r.val, by omega⟩ : Fin 17920) (3 : Fin 128) := by funext a; fin_cases a <;> rfl
  rw [e2, e3, e4, e5]
  exact two_choices _ _ _ _ k hne

/-- The wide rows: the lower halves, then the upper. -/
theorem wides (x1 : IVec S70x768x512 32) (n : Fin 68) (k : Fin 768) (e : Fin 1024) :
    val_main_v8 (F := Ideal) x1 (ix3 n k e) = wide (fun l => x1 (ix3 (⟨n.val, by omega⟩ : Fin 70) k l)) e := by
  unfold val_main_v8 wide
  split
  next h =>
    refine (concatenate_pair_apply_left (s₁ := S68x768x512) (s₂ := S68x768x512) (t := S68x768x1024) (2 : Fin 3) (val_main_v3 (F := Ideal) x1) (val_main_v7 (F := Ideal) x1) _ _ rfl (ix3 n k (⟨e.val, h⟩ : Fin 512)) (fun b => by fin_cases b <;> rfl)).trans ?_
    rw [val_main_v3_apply, val_main_v2_apply, val_main_v1_apply, val_main_c_apply, val_main_v0_apply]
    have ei : idx_main_v0 (ix3 n k (⟨e.val, h⟩ : Fin 512)) = ix3 (⟨n.val, by omega⟩ : Fin 70) k (⟨e.val, h⟩ : Fin 512) := by funext a; fin_cases a <;> rfl
    rw [ei]
    exact low_part _
  next h =>
    refine (concatenate_pair_apply_right (s₁ := S68x768x512) (s₂ := S68x768x512) (t := S68x768x1024) (2 : Fin 3) (val_main_v3 (F := Ideal) x1) (val_main_v7 (F := Ideal) x1) _ _ rfl rfl (ix3 n k (⟨e.val - 512, by omega⟩ : Fin 512)) (fun b hb => by fin_cases b <;> first | rfl | exact absurd rfl hb) (by show e.val - 512 + 512 = e.val; omega)).trans ?_
    rw [val_main_v7_apply, val_main_v6_apply, val_main_v5_apply, val_main_c_0_apply, val_main_v4_apply]
    have ei : idx_main_v4 (ix3 n k (⟨e.val - 512, by omega⟩ : Fin 512)) = ix3 (⟨n.val, by omega⟩ : Fin 70) k (⟨e.val - 512, by omega⟩ : Fin 512) := by funext a; fin_cases a <;> rfl
    rw [ei]
    exact high_part _

/-- The combined rows. -/
theorem sums (x0 : FVec Ideal S17920x1024 .f32) (x1 : IVec S70x768x512 32) (x2 : FVec Ideal S17920x128 .f32) (r : Fin 17408) (e : Fin 1024)
    (hne : slot (x2 (ix2 (⟨r.val, by omega⟩ : Fin 17920) (4 : Fin 128))) ≠ slot (x2 (ix2 (⟨r.val, by omega⟩ : Fin 17920) (5 : Fin 128)))) :
    val_main_v21 (F := Ideal) x0 x1 x2 (ix2 r e)
      = summed (fun e => x0 (ix2 (⟨r.val, by omega⟩ : Fin 17920) e))
    (weight (slot (x2 (ix2 (⟨r.val, by omega⟩ : Fin 17920) (4 : Fin 128)))) (slot (x2 (ix2 (⟨r.val, by omega⟩ : Fin 17920) (5 : Fin 128))))
      (x2 (ix2 (⟨r.val, by omega⟩ : Fin 17920) (2 : Fin 128))) (x2 (ix2 (⟨r.val, by omega⟩ : Fin 17920) (3 : Fin 128))))
    (fun k l => x1 (ix3 (⟨r.val / 256, by omega⟩ : Fin 70) k l)) e := by
  have hr := r.isLt
  have he := e.isLt
  rw [val_main_v21_apply, val_main_v20_apply, val_main_v19_apply, val_main_v18_apply]
  unfold summed
  refine congrArg₂ (· + ·) (congrArg x0 (funext fun a => by fin_cases a <;> rfl)) (Finset.sum_congr rfl fun k _ => ?_)
  have hk := k.isLt
  rw [val_main_v17_apply]
  refine congrArg₂ (· * ·) (Eq.trans (congrArg _ (?_ : _ = ix2 r k)) (weights x2 r k hne)) (Eq.trans (congrArg _ (?_ : _ = ix3 (⟨r.val / 256, by omega⟩ : Fin 68) k e)) (wides x1 ⟨r.val / 256, by omega⟩ k e))
  · funext a
    match a with
    | ⟨0, _⟩ => apply Fin.ext; show (((r.val * 1024 + e.val) / 262144 * 256 + (r.val * 1024 + e.val) / 1024 % 256) * 768 + k.val) / 768 = r.val; omega
    | ⟨1, _⟩ => apply Fin.ext; show (((r.val * 1024 + e.val) / 262144 * 256 + (r.val * 1024 + e.val) / 1024 % 256) * 768 + k.val) % 768 = k.val; omega
  · funext a
    match a with
    | ⟨0, _⟩ => apply Fin.ext; show (r.val * 1024 + e.val) / 262144 = r.val / 256; omega
    | ⟨1, _⟩ => rfl
    | ⟨2, _⟩ => apply Fin.ext; show (r.val * 1024 + e.val) % 1024 = e.val; omega

/-- The normed rows. -/
theorem outs (x0 : FVec Ideal S17920x1024 .f32) (x1 : IVec S70x768x512 32) (x2 : FVec Ideal S17920x128 .f32) (x3 : FVec Ideal S1024 .f32) (r : Fin 17408) (d : Fin 1024)
    (hne : slot (x2 (ix2 (⟨r.val, by omega⟩ : Fin 17920) (4 : Fin 128))) ≠ slot (x2 (ix2 (⟨r.val, by omega⟩ : Fin 17920) (5 : Fin 128)))) :
    val_main_v34 (F := Ideal) x0 x1 x2 x3 (ix2 r d) = out (fun r e => x0 (ix2 r e)) (fun n k l => x1 (ix3 n k l)) (fun r j => x2 (ix2 r j)) (fun e => x3 (ix1 e)) r d := by
  unfold out normed
  simp only [val_main_v34_apply, val_main_v33_apply, val_main_v32_apply, val_main_v31_apply, val_main_v30_apply, val_main_v29_apply, val_main_v28_apply, val_main_v27_apply,
    val_main_cst_3_apply, val_main_v26_apply, val_main_v25_apply, val_main_cst_2_apply, val_main_v24_apply, val_main_v23_apply, val_main_v22_apply, val_main_cst_1_apply]
  simp only [← sums x0 x1 x2 r _ hne]
  have e1 (k : Fin 1024) : idx_main_v23 (idx_main_v24 (idx_main_v30 (ix2 r d))) k = ix2 r k := by funext a; fin_cases a <;> rfl
  have e2 : idx_main_v32 (idx_main_v33 (ix2 r d)) = ix1 d := by funext a; fin_cases a; rfl
  have hz : FloatOps.ofBits (F := Ideal) .f32 0#32 = (0 : EReal) := Ideal.ofBits_zero_f32
  simp only [e1, e2, hz, zero_add]
  rfl

end Cert.ReferenceIdeal.Fin

end
-- ==== Proof.FinAlg.lean ====
/- The last call computes the reference's two results over the extended reals, where a token's two slots differ. -/
module

public import proofs.«01_k».proof.Defs
public import proofs.«01_k».proof.Proof.FinValue
public import proofs.«01_k».proof.Proof.FinRef
public import proofs.«01_k».proof.Proof.Gen.Pre_distinct_slots
public import Idealize.ShloMosaic.Lib.ReduceAll

@[expose] public section

set_option maxRecDepth 16384

noncomputable section

namespace Cert.Proof.Fin

open Idealize.ShloMosaic Idealize.ShloMosaic.TcCoe Idealize.SL.Sem Cert.Proof.Spec
open Cert.KernelIdeal.Fin (in0 in1 in2 in3 val4 val5)

/-- The precondition, read: the two slots of every row differ. -/
theorem slots_ne (x0 : FVec Ideal Cert.Pre_distinct_slots.S17920x1024 .f32) (x1 : IVec Cert.Pre_distinct_slots.S70x768x512 32) (x2 : FVec Ideal Cert.Pre_distinct_slots.S17920x128 .f32) (x3 : FVec Ideal Cert.Pre_distinct_slots.S1024 .f32)
    (h : Cert.Pre_distinct_slots.fn (F := Ideal) x0 x1 x2 x3 = fun _ => 1#1) (r : Fin 17408) :
    slot (x2 (ix2 (⟨r.val, by omega⟩ : Fin 17920) (4 : Fin 128))) ≠ slot (x2 (ix2 (⟨r.val, by omega⟩ : Fin 17920) (5 : Fin 128))) := by
  haveI : Subsingleton Cert.Pre_distinct_slots.S_.Idx := ⟨fun a b => funext fun k => k.elim0⟩
  have e := Host.reduce_andi_all _ _ _ _ (fun k => k.elim0) (congrFun h (fun k => k.elim0)) (ix1 r)
  have e4 : shapeCast Cert.Pre_distinct_slots.S17408 (extractStridedSlice Cert.Pre_distinct_slots.S17408x1 ![0, 4] x2 Cert.Pre_distinct_slots.Facts.slices_S17920x128_S17408x1_0_4) Cert.Pre_distinct_slots.Facts.shapeCasts_S17408x1_S17408 (ix1 r)
      = x2 (ix2 (⟨r.val, by omega⟩ : Fin 17920) (4 : Fin 128)) := by
    pointwise
  have e5 : shapeCast Cert.Pre_distinct_slots.S17408 (extractStridedSlice Cert.Pre_distinct_slots.S17408x1 ![0, 5] x2 Cert.Pre_distinct_slots.Facts.slices_S17920x128_S17408x1_0_5) Cert.Pre_distinct_slots.Facts.shapeCasts_S17408x1_S17408 (ix1 r)
      = x2 (ix2 (⟨r.val, by omega⟩ : Fin 17920) (5 : Fin 128)) := by
    pointwise
  rw [← e4, ← e5]
  exact IntOp.cmpi_ne.mp e

/-- The prompt's rows are the reference's, -/
theorem prompt_eq (x0 : FVec Ideal Cert.ReferenceIdeal.S17920x1024 .f32) (x1 : IVec Cert.ReferenceIdeal.S70x768x512 32) (x2 : FVec Ideal Cert.ReferenceIdeal.S17920x128 .f32) (x3 : FVec Ideal Cert.ReferenceIdeal.S1024 .f32)
    (hne : ∀ r : Fin 17408, slot (x2 (ix2 (⟨r.val, by omega⟩ : Fin 17920) (4 : Fin 128))) ≠ slot (x2 (ix2 (⟨r.val, by omega⟩ : Fin 17920) (5 : Fin 128))))
    (j : Cert.ReferenceIdeal.S8x2048x1024.Idx) :
    Cert.ReferenceIdeal.Read.val_main_v37 (F := Ideal) x0 x1 x2 x3 j
      = out (fun r e => x0 (ix2 r e)) (fun n k l => x1 (ix3 n k l)) (fun r j => x2 (ix2 r j)) (fun e => x3 (ix1 e))
          ⟨8 * (j 1).val + (j 0).val, by have h0 : (j 0).val < 8 := (j 0).isLt; have h1 : (j 1).val < 2048 := (j 1).isLt; omega⟩ (j 2) := by
  have h0 : (j 0).val < 8 := (j 0).isLt
  have h1 : (j 1).val < 2048 := (j 1).isLt
  have h2 : (j 2).val < 1024 := (j 2).isLt
  rw [Cert.ReferenceIdeal.Read.val_main_v37_apply, Cert.ReferenceIdeal.Read.val_main_v36_apply, Cert.ReferenceIdeal.Read.val_main_v35_apply]
  refine Eq.trans (congrArg _ (?_ : _ = ix2 (⟨8 * (j 1).val + (j 0).val, by omega⟩ : Fin 17408) (⟨(j 2).val, h2⟩ : Fin 1024))) (Cert.ReferenceIdeal.Fin.outs x0 x1 x2 x3 _ _ (hne _))
  funext a
  match a with
  | ⟨0, _⟩ => apply Fin.ext; show (((j 1).val * 8 + (j 0).val) * 1024 + (j 2).val) / 1024 = 8 * (j 1).val + (j 0).val; omega
  | ⟨1, _⟩ => apply Fin.ext; show (((j 1).val * 8 + (j 0).val) * 1024 + (j 2).val) % 1024 = (j 2).val; omega

/-- and so are the samples'. -/
theorem sample_eq (x0 : FVec Ideal Cert.ReferenceIdeal.S17920x1024 .f32) (x1 : IVec Cert.ReferenceIdeal.S70x768x512 32) (x2 : FVec Ideal Cert.ReferenceIdeal.S17920x128 .f32) (x3 : FVec Ideal Cert.ReferenceIdeal.S1024 .f32)
    (hne : ∀ r : Fin 17408, slot (x2 (ix2 (⟨r.val, by omega⟩ : Fin 17920) (4 : Fin 128))) ≠ slot (x2 (ix2 (⟨r.val, by omega⟩ : Fin 17920) (5 : Fin 128))))
    (j : Cert.ReferenceIdeal.S128x8x1024.Idx) :
    Cert.ReferenceIdeal.Read.val_main_v41 (F := Ideal) x0 x1 x2 x3 j
      = out (fun r e => x0 (ix2 r e)) (fun n k l => x1 (ix3 n k l)) (fun r j => x2 (ix2 r j)) (fun e => x3 (ix1 e))
          ⟨16384 + ((j 0).val / 64 * 512 + 64 * (j 1).val + (j 0).val % 64), by have h0 : (j 0).val < 128 := (j 0).isLt; have h1 : (j 1).val < 8 := (j 1).isLt; omega⟩ (j 2) := by
  have h0 : (j 0).val < 128 := (j 0).isLt
  have h1 : (j 1).val < 8 := (j 1).isLt
  have h2 : (j 2).val < 1024 := (j 2).isLt
  rw [Cert.ReferenceIdeal.Read.val_main_v41_apply, Cert.ReferenceIdeal.Read.val_main_v40_apply, Cert.ReferenceIdeal.Read.val_main_v39_apply, Cert.ReferenceIdeal.Read.val_main_v38_apply]
  refine Eq.trans (congrArg _ (?_ : _ = ix2 (⟨16384 + ((j 0).val / 64 * 512 + 64 * (j 1).val + (j 0).val % 64), by omega⟩ : Fin 17408) (⟨(j 2).val, h2⟩ : Fin 1024))) (Cert.ReferenceIdeal.Fin.outs x0 x1 x2 x3 _ _ (hne _))
  have q0 : (((j 0).val * 8 + (j 1).val) * 1024 + (j 2).val) / 524288 = (j 0).val / 64 := by omega
  have q1 : (((j 0).val * 8 + (j 1).val) * 1024 + (j 2).val) / 8192 % 64 = (j 0).val % 64 := by omega
  have q2 : (((j 0).val * 8 + (j 1).val) * 1024 + (j 2).val) / 1024 % 8 = (j 1).val := by omega
  have q3 : (((j 0).val * 8 + (j 1).val) * 1024 + (j 2).val) % 1024 = (j 2).val := by omega
  funext a
  match a with
  | ⟨0, _⟩ =>
    apply Fin.ext
    show 16384 + (((((((j 0).val * 8 + (j 1).val) * 1024 + (j 2).val) / 524288) * 8 + ((((j 0).val * 8 + (j 1).val) * 1024 + (j 2).val) / 1024 % 8)) * 64 + ((((j 0).val * 8 + (j 1).val) * 1024 + (j 2).val) / 8192 % 64)) * 1024 + ((((j 0).val * 8 + (j 1).val) * 1024 + (j 2).val) % 1024)) / 1024 = 16384 + ((j 0).val / 64 * 512 + 64 * (j 1).val + (j 0).val % 64)
    rw [q0, q1, q2, q3]; omega
  | ⟨1, _⟩ =>
    apply Fin.ext
    show (((((((j 0).val * 8 + (j 1).val) * 1024 + (j 2).val) / 524288) * 8 + ((((j 0).val * 8 + (j 1).val) * 1024 + (j 2).val) / 1024 % 8)) * 64 + ((((j 0).val * 8 + (j 1).val) * 1024 + (j 2).val) / 8192 % 64)) * 1024 + ((((j 0).val * 8 + (j 1).val) * 1024 + (j 2).val) % 1024)) % 1024 = (j 2).val
    rw [q0, q1, q2, q3]; omega

/-- The two programs compute the same two arrays. -/
theorem algebraic : Cert.algebraic_KernelIdeal_ReferenceIdeal_pre_distinct_slots (hKernelIdeal := Cert.KernelIdeal.Gen.facts) (hReferenceIdeal := Cert.ReferenceIdeal.Gen.facts) (hPre_distinct_slots := Cert.Pre_distinct_slots.Gen.facts) := by
  intro m ρ m' ρ' hpre hagree
  have hne (c : Dev Cert.KernelIdeal.nD) := slots_ne _ _ _ _ (hpre c)
  refine ⟨fun c => val4 m c, fun c => val5 m c, Cert.KernelIdeal.Fin.run m ρ, ?_⟩
  refine (θ_run Cert.ReferenceIdeal.defs _ _).mono (fun _ h c => ⟨(h c).1.trans ?_, (h c).2.1.trans ?_, (h c).2.2⟩) (Cert.ReferenceIdeal.Value.run (F := Ideal) m' ρ')
  · rw [Cert.ReferenceIdeal.Read.val_main_v37_eq]
    obtain ⟨a0, a1, a2, a3⟩ := hagree c
    rw [a0, a1, a2, a3]
    exact funext fun j => prompt_eq _ _ _ _ (hne c) j
  · rw [Cert.ReferenceIdeal.Read.val_main_v41_eq]
    obtain ⟨a0, a1, a2, a3⟩ := hagree c
    rw [a0, a1, a2, a3]
    exact funext fun j => sample_eq _ _ _ _ (hne c) j

end Cert.Proof.Fin

end
-- ==== Proof.ExpKit.lean ====
/- The expert call's tables, weights scratch and blocks: what its launch is stated over. -/
module

public import proofs.«01_k».proof.Proof.Gen.Kernel2Ideal.Skeleton
public import proofs.«01_k».proof.Proof.Gen.Kernel2Ideal.Launch
public import Idealize.ShloMosaic.Lib.Pipeline.Value
public import Idealize.ShloMosaic.Lib.Pipeline.FrameBody
public import Idealize.ShloMosaic.Lib.Pipeline.Frame
public import Idealize.ShloMosaic.Lib.Ring
public import Idealize.ShloMosaic.Lib.WordCmp
public import Idealize.ShloMosaic.Lib.Tactic

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three tables and the two scratch buffers, as the body is handed them. -/
abbrev tb0 : Memref sig .tc .smem S172 .i32 := Memref.whole main_v13
abbrev tb1 : Memref sig .tc .smem S172 .i32 := Memref.whole main_v22
abbrev tb2 : Memref sig .tc .smem S1 .i32 := Memref.whole main_v8
abbrev sc0 : Memref sig .tc .vmem S1024x512 .bf16 := Memref.whole cc0_scratch0
abbrev sc1 : Memref sig .tc .vmem S256x1024 .bf16 := Memref.whole cc0_scratch1

/-- The words the body reads: the number of active tiles, this tile's expert and the expert of the tile before. -/
abbrev nact (T2 : S1.Idx → Elt F .i32) : Elt F .i32 :=
  View.readAt (Elt F) tb2.view (Rect.unit (s := S1) ![0] S1.size inb_S1_S1_0).toLoadRect T2 (Shape.Idx.first (numel1_S1.symm ▸ Nat.one_pos))
abbrev exNow (T1 : S172.Idx → Elt F .i32) (i : grid0.Coords) : Elt F .i32 :=
  View.readAt (Elt F) tb1.view (Rect.unit (s := S172) (k0_off1 i) S1.size (k0_off1_inb i)).toLoadRect T1 (Shape.Idx.first (numel1_S1.symm ▸ Nat.one_pos))
abbrev exPrev (T1 : S172.Idx → Elt F .i32) (i : grid0.Coords) : Elt F .i32 :=
  View.readAt (Elt F) tb1.view (Rect.unit (s := S172) (k0_off2 i) S1.size (k0_off2_inb i)).toLoadRect T1 (Shape.Idx.first (numel1_S1.symm ▸ Nat.one_pos))

/-- The decision to load an expert's weights: an active tile, the first or of another expert than the tile before. -/
abbrev reload (T1 : S172.Idx → Elt F .i32) (T2 : S1.Idx → Elt F .i32) (i : grid0.Coords) : BitVec 1 :=
  Scalar.cmpi .ne (Scalar.extui (Scalar.andi (Scalar.cmpi .slt (BitVec.ofNat 32 (i 0).val) (nact (F := F) T2))
    (Scalar.ori (Scalar.cmpi .eq (BitVec.ofNat 32 (i 0).val) 0#32) (Scalar.cmpi .ne (exNow (F := F) T1 i) (exPrev (F := F) T1 i))))) 0#32

/-- Gate and up weights side by side, as the first scratch holds them. -/
def cat (x2 x3 : Vec F S1x1024x256 .f32) : FVec F S1024x512 .bf16 := fun j =>
  if h : (j (1 : Fin 2)).val < 256 then
    k0_pay1 x2 (fun a => match a with
      | ⟨0, _⟩ => ⟨(j (0 : Fin 2)).val, (j (0 : Fin 2)).isLt⟩
      | ⟨1, _⟩ => ⟨(j (1 : Fin 2)).val, h⟩)
  else
    k0_pay2 x3 (fun a => match a with
      | ⟨0, _⟩ => ⟨(j (0 : Fin 2)).val, (j (0 : Fin 2)).isLt⟩
      | ⟨1, _⟩ => ⟨(j (1 : Fin 2)).val - 256, by have h1 : (j (1 : Fin 2)).val < 512 := (j (1 : Fin 2)).isLt; show _ < 256; omega⟩)

/-- The two halves written, the scratch holds them side by side. -/
theorem canon_cat (x2 x3 : Vec F S1x1024x256 .f32) (y : S1024x512.Idx)
    (hy : ∃ p ∈ ([⟨Rect.unit (s := S1024x512) ![0, 256] S1024x256.size inb_S1024x512_S1024x256_0_256, k0_pay2 x3⟩,
        ⟨Rect.unit (s := S1024x512) ![0, 0] S1024x256.size inb_S1024x512_S1024x256_0_0, k0_pay1 x2⟩] : List (View.Piece (Elt F) S1024x512 .bf16)), y ∈ p.1.set) :
    View.canon ([⟨Rect.unit (s := S1024x512) ![0, 256] S1024x256.size inb_S1024x512_S1024x256_0_256, k0_pay2 x3⟩,
        ⟨Rect.unit (s := S1024x512) ![0, 0] S1024x256.size inb_S1024x512_S1024x256_0_0, k0_pay1 x2⟩] : List (View.Piece (Elt F) S1024x512 .bf16)) y = cat x2 x3 y := by
  refine View.canon_apply_of_pieces (cat x2 x3) _ ?_ y hy
  refine List.forall_mem_cons.mpr ⟨fun x => ?_, List.forall_mem_cons.mpr ⟨fun x => ?_, fun p hp => absurd hp List.not_mem_nil⟩⟩
  · have h1 : (x (1 : Fin 2)).val < 256 := (x (1 : Fin 2)).isLt
    unfold cat
    rw [dif_neg (by simp [Rect.emb, Rect.unit])]
    refine congrArg (k0_pay2 x3) (funext fun a => ?_)
    match a with
    | ⟨0, _⟩ => exact Fin.ext (by simp [Rect.emb, Rect.unit])
    | ⟨1, _⟩ => exact Fin.ext (by simp [Rect.emb, Rect.unit])
  · have h1 : (x (1 : Fin 2)).val < 256 := (x (1 : Fin 2)).isLt
    unfold cat
    rw [dif_pos (by simpa [Rect.emb, Rect.unit] using h1)]
    refine congrArg (k0_pay1 x2) (funext fun a => ?_)
    match a with
    | ⟨0, _⟩ => exact Fin.ext (by simp [Rect.emb, Rect.unit])
    | ⟨1, _⟩ => exact Fin.ext (by simp [Rect.emb, Rect.unit])

end Cert.Kernel2Ideal.Exp

end
-- ==== Proof.ExpWord.lean ====
/- The expert call's words: when a tile is active, when its expert's weights are loaded, and what that says of its blocks. -/
module

public import proofs.«01_k».proof.Proof.ExpKit

@[expose] public section

set_option maxRecDepth 16384

noncomputable section

namespace Cert.Kernel2Ideal.Exp

open Cert.Kernel2Ideal Cert.Kernel2Ideal.Gen
open Idealize.ShloMosaic Idealize.ShloMosaic.TcCoe

variable {F : FTy → Type} [FloatOps F]

/-- An index of a table, from its number. -/
def tix (k : Fin 172) : S172.Idx := fun a => match a with | ⟨0, _⟩ => k

/-- The one index of the count. -/
def one : S1.Idx := fun a => match a with | ⟨0, _⟩ => (0 : Fin 1)

theorem ofNat_small (n : Fin 172) : (Scalar.indexCast (BitVec.ofNat 32 n.val) : Index).toNat = n.val := by
  revert n; decide +kernel

theorem pred_small (n : Fin 172) : (Scalar.indexCast (Scalar.maxsi (Scalar.subi (BitVec.ofNat 32 n.val) 1#32) 0#32) : Index).toNat = n.val - 1 := by
  revert n; decide +kernel

theorem first_val (h : 0 < S1.numel) : (Shape.Idx.first (s := S1) h 0).val = 0 := Nat.lt_one_iff.mp (Shape.Idx.first (s := S1) h 0).isLt

/-- The words read are the tables' entries. -/
theorem nact_eq (T2 : S1.Idx → Elt F .i32) : nact (F := F) T2 = T2 one := by
  unfold nact
  rw [View.readAt_eq_ld, show View.read (Elt F) tb2.view T2 = T2 from View.read_whole _ _]
  refine congrArg T2 (funext fun a => Fin.ext ?_)
  match a with
  | ⟨0, _⟩ =>
    show 0 + (Shape.Idx.first (s := S1) (numel1_S1.symm ▸ Nat.one_pos) 0).val * 1 = 0
    rw [first_val]

theorem exNow_eq (T1 : S172.Idx → Elt F .i32) (i : grid0.Coords) : exNow (F := F) T1 i = T1 (tix (i 0)) := by
  unfold exNow
  rw [View.readAt_eq_ld, show View.read (Elt F) tb1.view T1 = T1 from View.read_whole _ _]
  refine congrArg T1 (funext fun a => Fin.ext ?_)
  match a with
  | ⟨0, _⟩ =>
    show (Scalar.indexCast (BitVec.ofNat 32 (i 0).val) : Index).toNat + (Shape.Idx.first (s := S1) (numel1_S1.symm ▸ Nat.one_pos) 0).val * 1 = (i 0).val
    rw [ofNat_small (i 0), first_val, Nat.zero_mul, Nat.add_zero]

theorem exPrev_eq (T1 : S172.Idx → Elt F .i32) (i : grid0.Coords) :
    exPrev (F := F) T1 i = T1 (tix ⟨(i 0).val - 1, lt_of_le_of_lt (Nat.sub_le _ _) (i 0).isLt⟩) := by
  unfold exPrev
  rw [View.readAt_eq_ld, show View.read (Elt F) tb1.view T1 = T1 from View.read_whole _ _]
  refine congrArg T1 (funext fun a => Fin.ext ?_)
  match a with
  | ⟨0, _⟩ =>
    show (Scalar.indexCast (Scalar.maxsi (Scalar.subi (BitVec.ofNat 32 (i 0).val) 1#32) 0#32) : Index).toNat + (Shape.Idx.first (s := S1) (numel1_S1.symm ▸ Nat.one_pos) 0).val * 1 = (i 0).val - 1
    rw [pred_small (i 0), first_val, Nat.zero_mul, Nat.add_zero]

theorem ne_ext : ∀ b : BitVec 1, Scalar.cmpi .ne (Scalar.extui b : BitVec 32) 0#32 = b := by decide
theorem and_one : ∀ a b : BitVec 1, Scalar.andi a b = 1#1 ↔ a = 1#1 ∧ b = 1#1 := by decide
theorem or_one : ∀ a b : BitVec 1, Scalar.ori a b = 1#1 ↔ a = 1#1 ∨ b = 1#1 := by decide
theorem xor_one : ∀ a : BitVec 1, Scalar.xori a 1#1 = 1#1 ↔ ¬ a = 1#1 := by decide

theorem slt_one (a : ℕ) (ha : a < 172) (n : BitVec 32) : Scalar.cmpi .slt (BitVec.ofNat 32 a) n = 1#1 ↔ (a : ℤ) < n.toInt := by
  show IntOp.cmpi .slt _ _ = 1#1 ↔ _
  rw [WordCmp.cmpi_slt_eq, WordCmp.ofBool_decide_eq_one_iff, WordCmp.toInt_ofNat_of_lt (by omega)]

/-- A tile is active when its number is below the count. -/
theorem cond2_iff (i : grid0.Coords) (n : BitVec 32) : k0_cond2 i n = 1#1 ↔ ((i 0).val : ℤ) < n.toInt := by
  show Scalar.cmpi .ne (Scalar.extui (Scalar.cmpi .slt (BitVec.ofNat 32 (i 0).val) n) : BitVec 32) 0#32 = 1#1 ↔ _
  rw [ne_ext, slt_one _ (i 0).isLt]

theorem cond3_iff (i : grid0.Coords) (n : BitVec 32) : k0_cond3 i n = 1#1 ↔ ¬ k0_cond2 i n = 1#1 := by
  show Scalar.cmpi .ne (Scalar.extui (Scalar.xori (Scalar.cmpi .slt (BitVec.ofNat 32 (i 0).val) n) 1#1) : BitVec 32) 0#32 = 1#1 ↔ _
  rw [ne_ext, xor_one, cond2_iff, slt_one _ (i 0).isLt]

/-- Its weights are loaded when it is the first or its expert is another than the tile's before. -/
theorem reload_iff (T1 : S172.Idx → Elt F .i32) (T2 : S1.Idx → Elt F .i32) (i : grid0.Coords) :
    reload (F := F) T1 T2 i = 1#1 ↔ k0_cond2 i (nact (F := F) T2) = 1#1
      ∧ ((i 0).val = 0 ∨ exNow (F := F) T1 i ≠ exPrev (F := F) T1 i) := by
  unfold reload
  rw [ne_ext, and_one, or_one, cond2_iff, slt_one _ (i 0).isLt]
  refine and_congr_right fun _ => or_congr ?_ ?_
  · show IntOp.cmpi .eq _ _ = 1#1 ↔ _
    rw [WordCmp.cmpi_eq_eq, WordCmp.ofBool_decide_eq_one_iff]
    constructor
    · intro h
      have := congrArg BitVec.toNat h
      rw [BitVec.toNat_ofNat, Nat.mod_eq_of_lt (lt_trans (i 0).isLt (by decide))] at this
      exact this
    · intro h; rw [h]
  · show IntOp.cmpi .ne _ _ = 1#1 ↔ _
    rw [WordCmp.cmpi_ne_eq, WordCmp.ofBool_decide_eq_one_iff]

/-- No point is idle for the output. -/
theorem idle5_false (pf : pre0.Contents (Elt F)) (i : grid0.Coords) : idle0 pf 5 i = false := by
  show (!(k0_cond2 i (pf.atD 2 ![0]) == 1#1) && !(k0_cond3 i (pf.atD 2 ![0]) == 1#1)) = false
  by_cases h : k0_cond2 i (pf.atD 2 ![0]) = 1#1
  · rw [h]; rfl
  · rw [(cond3_iff i _).mpr h]
    exact Bool.and_false _

/-- A table's entry for a tile, as an index map reads it. -/
theorem at0_eq (pf : pre0.Contents (Elt F)) (i : grid0.Coords) :
    (pf.at 0 (Rect.unit (s := S172) (k0_off1 i) S1.size (k0_off1_inb i)) numel1_S1 : BitVec 32) = (pf 0 : S172.Idx → BitVec 32) (tix (i 0)) := by
  refine congrArg (pf 0 : S172.Idx → BitVec 32) (funext fun a => Fin.ext ?_)
  match a with
  | ⟨0, _⟩ =>
    show (Scalar.indexCast (BitVec.ofNat 32 (i 0).val) : Index).toNat + (Shape.Idx.first (s := S1) (numel1_S1.symm ▸ Nat.one_pos) 0).val * 1 = (i 0).val
    rw [ofNat_small (i 0), first_val, Nat.zero_mul, Nat.add_zero]

theorem at1_eq (pf : pre0.Contents (Elt F)) (i : grid0.Coords) :
    (pf.at 1 (Rect.unit (s := S172) (k0_off1 i) S1.size (k0_off1_inb i)) numel1_S1 : BitVec 32) = (pf 1 : S172.Idx → BitVec 32) (tix (i 0)) := by
  refine congrArg (pf 1 : S172.Idx → BitVec 32) (funext fun a => Fin.ext ?_)
  match a with
  | ⟨0, _⟩ =>
    show (Scalar.indexCast (BitVec.ofNat 32 (i 0).val) : Index).toNat + (Shape.Idx.first (s := S1) (numel1_S1.symm ▸ Nat.one_pos) 0).val * 1 = (i 0).val
    rw [ofNat_small (i 0), first_val, Nat.zero_mul, Nat.add_zero]

/-- The index maps, of the tables. -/
theorem tr0 (pf : pre0.Contents (Elt F)) (i : grid0.Coords) :
    cc0_transform_0 k0_off1_inb numel1_S1 pf i = ![((pf 0 : S172.Idx → BitVec 32) (tix (i 0))).toNat, 0] :=
  congrArg (fun z : BitVec 32 => (![z.toNat, 0] : Fin 2 → ℕ)) (at0_eq pf i)
theorem tr2 (pf : pre0.Contents (Elt F)) (i : grid0.Coords) :
    cc0_transform_2 k0_off1_inb numel1_S1 pf i = ![((pf 1 : S172.Idx → BitVec 32) (tix (i 0))).toNat, 0, 0] :=
  congrArg (fun z : BitVec 32 => (![z.toNat, 0, 0] : Fin 3 → ℕ)) (at1_eq pf i)
theorem tr3 (pf : pre0.Contents (Elt F)) (i : grid0.Coords) :
    cc0_transform_3 k0_off1_inb numel1_S1 pf i = ![((pf 1 : S172.Idx → BitVec 32) (tix (i 0))).toNat, 0, 0] :=
  congrArg (fun z : BitVec 32 => (![z.toNat, 0, 0] : Fin 3 → ℕ)) (at1_eq pf i)
theorem tr4 (pf : pre0.Contents (Elt F)) (i : grid0.Coords) :
    cc0_transform_4 k0_off1_inb numel1_S1 pf i = ![((pf 1 : S172.Idx → BitVec 32) (tix (i 0))).toNat, 0, 0] :=
  congrArg (fun z : BitVec 32 => (![z.toNat, 0, 0] : Fin 3 → ℕ)) (at1_eq pf i)
theorem tr5 (i : grid0.Coords) : cc0_transform_5 i = ![(i 0).val, 0] := by
  show ![(BitVec.ofNat 32 (i 0).val).toNat, 0] = _
  rw [BitVec.toNat_ofNat, Nat.mod_eq_of_lt (lt_trans (i 0).isLt (by decide))]

theorem coords_val : ∀ t : Fin grid0.N, (grid0.coords t 0).val = t.val := by decide +kernel

/-- Where the tables' entries are in range, every block is inside its array. -/
theorem ok_of (pf : pre0.Contents (Elt F)) (h0 : ∀ k, ((pf 0 : S172.Idx → BitVec 32) (tix k)).toNat < 172)
    (h1 : ∀ k, ((pf 1 : S172.Idx → BitVec 32) (tix k)).toNat < 32) : ok0 pf := by
  refine ⟨fun i => ⟨?_, Or.inl rfl⟩, fun i => ⟨?_, Or.inl rfl⟩, fun i => ⟨?_, Or.inl rfl⟩, fun i => ⟨?_, Or.inl rfl⟩⟩
  · intro a; rw [tr0]; have := h0 (i 0)
    match a with
    | ⟨0, _⟩ => show (((pf 0 : S172.Idx → BitVec 32) (tix (i 0))).toNat + 1) * 256 ≤ 44032; omega
    | ⟨1, _⟩ => show (0 + 1) * 1024 ≤ 1024; omega
  · intro a; rw [tr2]; have := h1 (i 0)
    match a with
    | ⟨0, _⟩ => show (((pf 1 : S172.Idx → BitVec 32) (tix (i 0))).toNat + 1) * 1 ≤ 32; omega
    | ⟨1, _⟩ => show (0 + 1) * 1024 ≤ 1024; omega
    | ⟨2, _⟩ => show (0 + 1) * 256 ≤ 256; omega
  · intro a; rw [tr3]; have := h1 (i 0)
    match a with
    | ⟨0, _⟩ => show (((pf 1 : S172.Idx → BitVec 32) (tix (i 0))).toNat + 1) * 1 ≤ 32; omega
    | ⟨1, _⟩ => show (0 + 1) * 1024 ≤ 1024; omega
    | ⟨2, _⟩ => show (0 + 1) * 256 ≤ 256; omega
  · intro a; rw [tr4]; have := h1 (i 0)
    match a with
    | ⟨0, _⟩ => show (((pf 1 : S172.Idx → BitVec 32) (tix (i 0))).toNat + 1) * 1 ≤ 32; omega
    | ⟨1, _⟩ => show (0 + 1) * 256 ≤ 256; omega
    | ⟨2, _⟩ => show (0 + 1) * 1024 ≤ 1024; omega

end Cert.Kernel2Ideal.Exp

end
-- ==== Proof.ExpRun.lean ====
/- The expert call's body run at a point, in its three cases: weights loaded, weights kept, tile inactive. -/
module

public import proofs.«01_k».proof.Proof.ExpKit

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of two axes. -/
theorem z2 : (![0, 0] : Fin 2 → ℕ) = fun _ => 0 := by funext a; fin_cases a <;> rfl

/-- Loads of a whole buffer read its contents. -/
theorem ld3 (x : Vec F S1x1024x256 .f32) : View.ld x (Rect.unit (s := S1x1024x256) ![0, 0, 0] S1x1024x256.size inb_S1x1024x256_S1x1024x256_0_0_0) = x :=
  View.ld_unit_zero (funext (by intro a; fin_cases a <;> rfl)) _ x
theorem ld3' (x : Vec F S1x256x1024 .f32) : View.ld x (Rect.unit (s := S1x256x1024) ![0, 0, 0] S1x256x1024.size inb_S1x256x1024_S1x256x1024_0_0_0) = x :=
  View.ld_unit_zero (funext (by intro a; fin_cases a <;> rfl)) _ x
theorem ldx (x : Vec F S256x1024 .f32) : View.ld x (Rect.unit (s := S256x1024) ![0, 0] S256x1024.size inb_S256x1024_S256x1024_0_0) = x :=
  View.ld_unit_zero (Val := Elt F) (S := S256x1024) (e := .f32) z2 _ x
theorem ldx' (x : FVec F S256x1024 .bf16) : View.ld (Val := Elt F) (e' := .bf16) x (Rect.unit (s := S256x1024) ![0, 0] S256x1024.size inb_S256x1024_S256x1024_0_0) = x :=
  View.ld_unit_zero (Val := Elt F) (S := S256x1024) (e := .bf16) z2 _ x
theorem ldg (x : Vec F S1x1024 .f32) : View.ld x (Rect.unit (s := S1x1024) ![0, 0] S1x1024.size inb_S1x1024_S1x1024_0_0) = x :=
  View.ld_unit_zero (Val := Elt F) (S := S1x1024) (e := .f32) z2 _ x
theorem ldw0 (x : FVec F S1024x512 .bf16) : View.ld (Val := Elt F) (e' := .bf16) x (Rect.unit (s := S1024x512) ![0, 0] S1024x512.size inb_S1024x512_S1024x512_0_0) = x :=
  View.ld_unit_zero (Val := Elt F) (S := S1024x512) (e := .bf16) z2 _ x

/-- So do loads through a view of it, of contents that read as `x`. -/
theorem rd3 {M : Memref sig .tc .vmem S1x1024x256 .f32} (x : Vec F S1x1024x256 .f32) {f} (hf : View.read (Elt F) M.view f = x) :
    View.readAt (Elt F) M.view (Rect.unit (s := S1x1024x256) ![0, 0, 0] S1x1024x256.size inb_S1x1024x256_S1x1024x256_0_0_0).toLoadRect f = x := by
  rw [View.readAt_eq_ld, hf]; exact ld3 x
theorem rd3' {M : Memref sig .tc .vmem S1x256x1024 .f32} (x : Vec F S1x256x1024 .f32) {f} (hf : View.read (Elt F) M.view f = x) :
    View.readAt (Elt F) M.view (Rect.unit (s := S1x256x1024) ![0, 0, 0] S1x256x1024.size inb_S1x256x1024_S1x256x1024_0_0_0).toLoadRect f = x := by
  rw [View.readAt_eq_ld, hf]; exact ld3' x
theorem rdx {M : Memref sig .tc .vmem S256x1024 .f32} (x : Vec F S256x1024 .f32) {f} (hf : View.read (Elt F) M.view f = x) :
    View.readAt (Elt F) M.view (Rect.unit (s := S256x1024) ![0, 0] S256x1024.size inb_S256x1024_S256x1024_0_0).toLoadRect f = x := by
  rw [View.readAt_eq_ld, hf]; exact ldx x
theorem rdx' {M : Memref sig .tc .vmem S256x1024 .bf16} (x : FVec F S256x1024 .bf16) {f} (hf : View.read (Elt F) M.view f = x) :
    View.readAt (Elt F) M.view (Rect.unit (s := S256x1024) ![0, 0] S256x1024.size inb_S256x1024_S256x1024_0_0).toLoadRect f = x := by
  rw [View.readAt_eq_ld, hf]; exact ldx' x
theorem rdg {M : Memref sig .tc .vmem S1x1024 .f32} (x : Vec F S1x1024 .f32) {f} (hf : View.read (Elt F) M.view f = x) :
    View.readAt (Elt F) M.view (Rect.unit (s := S1x1024) ![0, 0] S1x1024.size inb_S1x1024_S1x1024_0_0).toLoadRect f = x := by
  rw [View.readAt_eq_ld, hf]; exact ldg x
theorem rdw0 {M : Memref sig .tc .vmem S1024x512 .bf16} (x : FVec F S1024x512 .bf16) {f} (hf : View.read (Elt F) M.view f = x) :
    View.readAt (Elt F) M.view (Rect.unit (s := S1024x512) ![0, 0] S1024x512.size inb_S1024x512_S1024x512_0_0).toLoadRect f = x := by
  rw [View.readAt_eq_ld, hf]; exact ldw0 x

set_option maxHeartbeats 4000000 in
/-- An active tile of a new expert: the weights are loaded into the scratch, the tile computed from them. -/
theorem runA (c : Dev nD) (i : grid0.Coords) (arg4 : Memref sig .tc .vmem S256x1024 .f32) (harg4 : arg4.IsWhole) (arg5 : Memref sig .tc .vmem S1x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S256x1024 .f32) (harg9 : arg9.IsWhole)
    (T0 T1 : S172.Idx → Elt F .i32) (T2 : S1.Idx → Elt F .i32) (x0 : Vec F S256x1024 .f32) (x1 : Vec F S1x1024 .f32) (x2 x3 : Vec F S1x1024x256 .f32) (x4 : Vec F S1x256x1024 .f32) (w0 : FVec F S1024x512 .bf16) (w1 : FVec F S256x1024 .bf16)
    (hc0 : reload (F := F) T1 T2 i = 1#1) (hc2 : k0_cond2 i (nact (F := F) T2) = 1#1) (hc3 : ¬(k0_cond3 i (nact (F := F) T2) = 1#1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ (∃ d, owns (c : Thread nD τ) arg9 fullShare d) ∗ owns (c : Thread nD τ) sc0 fullShare w0 ∗ owns (c : Thread nD τ) sc1 fullShare w1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg9 fullShare (k0_pay4 x0 x1 (cat x2 x3) (k0_pay3 x4)) ∗ owns (c : Thread nD τ) sc0 fullShare (cat x2 x3) ∗ owns (c : Thread nD τ) sc1 fullShare (k0_pay3 x4)) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 sc0 (Memref.isWhole_whole _) sc1 (Memref.isWhole_whole _)) K := by
  intro E K
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  obtain rfl := harg4.eq_unread hf0; obtain rfl := harg5.eq_unread hf1; obtain rfl := harg6.eq_unread hf2; obtain rfl := harg7.eq_unread hf3; obtain rfl := harg8.eq_unread hf4
  sl_exec! (disch := first | sl_exact hc0 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [HT2]; · iexact HT2
  isplitl [H5]
  · iexists _; isplitr; swap; · iexact H5
    ipureintro
    refine (View.read_writes_eq_canon _ _ _ ?_).trans ?_
    · exact View.cover_of_tiled _ S256x1024.size rfl
    delta runA.sl.H5_1
    refine (View.canon_cons_unit_zero (funext (by intro a; fin_cases a <;> rfl)) _ _ _).trans ?_
    have e0 : runA.sl.v35 c arg6 harg6 arg7 harg7 x2 x3 = cat x2 x3 := by
      delta runA.sl.v35
      refine (View.readCov_eq_canon_ld _ _ _ ?_).trans ?_
      · exact View.cover_of_tiled _ S1024x256.size rfl
      refine (ldw0 _).trans ?_
      delta runA.sl.HS0_2
      rw [rd3 x2 hf2, rd3 x3 hf3]
      funext y
      refine canon_cat x2 x3 y ?_
      revert y
      exact View.cover_of_tiled _ S1024x256.size rfl
    have e1 : runA.sl.v43 c arg8 harg8 x4 = k0_pay3 x4 := by
      delta runA.sl.v43
      refine (View.readCov_eq_canon_ld _ _ _ ?_).trans ?_
      · exact View.cover_of_tiled _ S256x1024.size rfl
      refine (ldx' _).trans ?_
      refine (View.canon_cons_unit_zero (funext (by intro a; fin_cases a <;> rfl)) _ _ _).trans ?_
      rw [rd3' x4 hf4]
    rw [e0, e1]
    rw [rdx x0 hf0, rdg x1 hf1]
  isplitl [HS0]
  · iexists _; isplitr; swap; · iexact HS0
    ipureintro
    refine (View.read_writes_eq_canon _ _ _ ?_).trans ?_
    · exact View.cover_of_tiled _ S1024x256.size rfl
    delta runA.sl.HS0_2
    rw [rd3 x2 hf2, rd3 x3 hf3]
    funext y
    refine canon_cat x2 x3 y ?_
    revert y
    exact View.cover_of_tiled _ S1024x256.size rfl
  iexists _; isplitr; swap; · iexact HS1
  ipureintro
  refine (View.read_writes_eq_canon _ _ _ ?_).trans ?_
  · exact View.cover_of_tiled _ S256x1024.size rfl
  delta runA.sl.HS1_1
  refine (View.canon_cons_unit_zero (funext (by intro a; fin_cases a <;> rfl)) _ _ _).trans ?_
  rw [rd3' x4 hf4]
set_option maxHeartbeats 4000000 in
/-- An active tile of the expert before: the tile is computed from the weights the scratch holds. -/
theorem runB (c : Dev nD) (i : grid0.Coords) (arg4 : Memref sig .tc .vmem S256x1024 .f32) (harg4 : arg4.IsWhole) (arg5 : Memref sig .tc .vmem S1x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S256x1024 .f32) (harg9 : arg9.IsWhole)
    (T0 T1 : S172.Idx → Elt F .i32) (T2 : S1.Idx → Elt F .i32) (x0 : Vec F S256x1024 .f32) (x1 : Vec F S1x1024 .f32) (x2 x3 : Vec F S1x1024x256 .f32) (x4 : Vec F S1x256x1024 .f32) (w0 : FVec F S1024x512 .bf16) (w1 : FVec F S256x1024 .bf16)
    (hc0 : ¬(reload (F := F) T1 T2 i = 1#1)) (hc2 : k0_cond2 i (nact (F := F) T2) = 1#1) (hc3 : ¬(k0_cond3 i (nact (F := F) T2) = 1#1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ (∃ d, owns (c : Thread nD τ) arg9 fullShare d) ∗ owns (c : Thread nD τ) sc0 fullShare w0 ∗ owns (c : Thread nD τ) sc1 fullShare w1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg9 fullShare (k0_pay4 x0 x1 w0 w1) ∗ owns (c : Thread nD τ) sc0 fullShare (w0) ∗ owns (c : Thread nD τ) sc1 fullShare (w1)) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 sc0 (Memref.isWhole_whole _) sc1 (Memref.isWhole_whole _)) K := by
  intro E K
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  obtain rfl := harg4.eq_unread hf0; obtain rfl := harg5.eq_unread hf1; obtain rfl := harg6.eq_unread hf2; obtain rfl := harg7.eq_unread hf3; obtain rfl := harg8.eq_unread hf4
  sl_exec! (disch := first | sl_exact hc0 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [HT2]; · iexact HT2
  isplitl [H5]
  · iexists _; isplitr; swap; · iexact H5
    ipureintro
    refine (View.read_writes_eq_canon _ _ _ ?_).trans ?_
    · exact View.cover_of_tiled _ S256x1024.size rfl
    delta runB.sl.H5_1
    refine (View.canon_cons_unit_zero (funext (by intro a; fin_cases a <;> rfl)) _ _ _).trans ?_
    rw [rdx x0 hf0, rdg x1 hf1, rdw0 w0 hg0, rdx' w1 hg1]
  isplitl [HS0]
  · iexists _; isplitr; · ipureintro; exact hg0
    iexact HS0
  iexists _; isplitr; · ipureintro; exact hg1
  iexact HS1

set_option maxHeartbeats 4000000 in
/-- An inactive tile: zeros, the scratch untouched. -/
theorem runC (c : Dev nD) (i : grid0.Coords) (arg4 : Memref sig .tc .vmem S256x1024 .f32) (harg4 : arg4.IsWhole) (arg5 : Memref sig .tc .vmem S1x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S256x1024 .f32) (harg9 : arg9.IsWhole)
    (T0 T1 : S172.Idx → Elt F .i32) (T2 : S1.Idx → Elt F .i32) (x0 : Vec F S256x1024 .f32) (x1 : Vec F S1x1024 .f32) (x2 x3 : Vec F S1x1024x256 .f32) (x4 : Vec F S1x256x1024 .f32) (w0 : FVec F S1024x512 .bf16) (w1 : FVec F S256x1024 .bf16)
    (hc0 : ¬(reload (F := F) T1 T2 i = 1#1)) (hc2 : ¬(k0_cond2 i (nact (F := F) T2) = 1#1)) (hc3 : k0_cond3 i (nact (F := F) T2) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ (∃ d, owns (c : Thread nD τ) arg9 fullShare d) ∗ owns (c : Thread nD τ) sc0 fullShare w0 ∗ owns (c : Thread nD τ) sc1 fullShare w1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg9 fullShare (k0_pay5) ∗ owns (c : Thread nD τ) sc0 fullShare (w0) ∗ owns (c : Thread nD τ) sc1 fullShare (w1)) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 sc0 (Memref.isWhole_whole _) sc1 (Memref.isWhole_whole _)) K := by
  intro E K
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, ⟨%d5, %f5, -, H5⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  obtain rfl := harg4.eq_unread hf0; obtain rfl := harg5.eq_unread hf1; obtain rfl := harg6.eq_unread hf2; obtain rfl := harg7.eq_unread hf3; obtain rfl := harg8.eq_unread hf4
  sl_exec! (disch := first | sl_exact hc0 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HT0]; · iexact HT0
  isplitl [HT1]; · iexact HT1
  isplitl [HT2]; · iexact HT2
  isplitl [H5]
  · iexists _; isplitr; swap; · iexact H5
    ipureintro
    refine (View.read_writes_eq_canon _ _ _ ?_).trans ?_
    · exact View.cover_of_tiled _ S256x1024.size rfl
    delta runC.sl.H5_1
    exact View.canon_cons_unit_zero (funext (by intro a; fin_cases a <;> rfl)) _ _ _
  isplitl [HS0]
  · iexists _; isplitr; · ipureintro; exact hg0
    iexact HS0
  iexists _; isplitr; · ipureintro; exact hg1
  iexact HS1

end Cert.Kernel2Ideal.Exp

end
-- ==== Proof.ExpDat.lean ====
/- The expert call's launch: its proof data with the output named, the body at every point, and the run. -/
module

public import proofs.«01_k».proof.Proof.ExpWord
public import proofs.«01_k».proof.Proof.ExpRun
public import Idealize.ShloMosaic.Lib.Pipeline.TableIdle
public import Idealize.ShloMosaic.Lib.Claim

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call, in order. -/
abbrev hostLines : List (List (HloOp τ sig (Elt F))) := [hostOps0, hostOps0_1, hostOps0_2, hostOps0_3]

/-- What the host lines leave the call with. -/
@[irreducible] def V (c : Dev nD) (b : Ref sig .tc) : Buf (Elt F) ((c : Thread nD τ).loc b) := StableHlo.after hostLines.flatten (fun b => m (c, b)) b

theorem V_eq : V m = fun (c : Dev nD) (b : Ref sig .tc) => StableHlo.after hostLines.flatten (fun b => m (c, b)) b := by
  funext c b; unfold V; rfl

theorem hostLines_fresh : (hostLines : List (List (HloOp τ sig (Elt F)))).Forall fun ops => ops.Forall fun op => op.fresh = ∅ := by
  simp only [List.Forall]; repeat' constructor

theorem hostLines_sub : (hostLines : List (List (HloOp τ sig (Elt F)))).Forall fun ops => ops.Forall fun op => op.bufs ⊆ StableHlo.tcRefs τ sig :=
  ⟨hostOps0_sub, hostOps0_1_sub, hostOps0_2_sub, hostOps0_3_sub⟩

/-- The arguments are written by none of them. -/
def given : Finset (Ref sig .tc) := {main_arg0, main_arg1, main_arg2, main_arg3, main_arg4, main_arg5}

theorem V_of_given (c : Dev nD) (b : Ref sig .tc) (hb : b ∈ given) : V m c b = m ((c : Thread nD τ).loc b) := (congrFun (congrFun (V_eq m) c) b).trans <|
  StableHlo.after_of_forall_not_mem (b := Proc.devRef .tc b) _ _ (List.forall_iff_forall_mem.mp (by
    simp only [hostLines, hostOps0, hostOps0_1, hostOps0_2, hostOps0_3, List.flatten, List.append, List.cons_append, List.nil_append, List.append_nil, List.Forall, StableHlo.nullary_writes,
      StableHlo.unary_writes, StableHlo.binary_writes, StableHlo.ternary_writes, StableHlo.reshape_writes, Finset.mem_singleton]
    repeat' apply And.intro
    all_goals exact StableHlo.devRef_ne_of_ne (fun q => absurd (q ▸ hb) (by decide))))

/-- The tables as launched. -/
abbrev tbl : pre0.Contents (Elt F) := fun j => V m (0 : Dev nD) (pre0.ref j)

theorem V_pre (c : Dev nD) (j : Fin 3) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Cfg sig Λ₀ := cfg0 (adm m hO)

variable (hO : Ok m)

abbrev crd (t : Fin (cfgM m hO).N) : grid0.Coords := (cfgM m hO).grid.coords t

abbrev ms0_0 (t : Fin (cfgM m hO).N) : Memref sig .tc .vmem S256x1024 .f32 := spec0_0.stage ((cfgM m hO).slots t (0 : Fin 6))
abbrev hs0_0 (t : Fin (cfgM m hO).N) : (ms0_0 m hO t).IsWhole := hstage0_0 (((cfgM m hO).slots t (0 : Fin 6)).cast nbuf0_0)
abbrev ms0_1 (t : Fin (cfgM m hO).N) : Memref sig .tc .vmem S1x1024 .f32 := spec0_1.stage ((cfgM m hO).slots t (1 : Fin 6))
abbrev hs0_1 (t : Fin (cfgM m hO).N) : (ms0_1 m hO t).IsWhole := hstage0_1 (((cfgM m hO).slots t (1 : Fin 6)).cast nbuf0_1)
abbrev ms0_2 (t : Fin (cfgM m hO).N) : Memref sig .tc .vmem S1x1024x256 .f32 := spec0_2.stage ((cfgM m hO).slots t (2 : Fin 6))
abbrev hs0_2 (t : Fin (cfgM m hO).N) : (ms0_2 m hO t).IsWhole := hstage0_2 (((cfgM m hO).slots t (2 : Fin 6)).cast nbuf0_2)
abbrev ms0_3 (t : Fin (cfgM m hO).N) : Memref sig .tc .vmem S1x1024x256 .f32 := spec0_3.stage ((cfgM m hO).slots t (3 : Fin 6))
abbrev hs0_3 (t : Fin (cfgM m hO).N) : (ms0_3 m hO t).IsWhole := hstage0_3 (((cfgM m hO).slots t (3 : Fin 6)).cast nbuf0_3)
abbrev ms0_4 (t : Fin (cfgM m hO).N) : Memref sig .tc .vmem S1x256x1024 .f32 := spec0_4.stage ((cfgM m hO).slots t (4 : Fin 6))
abbrev hs0_4 (t : Fin (cfgM m hO).N) : (ms0_4 m hO t).IsWhole := hstage0_4 (((cfgM m hO).slots t (4 : Fin 6)).cast nbuf0_4)
abbrev ms0_5 (t : Fin (cfgM m hO).N) : Memref sig .tc .vmem S256x1024 .f32 := spec0_5.stage ((cfgM m hO).slots t (5 : Fin 6))
abbrev hs0_5 (t : Fin (cfgM m hO).N) : (ms0_5 m hO t).IsWhole := hstage0_5 (((cfgM m hO).slots t (5 : Fin 6)).cast nbuf0_5)

/-- Window `w`'s block at point `t`, read off its array as launched. -/
def iblk (c : Dev nD) (w : Fin (cfgM m hO).W) (t : Fin (cfgM m hO).N) : (((cfgM m hO).win w).xblock (crd m hO t)).Idx → Elt F ((cfgM m hO).win w).elt :=
  (((cfgM m hO).win w).blk t).view.read (Elt F) (V m c (Pipeline.arrRef spec0 w))

/-- Whether point `t`'s tile is active. -/
def act (t : Fin (cfgM m hO).N) : Prop := k0_cond2 (crd m hO t) (nact (F := F) (tbl m 2)) = 1#1

/-- What point `t` leaves in the output's buffer: the tile's rows through its expert, or zeros. -/
def outAt (c : Dev nD) (t : Fin (cfgM m hO).N) : FVec F S256x1024 .f32 := by
  classical
  exact if act m hO t then k0_pay4 (iblk m hO c 0 t) (iblk m hO c 1 t) (cat (iblk m hO c 2 t) (iblk m hO c 3 t)) (k0_pay3 (iblk m hO c 4 t)) else k0_pay5

/-- Between points the weights' buffers hold the last active tile's expert. -/
def Phi (c : Dev nD) (t : Fin ((cfgM m hO).N + 1)) : sProp 𝕄 :=
  iprop(∃ (w0 : FVec F S1024x512 .bf16) (w1 : FVec F S256x1024 .bf16), ⌜∀ s : Fin (cfgM m hO).N, s.val + 1 = t.val → act m hO s → w0 = cat (iblk m hO c 2 s) (iblk m hO c 3 s) ∧ w1 = k0_pay3 (iblk m hO c 4 s)⌝
    ∗ owns (c : Thread nD τ) sc0 fullShare w0 ∗ owns (c : Thread nD τ) sc1 fullShare w1
    ∗ (tb0.view.loc (c : Thread nD τ) ↦{fullShare.right} tbl m 0) ∗ (tb1.view.loc (c : Thread nD τ) ↦{fullShare.right} tbl m 1) ∗ (tb2.view.loc (c : Thread nD τ) ↦{fullShare.right} tbl m 2)
    ∗ ∃ r, prngReg c r)

/-- The proof data. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Phi m hO c t
  q _ := fullShare
  owed _ := 0

theorem A_eq (c : Dev nD) (w : Fin (cfgM m hO).W) : (dats m hO 0 c).A w = V m c (Pipeline.arrRef spec0 w) := by
  dsimp only [dats]

theorem after0_0 (c : Dev nD) (t : Fin (cfgM m hO).N) : (dats m hO 0 c).after (0 : Fin 6) t = iblk m hO c (0 : Fin 6) t := rfl
theorem after0_1 (c : Dev nD) (t : Fin (cfgM m hO).N) : (dats m hO 0 c).after (1 : Fin 6) t = iblk m hO c (1 : Fin 6) t := rfl
theorem after0_2 (c : Dev nD) (t : Fin (cfgM m hO).N) : (dats m hO 0 c).after (2 : Fin 6) t = iblk m hO c (2 : Fin 6) t := rfl
theorem after0_3 (c : Dev nD) (t : Fin (cfgM m hO).N) : (dats m hO 0 c).after (3 : Fin 6) t = iblk m hO c (3 : Fin 6) t := rfl
theorem after0_4 (c : Dev nD) (t : Fin (cfgM m hO).N) : (dats m hO 0 c).after (4 : Fin 6) t = iblk m hO c (4 : Fin 6) t := rfl
theorem after0_5 (c : Dev nD) (t : Fin (cfgM m hO).N) : (dats m hO 0 c).after (5 : Fin 6) t = outAt m hO c t := rfl

theorem before0_0 (c : Dev nD) (t : Fin (cfgM m hO).N) (d) : (dats m hO 0 c).before (0 : Fin 6) t d = iblk m hO c (0 : Fin 6) t :=
  ((dats m hO 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgM m hO).N) (d) : (dats m hO 0 c).before (1 : Fin 6) t d = iblk m hO c (1 : Fin 6) t :=
  ((dats m hO 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgM m hO).N) (d) : (dats m hO 0 c).before (2 : Fin 6) t d = iblk m hO c (2 : Fin 6) t :=
  ((dats m hO 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgM m hO).N) (d) : (dats m hO 0 c).before (3 : Fin 6) t d = iblk m hO c (3 : Fin 6) t :=
  ((dats m hO 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgM m hO).N) (d) : (dats m hO 0 c).before (4 : Fin 6) t d = iblk m hO c (4 : Fin 6) t :=
  ((dats m hO 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Two tiles of one expert have one expert's weights. -/
theorem iblk2_eq (c : Dev nD) (t s : Fin (cfgM m hO).N) (h : (tbl m 1 : S172.Idx → BitVec 32) (tix (crd m hO t 0)) = (tbl m 1 : S172.Idx → BitVec 32) (tix (crd m hO s 0))) :
    (iblk m hO c 2 t : Vec F S1x1024x256 .f32) = iblk m hO c 2 s := by
  unfold iblk
  funext (y : S1x1024x256.Idx)
  show (V m c main_arg3) ((((cfgM m hO).win 2).rect t).emb y) = (V m c main_arg3) ((((cfgM m hO).win 2).rect s).emb y)
  refine congrArg _ (funext fun a => Fin.ext ?_)
  refine (Window.rect_emb_val ((cfgM m hO).win 2) t _ a).trans ((Window.rect_emb_val ((cfgM m hO).win 2) s _ a).trans ?_).symm
  show cc0_transform_2 k0_off1_inb numel1_S1 (tbl m) (crd m hO s) a * _ + _ = cc0_transform_2 k0_off1_inb numel1_S1 (tbl m) (crd m hO t) a * _ + _
  rw [tr2, tr2, h]
theorem iblk3_eq (c : Dev nD) (t s : Fin (cfgM m hO).N) (h : (tbl m 1 : S172.Idx → BitVec 32) (tix (crd m hO t 0)) = (tbl m 1 : S172.Idx → BitVec 32) (tix (crd m hO s 0))) :
    (iblk m hO c 3 t : Vec F S1x1024x256 .f32) = iblk m hO c 3 s := by
  unfold iblk
  funext (y : S1x1024x256.Idx)
  show (V m c main_arg4) ((((cfgM m hO).win 3).rect t).emb y) = (V m c main_arg4) ((((cfgM m hO).win 3).rect s).emb y)
  refine congrArg _ (funext fun a => Fin.ext ?_)
  refine (Window.rect_emb_val ((cfgM m hO).win 3) t _ a).trans ((Window.rect_emb_val ((cfgM m hO).win 3) s _ a).trans ?_).symm
  show cc0_transform_3 k0_off1_inb numel1_S1 (tbl m) (crd m hO s) a * _ + _ = cc0_transform_3 k0_off1_inb numel1_S1 (tbl m) (crd m hO t) a * _ + _
  rw [tr3, tr3, h]
theorem iblk4_eq (c : Dev nD) (t s : Fin (cfgM m hO).N) (h : (tbl m 1 : S172.Idx → BitVec 32) (tix (crd m hO t 0)) = (tbl m 1 : S172.Idx → BitVec 32) (tix (crd m hO s 0))) :
    (iblk m hO c 4 t : Vec F S1x256x1024 .f32) = iblk m hO c 4 s := by
  unfold iblk
  funext (y : S1x256x1024.Idx)
  show (V m c main_arg5) ((((cfgM m hO).win 4).rect t).emb y) = (V m c main_arg5) ((((cfgM m hO).win 4).rect s).emb y)
  refine congrArg _ (funext fun a => Fin.ext ?_)
  refine (Window.rect_emb_val ((cfgM m hO).win 4) t _ a).trans ((Window.rect_emb_val ((cfgM m hO).win 4) s _ a).trans ?_).symm
  show cc0_transform_4 k0_off1_inb numel1_S1 (tbl m) (crd m hO s) a * _ + _ = cc0_transform_4 k0_off1_inb numel1_S1 (tbl m) (crd m hO t) a * _ + _
  rw [tr4, tr4, h]

/-- An active tile whose weights are not loaded is its predecessor's expert's, and that tile was active. -/
theorem kept (t : Fin (cfgM m hO).N) (ha : act m hO t) (hr : ¬ reload (F := F) (tbl m 1) (tbl m 2) (crd m hO t) = 1#1) :
    ∃ s : Fin (cfgM m hO).N, s.val + 1 = t.val ∧ act m hO s
      ∧ (tbl m 1 : S172.Idx → BitVec 32) (tix (crd m hO t 0)) = (tbl m 1 : S172.Idx → BitVec 32) (tix (crd m hO s 0)) := by
  have hv : (crd m hO t 0).val = t.val := coords_val t
  have h0 : (crd m hO t 0).val ≠ 0 := fun h => hr ((reload_iff _ _ _).mpr ⟨ha, Or.inl h⟩)
  have he : exNow (F := F) (tbl m 1) (crd m hO t) = exPrev (F := F) (tbl m 1) (crd m hO t) := by
    by_contra h; exact hr ((reload_iff _ _ _).mpr ⟨ha, Or.inr h⟩)
  have hv' : (crd m hO ⟨t.val - 1, by omega⟩ 0).val = t.val - 1 := coords_val ⟨t.val - 1, lt_of_le_of_lt (Nat.sub_le _ _) t.isLt⟩
  refine ⟨⟨t.val - 1, by omega⟩, by show t.val - 1 + 1 = t.val; omega, ?_, ?_⟩
  · have := (cond2_iff _ _).mp ha
    refine (cond2_iff _ _).mpr ?_
    rw [hv']; rw [hv] at this; omega
  · refine (exNow_eq (F := F) (tbl m 1) (crd m hO t)).symm.trans (he.trans ((exPrev_eq (F := F) (tbl m 1) (crd m hO t)).trans ?_))
    refine congrArg (fun k => (tbl m 1 : S172.Idx → BitVec 32) (tix k)) (Fin.ext ?_)
    show (crd m hO t 0).val - 1 = (crd m hO ⟨t.val - 1, _⟩ 0).val
    rw [hv', hv]

/-- The body at point `t`, as the pipeline calls it. -/
abbrev bodyAt0 (t : Fin (cfgM m hO).N) : Prog (TpuEff nD τ sig (Elt F) Λ₀ .tc) PUnit :=
  cc0_moe_experts (crd m hO t) tb0 (Memref.isWhole_whole _) tb1 (Memref.isWhole_whole _) tb2 (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) sc0 (Memref.isWhole_whole _) sc1 (Memref.isWhole_whole _)

/-- What the body is called with, -/
def bodyPre (c : Dev nD) (t : Fin (cfgM m hO).N) : sProp 𝕄 :=
  iprop(Phi m hO c t.castSucc ∗ (dats m hO 0 c).owesAt () t.castSucc
    ∗ (∃ d, owns (c : Thread nD τ) (ms0_0 m hO t) fullShare ((dats m hO 0 c).before (0 : Fin 6) t d))
    ∗ (∃ d, owns (c : Thread nD τ) (ms0_1 m hO t) fullShare ((dats m hO 0 c).before (1 : Fin 6) t d))
    ∗ (∃ d, owns (c : Thread nD τ) (ms0_2 m hO t) fullShare ((dats m hO 0 c).before (2 : Fin 6) t d))
    ∗ (∃ d, owns (c : Thread nD τ) (ms0_3 m hO t) fullShare ((dats m hO 0 c).before (3 : Fin 6) t d))
    ∗ (∃ d, owns (c : Thread nD τ) (ms0_4 m hO t) fullShare ((dats m hO 0 c).before (4 : Fin 6) t d))
    ∗ (∃ d, owns (c : Thread nD τ) (ms0_5 m hO t) fullShare ((dats m hO 0 c).before (5 : Fin 6) t d)))

/-- and what it returns. -/
def bodyPost (c : Dev nD) (t : Fin (cfgM m hO).N) : sProp 𝕄 :=
  iprop(Phi m hO c t.succ ∗ (dats m hO 0 c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (outAt m hO c t))

set_option maxHeartbeats 1600000 in
/-- The body at any point. -/
theorem sound_body (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  have hsucc : ∀ s : Fin (cfgM m hO).N, s.val + 1 = t.succ.val → s = t := fun s h => Fin.ext (by have : t.succ.val = t.val + 1 := Fin.val_succ t; omega)
  by_cases ha : act m hO t
  · have hc3 : ¬ k0_cond3 (crd m hO t) (nact (F := F) (tbl m 2)) = 1#1 := fun h => (cond3_iff _ _).mp h ha
    rw [show outAt m hO c t = k0_pay4 (iblk m hO c 0 t) (iblk m hO c 1 t) (cat (iblk m hO c 2 t) (iblk m hO c 3 t)) (k0_pay3 (iblk m hO c 4 t)) from if_pos ha]
    by_cases hr : reload (F := F) (tbl m 1) (tbl m 2) (crd m hO t) = 1#1
    · unfold Phi
      iintro ⟨⟨%w0, %w1, %hw, HS0, HS1, HT0, HT1, HT2, HP⟩, Ho, ⟨%d0, H0⟩, ⟨%d1, H1⟩, ⟨%d2, H2⟩, ⟨%d3, H3⟩, ⟨%d4, H4⟩, ⟨%d5, H5⟩⟩
      iapply ((runA c (crd m hO t) _ (hs0_0 m hO t) _ (hs0_1 m hO t) _ (hs0_2 m hO t) _ (hs0_3 m hO t) _ (hs0_4 m hO t) _ (hs0_5 m hO t) (tbl m 0) (tbl m 1) (tbl m 2) (iblk m hO c 0 t) (iblk m hO c 1 t) (iblk m hO c 2 t) (iblk m hO c 3 t) (iblk m hO c 4 t) w0 w1 hr ha hc3) Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [H5]; · iexists _; iexact H5
      isplitl [HS0]; · iexact HS0
      isplitl [HS1]; · iexact HS1
      iintro ⟨H0, H1, H2, H3, H4, HT0, HT1, HT2, H5, HS0, HS1⟩
      isplitl [HS0 HS1 HT0 HT1 HT2 HP]
      · iexists _, _
        isplitr; swap
        · isplitl [HS0]; · iexact HS0
          isplitl [HS1]; · iexact HS1
          isplitl [HT0]; · iexact HT0
          isplitl [HT1]; · iexact HT1
          isplitl [HT2]; · iexact HT2
          iexact HP
        · ipureintro
          intro s hs _
          obtain rfl := hsucc s hs
          exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    · obtain ⟨s, hs, has, he⟩ := kept m hO t ha hr
      unfold Phi
      iintro ⟨⟨%w0, %w1, %hw, HS0, HS1, HT0, HT1, HT2, HP⟩, Ho, ⟨%d0, H0⟩, ⟨%d1, H1⟩, ⟨%d2, H2⟩, ⟨%d3, H3⟩, ⟨%d4, H4⟩, ⟨%d5, H5⟩⟩
      have hw' := hw s hs has
      rw [← iblk2_eq m hO c t s he, ← iblk3_eq m hO c t s he, ← iblk4_eq m hO c t s he] at hw'
      obtain ⟨rfl, rfl⟩ := hw'
      iapply ((runB c (crd m hO t) _ (hs0_0 m hO t) _ (hs0_1 m hO t) _ (hs0_2 m hO t) _ (hs0_3 m hO t) _ (hs0_4 m hO t) _ (hs0_5 m hO t) (tbl m 0) (tbl m 1) (tbl m 2) (iblk m hO c 0 t) (iblk m hO c 1 t) (iblk m hO c 2 t) (iblk m hO c 3 t) (iblk m hO c 4 t) _ _ hr ha hc3) Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      isplitl [H5]; · iexists _; iexact H5
      isplitl [HS0]; · iexact HS0
      isplitl [HS1]; · iexact HS1
      iintro ⟨H0, H1, H2, H3, H4, HT0, HT1, HT2, H5, HS0, HS1⟩
      isplitl [HS0 HS1 HT0 HT1 HT2 HP]
      · iexists _, _
        isplitr; swap
        · isplitl [HS0]; · iexact HS0
          isplitl [HS1]; · iexact HS1
          isplitl [HT0]; · iexact HT0
          isplitl [HT1]; · iexact HT1
          isplitl [HT2]; · iexact HT2
          iexact HP
        · ipureintro
          intro s hs _
          obtain rfl := hsucc s hs
          exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
  · have hc3 : k0_cond3 (crd m hO t) (nact (F := F) (tbl m 2)) = 1#1 := (cond3_iff _ _).mpr ha
    have hr : ¬ reload (F := F) (tbl m 1) (tbl m 2) (crd m hO t) = 1#1 := fun h => ha ((reload_iff _ _ _).mp h).1
    rw [show outAt m hO c t = k0_pay5 from if_neg ha]
    unfold Phi
    iintro ⟨⟨%w0, %w1, %hw, HS0, HS1, HT0, HT1, HT2, HP⟩, Ho, ⟨%d0, H0⟩, ⟨%d1, H1⟩, ⟨%d2, H2⟩, ⟨%d3, H3⟩, ⟨%d4, H4⟩, ⟨%d5, H5⟩⟩
    iapply ((runC c (crd m hO t) _ (hs0_0 m hO t) _ (hs0_1 m hO t) _ (hs0_2 m hO t) _ (hs0_3 m hO t) _ (hs0_4 m hO t) _ (hs0_5 m hO t) (tbl m 0) (tbl m 1) (tbl m 2) (iblk m hO c 0 t) (iblk m hO c 1 t) (iblk m hO c 2 t) (iblk m hO c 3 t) (iblk m hO c 4 t) w0 w1 hr ha hc3) Set.univ _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [H5]; · iexists _; iexact H5
    isplitl [HS0]; · iexact HS0
    isplitl [HS1]; · iexact HS1
    iintro ⟨H0, H1, H2, H3, H4, HT0, HT1, HT2, H5, HS0, HS1⟩
    isplitl [HS0 HS1 HT0 HT1 HT2 HP]
    · iexists _, _
      isplitr; swap
      · isplitl [HS0]; · iexact HS0
        isplitl [HS1]; · iexact HS1
        isplitl [HT0]; · iexact HT0
        isplitl [HT1]; · iexact HT1
        isplitl [HT2]; · iexact HT2
        iexact HP
      · ipureintro
        intro s hs h
        obtain rfl := hsucc s hs
        exact absurd h ha
    isplitl [Ho]; · iexact Ho
    isplitl [H0]; · iexact H0
    isplitl [H1]; · iexact H1
    isplitl [H2]; · iexact H2
    isplitl [H3]; · iexact H3
    isplitl [H4]; · iexact H4
    iexact H5

end Cert.Kernel2Ideal.Exp

end
-- ==== Proof.ExpLaunch.lean ====
/- The expert call's run: the launch, from the body at every point. -/
module

public import proofs.«01_k».proof.Proof.ExpDat

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

theorem defs₀_row (t : Fin (cfgM m hO).N) : defs₀ (F := F) .tc (cfgM m hO).body ((cfgM m hO).bodyArgs t ((cfgM m hO).slots t)) = bodyAt0 m hO t := by
  unfold defs₀; rw [Defs.onTc_tc]

set_option maxHeartbeats 1600000 in
/-- The body obligation at every point. -/
theorem body_obligation (c : Dev nD) : BodyObligation (dats m hO 0 c) (defs₀ (F := F)) Variants.none () Set.univ := fun t => by
  rw [bigSep_W0]
  rw [bigSep_W0]
  rw [defs₀_row m hO t]
  have hi : (cfgM m hO).idle (5 : Fin 6) ((cfgM m hO).grid.coords t) = false := idle5_false (tbl m) (crd m hO t)
  rw [hi]
  exact triple_restated (sound_body m hO c t) rfl .rfl fun _ => .rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v13) ↦{q 0} v 0) ∗ (((c : Thread nD τ).loc main_v22) ↦{q 1} v 1) ∗ (((c : Thread nD τ).loc main_v8) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the launch; -/
theorem phi0_intro (c : Dev nD) :
    iprop(Pipeline.ΦA (U := UR sig nD τ) spec0 c ∗ Pipeline.ΦT pre0 (tbl m) c) ⊢ (dats m hO 0 c).Φ 0 := by
  unfold Pipeline.ΦA Pipeline.ΦT
  rw [prefHeld_eq, scopedRest0_eq, show (dats m hO 0 c).Φ 0 = Phi m hO c 0 from rfl]
  unfold Phi
  iintro ⟨⟨⟨⟨%a0, HS0⟩, ⟨%a1, HS1⟩⟩, HP⟩, HT0, HT1, HT2⟩
  iexists a0, a1
  isplitr; swap
  · isplitl [HS0]
    · iapply (Entails.of_eq (owns_whole (c : Thread nD τ) cc0_scratch0 fullShare a0).symm)
      iexact HS0
    isplitl [HS1]
    · iapply (Entails.of_eq (owns_whole (c : Thread nD τ) cc0_scratch1 fullShare a1).symm)
      iexact HS1
    isplitl [HT0]; · iexact HT0
    isplitl [HT1]; · iexact HT1
    isplitl [HT2]; · iexact HT2
    iexact HP
  · ipureintro
    intro s hs
    exact absurd hs (Nat.succ_ne_zero _)

/-- at the last point it gives the scratch buffers back. -/
theorem phiN_exit (c : Dev nD) : (dats m hO 0 c).Φ (Fin.last (cfgM m hO).N) ⊢ Pipeline.ΦA (U := UR sig nD τ) spec0 c := by
  unfold Pipeline.ΦA
  rw [scopedRest0_eq, show (dats m hO 0 c).Φ (Fin.last (cfgM m hO).N) = Phi m hO c (Fin.last _) from rfl]
  unfold Phi
  iintro ⟨%a0, %a1, -, HS0, HS1, -, -, -, HP⟩
  isplitr [HP]; swap; · iexact HP
  isplitl [HS0]
  · iexists a0
    iapply (Entails.of_eq (owns_whole (c : Thread nD τ) cc0_scratch0 fullShare a0))
    iexact HS0
  iexists a1
  iapply (Entails.of_eq (owns_whole (c : Thread nD τ) cc0_scratch1 fullShare a1))
  iexact HS1

set_option backward.isDefEq.respectTransparency.types false in
set_option maxHeartbeats 1600000 in
/-- The launch: every array ends at what the proof data says, every other buffer as the host lines left it, every counter at zero. -/
theorem run_main_quiescent : θ_run (defs (F := F)) (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) (launch0 (F := F)) defs₀ Variants.none m ρ main
    (hbody := fun c => (body_obligation m hO c).loose) (hshare := fun c => (dats m hO 0 c).share_full fun _ => rfl)
    (howed := fun _ _ => rfl) (V := V m) (hmain := (by rw [V_eq]; exact Pipeline.hmainP_prefixes pcfgs 0 defs₀ Variants.none m main hostLines hostLines_sub hostLines_fresh main_chain))
    (hA := A_eq m hO) (hpf := V_pre m) (hin := phi0_intro m hO) (hout := phiN_exit m hO)

/-- The arguments after the run are the arguments before it. -/
theorem kept_args (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).2 main_arg0 (Pipeline.mem_restRefs_of main_arg0 (by decide) (show ∀ w : Fin 6, (spec0 w).arr.view.ref ≠ main_arg0 from by decide))).trans (V_of_given m c main_arg0 (by decide)),
     ((h c).1 (0 : Fin 6)).trans (((dats m hO 0 c).arrAt_in (0 : Fin 6) rfl _).trans (V_of_given m c main_arg1 (by decide))),
     ((h c).2 main_arg2 (Pipeline.mem_restRefs_of main_arg2 (by decide) (show ∀ w : Fin 6, (spec0 w).arr.view.ref ≠ main_arg2 from by decide))).trans (V_of_given m c main_arg2 (by decide)),
     ((h c).1 (2 : Fin 6)).trans (((dats m hO 0 c).arrAt_in (2 : Fin 6) rfl _).trans (V_of_given m c main_arg3 (by decide))),
     ((h c).1 (3 : Fin 6)).trans (((dats m hO 0 c).arrAt_in (3 : Fin 6) rfl _).trans (V_of_given m c main_arg4 (by decide))),
     ((h c).1 (4 : Fin 6)).trans (((dats m hO 0 c).arrAt_in (4 : Fin 6) rfl _).trans (V_of_given m c main_arg5 (by decide)))⟩

include hO in
/-- The frame claim: the arguments unchanged, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => kept_args m hO r h.1 c, h.2⟩)
    (run_main_quiescent m ρ hO)

end Cert.Kernel2Ideal.Exp

end
-- ==== Proof.ExpTables.lean ====
/- The look-ups the host lines make of the experts' counts: the tiles of each expert, their ends, and the tables of blocks and experts. -/
module

public import proofs.«01_k».proof.Proof.ExpDat
public import Idealize.ShloMosaic.Lib.StableHlo.Run
public import Idealize.ShloMosaic.Lib.PlanTiles.Rows
public import Idealize.ShloMosaic.Lib.Routing.Words

@[expose] public section

set_option maxRecDepth 16384

noncomputable section

namespace Cert.Kernel2Ideal.Exp

open Cert.Kernel2Ideal Cert.Kernel2Ideal.Gen
open Idealize.ShloMosaic Idealize.ShloMosaic.TcCoe Idealize.SL.Sem Idealize.ShloMosaic.StableHlo

/-- The tiles of each expert, -/
def tilesOf (x : IVec S32 32) : IVec S32 32 :=
  Routing.pyDiv bcast_S_S32 (subi (addi x (broadcastInDim S32 ![] bcast_S_S32 (constantI S_ 32 256#32))) (broadcastInDim S32 ![] bcast_S_S32 (constantI S_ 32 1#32)))
    (constantI S_ 32 256#32)

/-- where each expert's tiles end, -/
def endsOf (x : IVec S32 32) : IVec S32 32 :=
  Host.reduceWindow IntOp.addi ![32] ![1] ![31] ![0] (tilesOf x) (broadcastInDim S_ ![] bcast_S_S_ (constantI S_ 32 0#32)) reduceWindows_S32_S32_w32s1p31_0 h_S_

/-- how many tiles there are, -/
def countOf (x : IVec S32 32) : IVec S1 32 :=
  shapeCast S1 (shapeCast S_ (extractStridedSlice S1 ![31] (endsOf x) slices_S32_S1_31) shapeCasts_S1_S_) shapeCasts_S_S1

/-- a tile's block, -/
def blocksOf (x : IVec S32 32) : IVec S172 32 :=
  minsi (iotaInDim S172 32 0) (broadcastInDim S172 ![0] bcast_S1_S172_0 (subi (countOf x) (broadcastInDim S1 ![] bcast_S_S1 (constantI S_ 32 1#32))))

/-- and a tile's expert. -/
def expertsOf (x : IVec S32 32) : IVec S172 32 :=
  minsi (Host.reduce IntOp.addi (extui 32 (cmpi .sge
      (broadcastInDim S172x32 ![0, 1] bcast_S172x1_S172x32_0_1 (broadcastInDim S172x1 ![0] bcast_S172_S172x1_0 (blocksOf x)))
      (broadcastInDim S172x32 ![0, 1] bcast_S1x32_S172x32_0_1 (broadcastInDim S1x32 ![1] bcast_S32_S1x32_1 (endsOf x)))) natLt_1_32)
      (constantI S_ 32 0#32) reducesTo_S172x32_S172_d1 h_S_)
    (broadcastInDim S172 ![] bcast_S_S172 (constantI S_ 32 31#32))

variable {F : FTy → Type} [FloatOps F] (m : (ℓ : Loc nD τ sig) → Buf (Elt F) ℓ)

theorem V_count (c : Dev nD) : (V m c main_v8 : IVec S1 32) = countOf (m ((c : Thread nD τ).loc main_arg0) : IVec S32 32) := by
  rw [V_eq]
  show StableHlo.after hostLines.flatten (fun b => m (c, b)) (Proc.tc.devRef main_v8) = _
  simp only [hostLines, hostOps0, hostOps0_1, hostOps0_2, hostOps0_3, List.flatten_cons, List.flatten_nil, List.cons_append, List.nil_append,
    TRef.binary, TRef.nullary, TRef.ternary, TRef.unary, TRef.toBuf, TRef.ofBuf, cast_eq]
  after_results_simp
  unfold countOf endsOf tilesOf Routing.pyDiv
  rfl

theorem V_blocks (c : Dev nD) : (V m c main_v13 : IVec S172 32) = blocksOf (m ((c : Thread nD τ).loc main_arg0) : IVec S32 32) := by
  rw [V_eq]
  show StableHlo.after hostLines.flatten (fun b => m (c, b)) (Proc.tc.devRef main_v13) = _
  simp only [hostLines, hostOps0, hostOps0_1, hostOps0_2, hostOps0_3, List.flatten_cons, List.flatten_nil, List.cons_append, List.nil_append,
    TRef.binary, TRef.nullary, TRef.ternary, TRef.unary, TRef.toBuf, TRef.ofBuf, cast_eq]
  after_results_simp
  unfold blocksOf countOf endsOf tilesOf Routing.pyDiv
  rfl

theorem V_experts (c : Dev nD) : (V m c main_v22 : IVec S172 32) = expertsOf (m ((c : Thread nD τ).loc main_arg0) : IVec S32 32) := by
  rw [V_eq]
  show StableHlo.after hostLines.flatten (fun b => m (c, b)) (Proc.tc.devRef main_v22) = _
  simp only [hostLines, hostOps0, hostOps0_1, hostOps0_2, hostOps0_3, List.flatten_cons, List.flatten_nil, List.cons_append, List.nil_append,
    TRef.binary, TRef.nullary, TRef.ternary, TRef.unary, TRef.toBuf, TRef.ofBuf, cast_eq]
  after_results_simp
  unfold expertsOf blocksOf countOf endsOf tilesOf Routing.pyDiv
  rfl

/-- The gain, as the call is handed it. -/
theorem V_gain (c : Dev nD) : (V m c main_v23 : FVec F S1x1024 .f32) = shapeCast S1x1024 (m ((c : Thread nD τ).loc main_arg2) : FVec F S1024 .f32) shapeCasts_S1024_S1x1024 := by
  rw [V_eq]
  show StableHlo.after hostLines.flatten (fun b => m (c, b)) (Proc.tc.devRef main_v23) = _
  simp only [hostLines, hostOps0, hostOps0_1, hostOps0_2, hostOps0_3, List.flatten_cons, List.flatten_nil, List.cons_append, List.nil_append,
    TRef.binary, TRef.nullary, TRef.ternary, TRef.unary, TRef.toBuf, TRef.ofBuf, cast_eq]
  after_results_simp
  rfl

end Cert.Kernel2Ideal.Exp

end
-- ==== Proof.ExpSpec.lean ====
/- The row the expert call computes, as a formula on extended reals: a row normed, through one expert's gated layer. -/
module

public import proofs.«01_k».proof.Proof.FinSpec

@[expose] public section

noncomputable section

namespace Cert.Proof.Spec

open Idealize.ShloMosaic

/-- The gate's curve. -/
def gated (z : EReal) : EReal := z * Ideal.logistic z

/-- A column of a row times a matrix. -/
def column (t : Fin 1024 → EReal) (w : Fin 1024 → Fin 256 → EReal) (f : Fin 256) : EReal := ∑ k : Fin 1024, t k * w k f

/-- The hidden row: the gate's curve times the up projection. -/
def hidRow (t : Fin 1024 → EReal) (wg wu : Fin 1024 → Fin 256 → EReal) (f : Fin 256) : EReal :=
  gated (column t wg f) * column t wu f

/-- A row through one expert. -/
def expert (t : Fin 1024 → EReal) (wg wu : Fin 1024 → Fin 256 → EReal) (wd : Fin 256 → Fin 1024 → EReal) (d : Fin 1024) : EReal :=
  ∑ f : Fin 256, hidRow t wg wu f * wd f d

/-- A row of a tile: through the tile's expert where the tile is active, zero elsewhere. -/
def tileRow (active : Prop) [Decidable active] (t : Fin 1024 → EReal) (wg wu : Fin 1024 → Fin 256 → EReal) (wd : Fin 256 → Fin 1024 → EReal) (d : Fin 1024) : EReal :=
  if active then expert t wg wu wd d else 0

/-- All experts' rows, each times the indicator of its being the active tile's expert, summed, are the tile's row. -/
theorem sum_chosen (active : Prop) [Decidable active] (E : Fin 32) (t : Fin 1024 → EReal) (wg wu : Fin 32 → Fin 1024 → Fin 256 → EReal) (wd : Fin 32 → Fin 256 → Fin 1024 → EReal)
    (c : Fin 32 → EReal) (hc : ∀ e, c e = if active ∧ e = E then 1 else 0) (d : Fin 1024) :
    ∑ e : Fin 32, ∑ f : Fin 256, hidRow t (wg e) (wu e) f * c e * wd e f d = tileRow active t (wg E) (wu E) (wd E) d := by
  rw [Finset.sum_eq_single E]
  · unfold tileRow expert
    split
    next h => refine Finset.sum_congr rfl fun f _ => ?_; rw [hc, if_pos ⟨h, rfl⟩, mul_one]
    next h => refine Finset.sum_eq_zero fun f _ => ?_; rw [hc, if_neg (fun q => h q.1), mul_zero, zero_mul]
  · intro e _ he
    refine Finset.sum_eq_zero fun f _ => ?_; rw [hc, if_neg (fun q => he q.2), mul_zero, zero_mul]
  · exact fun h => absurd (Finset.mem_univ _) h

/-- A tile is active: it lies below the count. -/
def live (n : BitVec 32) (k : Fin 172) : Prop := (k.val : ℤ) < n.toInt

instance (n : BitVec 32) (k : Fin 172) : Decidable (live n k) := inferInstanceAs (Decidable ((k.val : ℤ) < n.toInt))

/-- The expert a table's word names. -/
def exOf (w : BitVec 32) : Fin 32 := ⟨w.toNat % 32, Nat.mod_lt _ (by omega)⟩

/-- The tile of a row. -/
def tileOf (r : Fin 44032) : Fin 172 := ⟨r.val / 256, by omega⟩

/-- A row of the expert layer, from the experts' table and the count of active tiles. -/
def expertRow (tab : Fin 172 → BitVec 32) (n : BitVec 32) (x : Fin 44032 → Fin 1024 → EReal) (g : Fin 1024 → EReal)
    (wg wu : Fin 32 → Fin 1024 → Fin 256 → EReal) (wd : Fin 32 → Fin 256 → Fin 1024 → EReal) (r : Fin 44032) (d : Fin 1024) : EReal :=
  tileRow (live n (tileOf r)) (normed (x r) g) (wg (exOf (tab (tileOf r)))) (wu (exOf (tab (tileOf r)))) (wd (exOf (tab (tileOf r)))) d

end Cert.Proof.Spec

end
-- ==== Proof.ExpKer.lean ====
/- The expert call's payloads read at an index, at the extended reals. -/
module

public import proofs.«01_k».proof.Proof.ExpSpec
public import proofs.«01_k».proof.Proof.ExpKit
public import Idealize.ShloMosaic.Lib.Pipeline.ValueKit.Tiles

@[expose] public section

set_option maxRecDepth 16384

noncomputable section

namespace Cert.Kernel2Ideal.Exp

open Cert.Kernel2Ideal Cert.Kernel2Ideal.Gen Cert.Proof.Spec
open Idealize.ShloMosaic

theorem pay1_apply (x : Vec Ideal S1x1024x256 .f32) (k : Fin 1024) (f : Fin 256) :
    k0_pay1 (F := Ideal) x (ix2 k f) = x (ix3 (0 : Fin 1) k f) := by
  pointwise [k0_pay1]

theorem pay2_apply (x : Vec Ideal S1x1024x256 .f32) (k : Fin 1024) (f : Fin 256) :
    k0_pay2 (F := Ideal) x (ix2 k f) = x (ix3 (0 : Fin 1) k f) := by
  pointwise [k0_pay2]

theorem pay3_apply (x : Vec Ideal S1x256x1024 .f32) (f : Fin 256) (d : Fin 1024) :
    k0_pay3 (F := Ideal) x (ix2 f d) = x (ix3 (0 : Fin 1) f d) := by
  pointwise [k0_pay3]

theorem pay5_apply (r : Fin 256) (d : Fin 1024) : k0_pay5 (F := Ideal) (ix2 r d) = (0 : EReal) := by
  show Ideal.ofBits .f32 0#32 = 0
  exact Ideal.ofBits_zero_f32

theorem cat_gate (x2 x3 : Vec Ideal S1x1024x256 .f32) (k : Fin 1024) (f : Fin 256) :
    cat (F := Ideal) x2 x3 (ix2 k (⟨f.val, by omega⟩ : Fin 512)) = x2 (ix3 (0 : Fin 1) k f) := by
  refine Eq.trans (dif_pos (show f.val < 256 from f.isLt)) ?_
  refine Eq.trans (congrArg (k0_pay1 (F := Ideal) x2) (?_ : _ = ix2 k f)) (pay1_apply x2 k f)
  funext a; fin_cases a <;> rfl

theorem cat_up (x2 x3 : Vec Ideal S1x1024x256 .f32) (k : Fin 1024) (f : Fin 256) :
    cat (F := Ideal) x2 x3 (ix2 k (⟨256 + f.val, by omega⟩ : Fin 512)) = x3 (ix3 (0 : Fin 1) k f) := by
  refine Eq.trans (dif_neg (show ¬ 256 + f.val < 256 by omega)) ?_
  refine Eq.trans (congrArg (k0_pay2 (F := Ideal) x3) (?_ : _ = ix2 k f)) (pay2_apply x3 k f)
  funext a
  match a with
  | ⟨0, _⟩ => rfl
  | ⟨1, _⟩ => exact Fin.ext (by show 256 + f.val - 256 = f.val; omega)

/-- The normed tile. -/
def nrm (u : Vec Ideal S256x1024 .f32) (g : Vec Ideal S1x1024 .f32) : FVec Ideal S256x1024 .f32 :=
  mulf (mulf u (broadcastTo S256x1024 (rsqrt (addf (divf (shapeCast S256x1 (multiReduction .add [1] S256 (mulf (s := S256x1024) (φ := .f32) u u) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

theorem nrm_apply (u : Vec Ideal S256x1024 .f32) (g : Vec Ideal S1x1024 .f32) (r : Fin 256) (d : Fin 1024) :
    nrm u g (ix2 r d) = normed (fun e => u (ix2 r e)) (fun e => g (ix2 (0 : Fin 1) e)) d := by
  unfold normed
  pointwise [nrm]

/-- The two projections side by side. -/
def both (t : FVec Ideal S256x1024 .f32) (w : FVec Ideal S1024x512 .bf16) : FVec Ideal S256x512 .f32 :=
  matmul dot_S256x1024_S1024x512_S256x512_1_0_0_1_n_n none (truncf .bf16 t bitsLt_bf16_f32) w (constant S256x512 .f32 0x00000000#32)

theorem both_apply (t : FVec Ideal S256x1024 .f32) (w : FVec Ideal S1024x512 .bf16) (r : Fin 256) (f : Fin 512) :
    both t w (ix2 r f) = ∑ k : Fin 1024, t (ix2 r k) * w (ix2 k f) := by
  pointwise [both]

/-- The hidden tile. -/
def hid (y : FVec Ideal S256x512 .f32) : FVec Ideal S256x256 .f32 :=
  mulf (mulf (extractStridedSlice S256x256 ![0, 0] y slices_S256x512_o0_0_S256x256) (logistic (extractStridedSlice S256x256 ![0, 0] y slices_S256x512_o0_0_S256x256)))
    (extractStridedSlice S256x256 ![0, 256] y slices_S256x512_o0_256_S256x256)

theorem hid_apply (y : FVec Ideal S256x512 .f32) (r f : Fin 256) :
    hid y (ix2 r f) = gated (y (ix2 r (⟨f.val, by omega⟩ : Fin 512))) * y (ix2 r (⟨256 + f.val, by omega⟩ : Fin 512)) := by
  unfold gated
  pointwise [hid]

/-- The down projection. -/
def down (h : FVec Ideal S256x256 .f32) (w : FVec Ideal S256x1024 .bf16) : FVec Ideal S256x1024 .f32 :=
  matmul dot_S256x256_S256x1024_S256x1024_1_0_0_1_n_n none (truncf .bf16 h bitsLt_bf16_f32) w (constant S256x1024 .f32 0x00000000#32)

theorem down_apply (h : FVec Ideal S256x256 .f32) (w : FVec Ideal S256x1024 .bf16) (r : Fin 256) (d : Fin 1024) :
    down h w (ix2 r d) = ∑ f : Fin 256, h (ix2 r f) * w (ix2 f d) := by
  pointwise [down]

theorem pay4_eq (x0 : Vec Ideal S256x1024 .f32) (x1 : Vec Ideal S1x1024 .f32) (w0 : Vec Ideal S1024x512 .bf16) (w1 : Vec Ideal S256x1024 .bf16) :
    k0_pay4 (F := Ideal) x0 x1 w0 w1 = down (hid (both (nrm x0 x1) w0)) w1 := rfl

/-- An active tile's row. -/
theorem pay4_apply (x0 : Vec Ideal S256x1024 .f32) (x1 : Vec Ideal S1x1024 .f32) (x2 x3 : Vec Ideal S1x1024x256 .f32) (x4 : Vec Ideal S1x256x1024 .f32) (r : Fin 256) (d : Fin 1024) :
    k0_pay4 (F := Ideal) x0 x1 (cat x2 x3) (k0_pay3 x4) (ix2 r d)
      = expert (normed (fun e => x0 (ix2 r e)) (fun e => x1 (ix2 (0 : Fin 1) e))) (fun k f => x2 (ix3 (0 : Fin 1) k f)) (fun k f => x3 (ix3 (0 : Fin 1) k f)) (fun f d => x4 (ix3 (0 : Fin 1) f d)) d := by
  rw [pay4_eq, down_apply]
  unfold expert hidRow column
  refine Finset.sum_congr rfl fun f _ => ?_
  rw [hid_apply, both_apply, both_apply, pay3_apply]
  simp only [cat_gate, cat_up, nrm_apply]

end Cert.Kernel2Ideal.Exp

end
-- ==== Proof.ExpValue.lean ====
/- What the expert call's result array holds after the run, at the extended reals. -/
module

public import proofs.«01_k».proof.Proof.ExpLaunch
public import proofs.«01_k».proof.Proof.ExpTables
public import proofs.«01_k».proof.Proof.ExpKer
public import Idealize.ShloMosaic.Lib.Pipeline.ValueKit.Basic
public import Idealize.ShloMosaic.Lib.StableHlo.Run

@[expose] public section

set_option maxRecDepth 16384

noncomputable section

namespace Cert.Kernel2Ideal.Exp

open Cert.Kernel2Ideal Cert.Kernel2Ideal.Gen Cert.Proof.Spec
open Idealize.ShloMosaic Idealize.ShloMosaic.TcCoe Idealize.SL.Sem Idealize.ShloMosaic.StableHlo
open Idealize.ShloMosaic.Pipeline (Dat Window)

variable (m : (ℓ : Loc nD τ sig) → Buf (Elt Ideal) ℓ) (ρ : Dev nD → PrngReg)

/-- The arguments as functions of plain coordinates. -/
abbrev in1 (c : Dev nD) (r : Fin 44032) (e : Fin 1024) : EReal := (m ((c : Thread nD τ).loc main_arg1) : S44032x1024.Idx → EReal) (ix2 r e)
abbrev in2 (c : Dev nD) (e : Fin 1024) : EReal := (m ((c : Thread nD τ).loc main_arg2) : S1024.Idx → EReal) (ix1 e)
abbrev in3 (c : Dev nD) (e : Fin 32) (k : Fin 1024) (f : Fin 256) : EReal := (m ((c : Thread nD τ).loc main_arg3) : S32x1024x256.Idx → EReal) (ix3 e k f)
abbrev in4 (c : Dev nD) (e : Fin 32) (k : Fin 1024) (f : Fin 256) : EReal := (m ((c : Thread nD τ).loc main_arg4) : S32x1024x256.Idx → EReal) (ix3 e k f)
abbrev in5 (c : Dev nD) (e : Fin 32) (f : Fin 256) (d : Fin 1024) : EReal := (m ((c : Thread nD τ).loc main_arg5) : S32x256x1024.Idx → EReal) (ix3 e f d)

/-- The tables as functions of the tile. -/
abbrev blkT (k : Fin 172) : BitVec 32 := (tbl m 0 : S172.Idx → BitVec 32) (tix k)
abbrev expT (k : Fin 172) : BitVec 32 := (tbl m 1 : S172.Idx → BitVec 32) (tix k)
abbrev cntT : BitVec 32 := (tbl m 2 : S1.Idx → BitVec 32) one

variable (hO : Ok m)

/-- The tile a point works on. -/
def tileAt (t : Fin (cfgM m hO).N) : Fin 172 := crd m hO t 0

theorem tileAt_val (t : Fin (cfgM m hO).N) : (tileAt m hO t).val = t.val := coords_val t

theorem act_iff (t : Fin (cfgM m hO).N) : act m hO t ↔ live (cntT m) (tileAt m hO t) := by
  refine (cond2_iff _ _).trans (iff_of_eq ?_)
  exact congrArg (fun n : BitVec 32 => ((tileAt m hO t).val : ℤ) < n.toInt) (nact_eq (F := Ideal) (tbl m 2))

theorem blk0 (c : Dev nD) (t : Fin (cfgM m hO).N) (r : Fin 256) (e : Fin 1024) (r' : Fin 44032) (h : r'.val = (blkT m (tileAt m hO t)).toNat * 256 + r.val) :
    (iblk m hO c 0 t : S256x1024.Idx → EReal) (ix2 r e) = in1 m c r' e := by
  unfold iblk
  show (V m c main_arg1) ((((cfgM m hO).win (0 : Fin 6)).rect t).emb (ix2 r e)) = _
  rw [V_of_given m c main_arg1 (by decide)]
  refine congrArg _ (funext fun a => Fin.ext ?_)
  refine (Window.rect_emb_val ((cfgM m hO).win (0 : Fin 6)) t _ a).trans ?_
  have q := tr0 (F := Ideal) (tbl m) (crd m hO t)
  match a with
  | ⟨0, _⟩ => show cc0_transform_0 k0_off1_inb numel1_S1 (tbl m) (crd m hO t) 0 * 256 + r.val = r'.val; rw [q, h]; rfl
  | ⟨1, _⟩ => show cc0_transform_0 k0_off1_inb numel1_S1 (tbl m) (crd m hO t) 1 * 1024 + e.val = e.val; rw [q]; show 0 * 1024 + e.val = e.val; omega

theorem blk1 (c : Dev nD) (t : Fin (cfgM m hO).N) (e : Fin 1024) :
    (iblk m hO c 1 t : S1x1024.Idx → EReal) (ix2 (0 : Fin 1) e) = in2 m c e := by
  unfold iblk
  show (V m c main_v23) ((((cfgM m hO).win (1 : Fin 6)).rect t).emb (ix2 (0 : Fin 1) e)) = _
  rw [V_gain]
  have ee : (((cfgM m hO).win (1 : Fin 6)).rect t).emb (ix2 (0 : Fin 1) e) = (ix2 (0 : Fin 1) e : S1x1024.Idx) := by
    funext a
    apply Fin.ext
    refine (Window.rect_emb_val ((cfgM m hO).win (1 : Fin 6)) t _ a).trans ?_
    match a with
    | ⟨0, _⟩ => rfl
    | ⟨1, _⟩ => show 0 * 1024 + e.val = e.val; omega
  rw [ee]
  exact shapeCast_apply _ _ _ (ix1 e) (by rw [Shape.rowMajor_val_two]; show _ = 0 * 1024 + e.val; simp [Shape.rowMajor_val_one, ix1])

theorem blk2 (c : Dev nD) (t : Fin (cfgM m hO).N) (k : Fin 1024) (f : Fin 256) (h : (expT m (tileAt m hO t)).toNat < 32) :
    (iblk m hO c 2 t : S1x1024x256.Idx → EReal) (ix3 (0 : Fin 1) k f) = in3 m c (exOf (expT m (tileAt m hO t))) k f := by
  unfold iblk
  show (V m c main_arg3) ((((cfgM m hO).win (2 : Fin 6)).rect t).emb (ix3 (0 : Fin 1) k f)) = _
  rw [V_of_given m c main_arg3 (by decide)]
  refine congrArg _ (funext fun a => Fin.ext ?_)
  refine (Window.rect_emb_val ((cfgM m hO).win (2 : Fin 6)) t _ a).trans ?_
  have q := tr2 (F := Ideal) (tbl m) (crd m hO t)
  match a with
  | ⟨0, _⟩ => show cc0_transform_2 k0_off1_inb numel1_S1 (tbl m) (crd m hO t) 0 * 1 + 0 = (expT m (tileAt m hO t)).toNat % 32; rw [q, Nat.mod_eq_of_lt h, Nat.mul_one, Nat.add_zero]; rfl
  | ⟨1, _⟩ => show cc0_transform_2 k0_off1_inb numel1_S1 (tbl m) (crd m hO t) 1 * 1024 + k.val = k.val; rw [q]; show 0 * 1024 + k.val = k.val; omega
  | ⟨2, _⟩ => show cc0_transform_2 k0_off1_inb numel1_S1 (tbl m) (crd m hO t) 2 * 256 + f.val = f.val; rw [q]; show 0 * 256 + f.val = f.val; omega

theorem blk3 (c : Dev nD) (t : Fin (cfgM m hO).N) (k : Fin 1024) (f : Fin 256) (h : (expT m (tileAt m hO t)).toNat < 32) :
    (iblk m hO c 3 t : S1x1024x256.Idx → EReal) (ix3 (0 : Fin 1) k f) = in4 m c (exOf (expT m (tileAt m hO t))) k f := by
  unfold iblk
  show (V m c main_arg4) ((((cfgM m hO).win (3 : Fin 6)).rect t).emb (ix3 (0 : Fin 1) k f)) = _
  rw [V_of_given m c main_arg4 (by decide)]
  refine congrArg _ (funext fun a => Fin.ext ?_)
  refine (Window.rect_emb_val ((cfgM m hO).win (3 : Fin 6)) t _ a).trans ?_
  have q := tr3 (F := Ideal) (tbl m) (crd m hO t)
  match a with
  | ⟨0, _⟩ => show cc0_transform_3 k0_off1_inb numel1_S1 (tbl m) (crd m hO t) 0 * 1 + 0 = (expT m (tileAt m hO t)).toNat % 32; rw [q, Nat.mod_eq_of_lt h, Nat.mul_one, Nat.add_zero]; rfl
  | ⟨1, _⟩ => show cc0_transform_3 k0_off1_inb numel1_S1 (tbl m) (crd m hO t) 1 * 1024 + k.val = k.val; rw [q]; show 0 * 1024 + k.val = k.val; omega
  | ⟨2, _⟩ => show cc0_transform_3 k0_off1_inb numel1_S1 (tbl m) (crd m hO t) 2 * 256 + f.val = f.val; rw [q]; show 0 * 256 + f.val = f.val; omega

theorem blk4 (c : Dev nD) (t : Fin (cfgM m hO).N) (f : Fin 256) (d : Fin 1024) (h : (expT m (tileAt m hO t)).toNat < 32) :
    (iblk m hO c 4 t : S1x256x1024.Idx → EReal) (ix3 (0 : Fin 1) f d) = in5 m c (exOf (expT m (tileAt m hO t))) f d := by
  unfold iblk
  show (V m c main_arg5) ((((cfgM m hO).win (4 : Fin 6)).rect t).emb (ix3 (0 : Fin 1) f d)) = _
  rw [V_of_given m c main_arg5 (by decide)]
  refine congrArg _ (funext fun a => Fin.ext ?_)
  refine (Window.rect_emb_val ((cfgM m hO).win (4 : Fin 6)) t _ a).trans ?_
  have q := tr4 (F := Ideal) (tbl m) (crd m hO t)
  match a with
  | ⟨0, _⟩ => show cc0_transform_4 k0_off1_inb numel1_S1 (tbl m) (crd m hO t) 0 * 1 + 0 = (expT m (tileAt m hO t)).toNat % 32; rw [q, Nat.mod_eq_of_lt h, Nat.mul_one, Nat.add_zero]; rfl
  | ⟨1, _⟩ => show cc0_transform_4 k0_off1_inb numel1_S1 (tbl m) (crd m hO t) 1 * 256 + f.val = f.val; rw [q]; show 0 * 256 + f.val = f.val; omega
  | ⟨2, _⟩ => show cc0_transform_4 k0_off1_inb numel1_S1 (tbl m) (crd m hO t) 2 * 1024 + d.val = d.val; rw [q]; show 0 * 1024 + d.val = d.val; omega

/-- A row of the result. -/
def rowOut (c : Dev nD) (r : Fin 44032) (d : Fin 1024) : EReal :=
  expertRow (expT m) (cntT m) (in1 m c) (in2 m c) (in3 m c) (in4 m c) (in5 m c) r d

/-- What the run needs of the tables: an active tile's block is its own, and every expert is one of the layer's. -/
structure Good : Prop where
  own : ∀ k : Fin 172, live (cntT m) k → (blkT m k).toNat = k.val
  ex : ∀ k : Fin 172, (expT m k).toNat < 32

theorem outAt_apply (hG : Good m) (c : Dev nD) (t : Fin (cfgM m hO).N) (r : Fin 256) (d : Fin 1024) (r' : Fin 44032) (h : r'.val = t.val * 256 + r.val) :
    outAt m hO c t (ix2 r d) = rowOut m c r' d := by
  have hv := tileAt_val m hO t
  have ht : tileOf r' = tileAt m hO t := Fin.ext (by show r'.val / 256 = _; rw [hv, h]; omega)
  unfold rowOut expertRow tileRow
  rw [ht]
  by_cases ha : act m hO t
  · have hl := (act_iff m hO t).mp ha
    rw [if_pos hl, show outAt m hO c t = k0_pay4 (iblk m hO c 0 t) (iblk m hO c 1 t) (cat (iblk m hO c 2 t) (iblk m hO c 3 t)) (k0_pay3 (iblk m hO c 4 t)) from if_pos ha]
    refine (pay4_apply _ _ _ _ _ r d).trans ?_
    have h0 (e : Fin 1024) := blk0 m hO c t r e r' (by rw [hG.own _ hl, hv, h])
    have h1 (e : Fin 1024) := blk1 m hO c t e
    have h2 (k : Fin 1024) (f : Fin 256) := blk2 m hO c t k f (hG.ex _)
    have h3 (k : Fin 1024) (f : Fin 256) := blk3 m hO c t k f (hG.ex _)
    have h4 (f : Fin 256) (d : Fin 1024) := blk4 m hO c t f d (hG.ex _)
    simp only [h0, h1, h2, h3, h4]
  · have hl : ¬ live (cntT m) (tileAt m hO t) := fun q => ha ((act_iff m hO t).mpr q)
    rw [if_neg hl, show outAt m hO c t = k0_pay5 (F := Ideal) from if_neg ha]
    exact pay5_apply r d

/-- The result. -/
def val5 (c : Dev nD) : Buf (Elt Ideal) ((c : Thread nD τ).loc main_v24) := fun (j : S44032x1024.Idx) => rowOut m c (j 0) (j 1)

/-- Where an output block's entry lies. -/
def emb5 (t : Fin (cfgM m hO).N) (y : S256x1024.Idx) : S44032x1024.Idx := (((cfgM m hO).win (5 : Fin 6)).rect t).emb y

theorem emb5_0 (t : Fin (cfgM m hO).N) (y : S256x1024.Idx) : (emb5 m hO t y 0).val = t.val * 256 + (y 0).val := by
  have e : (emb5 m hO t y 0).val = cc0_transform_5 (crd m hO t) 0 * 256 + (y 0).val := Window.rect_emb_val ((cfgM m hO).win (5 : Fin 6)) t y (0 : Fin 2)
  rw [e, tr5]
  show (crd m hO t 0).val * 256 + _ = _
  rw [show (crd m hO t 0).val = t.val from coords_val t]

theorem emb5_1 (t : Fin (cfgM m hO).N) (y : S256x1024.Idx) : (emb5 m hO t y 1).val = (y 1).val := by
  have e : (emb5 m hO t y 1).val = cc0_transform_5 (crd m hO t) 1 * 1024 + (y 1).val := Window.rect_emb_val ((cfgM m hO).win (5 : Fin 6)) t y (1 : Fin 2)
  rw [e, tr5]
  show 0 * 1024 + _ = _
  omega

theorem flushed5 (hG : Good m) (c : Dev nD) (t : Fin (cfgM m hO).N) :
    (dats m hO 0 c).flushed (5 : Fin 6) t = (((cfgM m hO).win (5 : Fin 6)).blk t).view.read (Elt Ideal) (val5 m c) := by
  show ((cfgM m hO).win (5 : Fin 6)).cut (crd m hO t) ((dats m hO 0 c).after (5 : Fin 6) t) = _
  rw [after0_5]
  funext (y : S256x1024.Idx)
  have y0 : (y 0).val < 256 := (y 0).isLt
  have y1 : (y 1).val < 1024 := (y 1).isLt
  show outAt m hO c t y = rowOut m c (emb5 m hO t y 0) (emb5 m hO t y 1)
  refine Eq.trans (congrArg _ (?_ : y = ix2 (⟨(y 0).val, y0⟩ : Fin 256) (⟨(y 1).val, y1⟩ : Fin 1024))) ?_
  · funext a; fin_cases a <;> rfl
  · refine (outAt_apply m hO hG c t _ _ (emb5 m hO t y 0) (emb5_0 m hO t y)).trans ?_
    exact congrArg _ (Fin.ext (emb5_1 m hO t y).symm)

theorem N_eq : (cfgM m hO).N = 172 := by
  show grid0.N = 172
  decide

theorem flush5 (t : Fin (cfgM m hO).N) : ((cfgM m hO).win (5 : Fin 6)).flush t = true := by
  rw [Window.flush_eq_flushOf]
  show Window.flushOf grid0 true cc0_transform_5 t = true
  have hN : grid0.N = 172 := by decide
  unfold Window.flushOf
  simp only [Bool.true_and, Bool.or_eq_true, decide_eq_true_eq]
  by_cases h : t.val + 1 = grid0.N
  · exact Or.inl h
  · refine Or.inr ⟨by have : t.val < grid0.N := t.isLt; omega, fun q => ?_⟩
    have q0 := congrFun q (0 : Fin 2)
    rw [tr5, tr5] at q0
    have q1 : (grid0.coords ⟨t.val + 1, by have : t.val < grid0.N := t.isLt; omega⟩ 0).val = (grid0.coords t 0).val := q0
    rw [coords_val, coords_val] at q1
    exact absurd q1 (Nat.succ_ne_self _)

theorem cover5 (i : S44032x1024.Idx) : ∃ t : Fin (cfgM m hO).N, ((cfgM m hO).win (5 : Fin 6)).flush t = true ∧ i ∈ (((cfgM m hO).win (5 : Fin 6)).blk t).view.set := by
  have h0 : (i 0 : ℕ) < 44032 := (i 0).isLt
  have h1 : (i 1 : ℕ) < 1024 := (i 1).isLt
  have hN : (cfgM m hO).N = 172 := N_eq m hO
  have ht : (i 0 : ℕ) / 256 < (cfgM m hO).N := by omega
  refine ⟨⟨_, ht⟩, flush5 m hO _, ?_⟩
  refine (Finset.ext_iff.mp (View.set_slice_whole main_v24 (((cfgM m hO).win (5 : Fin 6)).rect ⟨_, ht⟩)) i).mpr ?_
  refine (Window.mem_rect_iff (w := (cfgM m hO).win (5 : Fin 6)) ⟨_, ht⟩ i).mpr fun a => ?_
  have q := tr5 (crd m hO ⟨_, ht⟩)
  have hv : (crd m hO ⟨_, ht⟩ 0).val = (i 0 : ℕ) / 256 := coords_val ⟨_, ht⟩
  match a with
  | ⟨0, _⟩ =>
    show cc0_transform_5 (crd m hO ⟨_, ht⟩) 0 * 256 ≤ (i 0 : ℕ) ∧ (i 0 : ℕ) < cc0_transform_5 (crd m hO ⟨_, ht⟩) 0 * 256 + 256
    rw [q]
    show (crd m hO ⟨_, ht⟩ 0).val * 256 ≤ (i 0 : ℕ) ∧ (i 0 : ℕ) < (crd m hO ⟨_, ht⟩ 0).val * 256 + 256
    rw [hv]; omega
  | ⟨1, _⟩ =>
    show cc0_transform_5 (crd m hO ⟨_, ht⟩) 1 * 1024 ≤ (i 1 : ℕ) ∧ (i 1 : ℕ) < cc0_transform_5 (crd m hO ⟨_, ht⟩) 1 * 1024 + 1024
    rw [q]
    show 0 * 1024 ≤ (i 1 : ℕ) ∧ (i 1 : ℕ) < 0 * 1024 + 1024
    omega

theorem final5 (hG : Good m) (c : Dev nD) : (dats m hO 0 c).arrAt (5 : Fin 6) (cfgM m hO).N = val5 m c :=
  (dats m hO 0 c).arrAt_eq_of_cover (5 : Fin 6) (val5 m c) (fun t _ => flushed5 m hO hG c t) (cover5 m hO)

include hO in
/-- The run, read: the result and the arguments unchanged. -/
theorem run (hG : Good m) : θ_run defs (onTc (τ := τ) (main (F := Ideal))) ⟨m, fun _ => 0, ρ⟩ fun r => ∀ c : Dev nD,
      r.2.mem ((c : Thread nD τ).loc main_v24) = val5 m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 (5 : Fin 6)).trans (final5 m hO hG c), kept_args m hO r h.1 c⟩) (run_main_quiescent m ρ hO)

end Cert.Kernel2Ideal.Exp

end
-- ==== Proof.ExpPlan.lean ====
/- The tiles' plan in natural numbers: each expert's rows padded to whole tiles, one expert after another. -/
module

public import Idealize.ShloMosaic.Lib.PlanTiles.Rows
public import Idealize.ShloMosaic.Lib.Routing.Words
public import Mathlib.Order.Nat
public import Mathlib.Data.Nat.Count

@[expose] public section

namespace Cert.Proof.Plan

open Idealize.ShloMosaic Idealize.ShloMosaic.ValueIdx

/-- The tiles an expert's rows fill, -/
def tiles (n : ℕ → ℕ) (e : ℕ) : ℕ := (n e + 255) / 256

/-- where they end, -/
def ends (n : ℕ → ℕ) (e : ℕ) : ℕ := ((List.range (e + 1)).map (tiles n)).sum

/-- and the expert of a tile: how many experts' tiles end at or before it. -/
def chosen (n : ℕ → ℕ) (k : ℕ) : ℕ := Nat.count (fun e => ends n e ≤ k) 32

/-- The rows are some, and no more than the layer's. -/
structure Fits (n : ℕ → ℕ) : Prop where
  some : 1 ≤ ((List.range 32).map n).sum
  all : ((List.range 32).map n).sum ≤ 35840
  each : ∀ e, n e ≤ 35840

variable {n : ℕ → ℕ}

theorem ends_zero : ends n 0 = tiles n 0 := by simp [ends]

theorem ends_succ (e : ℕ) : ends n (e + 1) = ends n e + tiles n (e + 1) := by
  unfold ends
  rw [List.range_succ (n := e + 1), List.map_append, List.sum_append]
  simp

theorem ends_mono : Monotone (ends n) := monotone_nat_of_le_succ fun e => by rw [ends_succ]; exact Nat.le_add_right _ _

theorem tiles_le (e : ℕ) : tiles n e ≤ ends n e := by
  cases e with
  | zero => rw [ends_zero]
  | succ e => rw [ends_succ]; exact Nat.le_add_left _ _

theorem sum_bound (k : ℕ) : 256 * ((List.range k).map (tiles n)).sum ≤ ((List.range k).map n).sum + 255 * k
    ∧ ((List.range k).map n).sum ≤ 256 * ((List.range k).map (tiles n)).sum := by
  induction k with
  | zero => simp
  | succ k ih =>
    rw [List.range_succ, List.map_append, List.map_append, List.sum_append, List.sum_append]
    simp only [List.map_cons, List.map_nil, List.sum_cons, List.sum_nil, tiles]
    omega

/-- There is a tile, and they fit. -/
theorem total (h : Fits n) : 1 ≤ ends n 31 ∧ ends n 31 ≤ 171 := by
  have b := sum_bound (n := n) 32
  have := h.some
  have := h.all
  show 1 ≤ ((List.range 32).map (tiles n)).sum ∧ ((List.range 32).map (tiles n)).sum ≤ 171
  omega

theorem ends_le (h : Fits n) {e : ℕ} (he : e < 32) : ends n e ≤ 171 := (ends_mono (Nat.le_of_lt_succ he)).trans (total h).2

theorem tiles_lt (h : Fits n) {e : ℕ} (he : e < 32) : tiles n e ≤ 171 := (tiles_le e).trans (ends_le h he)

/-- The count of a property that holds just below a bound is the bound. -/
theorem count_eq (p : ℕ → Prop) [DecidablePred p] {e N : ℕ} (he : e ≤ N) (h : ∀ i, i < N → (p i ↔ i < e)) : Nat.count p N = e := by
  rw [Nat.count_eq_card_filter_range]
  have q : (Finset.range N).filter p = Finset.range e := by
    ext i
    simp only [Finset.mem_filter, Finset.mem_range]
    constructor
    · rintro ⟨a, b⟩; exact (h i a).mp b
    · intro a; exact ⟨lt_of_lt_of_le a he, (h i (lt_of_lt_of_le a he)).mpr a⟩
  rw [q, Finset.card_range]

/-- A tile within an expert's span is that expert's. -/
theorem chosen_eq {e k : ℕ} (he : e < 32) (h0 : ends n e - tiles n e ≤ k) (h1 : k < ends n e) : chosen n k = e := by
  refine count_eq _ (Nat.le_of_lt he) fun i _ => ⟨fun q => ?_, fun q => ?_⟩
  · by_contra w
    exact absurd (lt_of_lt_of_le h1 (ends_mono (not_lt.mp w))) (not_lt.mpr q)
  · cases e with
    | zero => exact absurd q (Nat.not_lt_zero _)
    | succ e =>
      rw [ends_succ, Nat.add_sub_cancel] at h0
      exact (ends_mono (Nat.le_of_lt_succ q)).trans h0

/-- Every tile below the last end is within its expert's span. -/
theorem span {k : ℕ} (hk : k < ends n 31) : chosen n k < 32 ∧ ends n (chosen n k) - tiles n (chosen n k) ≤ k ∧ k < ends n (chosen n k) := by
  classical
  have ex : ∃ e, k < ends n e := ⟨31, hk⟩
  have h1 := Nat.find_spec ex
  have h32 : Nat.find ex < 32 := Nat.lt_succ_of_le (Nat.find_min' ex hk)
  have h0 : ends n (Nat.find ex) - tiles n (Nat.find ex) ≤ k := by
    rcases Nat.eq_zero_or_pos (Nat.find ex) with z | z
    · rw [z, ends_zero, Nat.sub_self]; exact Nat.zero_le _
    · obtain ⟨e, he⟩ := Nat.exists_eq_succ_of_ne_zero (Nat.ne_of_gt z)
      have hm := Nat.find_min ex (m := e) (by omega)
      rw [he, Nat.succ_eq_add_one, ends_succ, Nat.add_sub_cancel]
      exact not_lt.mp hm
  have q := chosen_eq h32 h0 h1
  rw [q]
  exact ⟨h32, h0, h1⟩

/-- An expert's span, of tiles. -/
theorem span_iff {e k : ℕ} (he : e < 32) : (ends n e - tiles n e ≤ k ∧ k < ends n e) ↔ (k < ends n 31 ∧ e = chosen n k) := by
  constructor
  · rintro ⟨a, b⟩
    exact ⟨lt_of_lt_of_le b (ends_mono (Nat.le_of_lt_succ he)), (chosen_eq he a b).symm⟩
  · rintro ⟨a, rfl⟩
    exact (span a).2

/-- The words of a table of counts, -/
def num (x : IVec ⟨1, ![32]⟩ 32) (e : ℕ) : ℕ := (x (ix1 (⟨e % 32, Nat.mod_lt _ (by decide)⟩ : Fin 32))).toNat

theorem num_word (x : IVec ⟨1, ![32]⟩ 32) (i : Fin 32) : x (ix1 i) = BitVec.ofNat 32 (num x i.val) := by
  unfold num
  rw [BitVec.ofNat_toNat, BitVec.setWidth_eq]
  exact congrArg (fun j : Fin 32 => x (ix1 j)) (Fin.ext (Nat.mod_eq_of_lt i.isLt).symm)

/-- each padded to the next tile. -/
theorem pad_word (a : ℕ) : BitVec.ofNat 32 a + 256#32 - 1#32 = BitVec.ofNat 32 (a + 255) ∧ BitVec.ofNat 32 a + 255#32 = BitVec.ofNat 32 (a + 255) := by
  constructor <;> (apply BitVec.eq_of_toNat_eq; simp only [BitVec.toNat_sub, BitVec.toNat_add, BitVec.toNat_ofNat]; omega)

/-- Their tiles' words, as floor division prints, -/
theorem tiles_word (h : Fits n) (hb : (⟨0, ![]⟩ : Shape).BroadcastsInDim ⟨1, ![32]⟩ (![] : Fin 0 → Fin 1)) (v : IVec ⟨1, ![32]⟩ 32) (hv : ∀ i : Fin 32, v (ix1 i) = BitVec.ofNat 32 (n i.val + 255))
    (d : IVec ⟨0, ![]⟩ 32) (hd : d ix0 = 256#32) (i : Fin 32) : Routing.pyDiv hb v d (ix1 i) = BitVec.ofNat 32 (tiles n i.val) :=
  Routing.pyDiv_ap hb v d (ix1 i) (hv i) (b := 256) hd (by have := h.each i.val; omega) (by decide) (by decide)

/-- and their ends', as a running sum prints. -/
theorem ends_word (v : IVec ⟨1, ![32]⟩ 32) (hv : ∀ i : Fin 32, v (ix1 i) = BitVec.ofNat 32 (tiles n i.val)) (z : IVec ⟨0, ![]⟩ 32) (hz : z ix0 = 0#32)
    (hw : (⟨1, ![32]⟩ : Shape).ReduceWindows (![32] : Fin 1 → Nat) ![1] ![31] ![0] ⟨1, ![32]⟩) (hu : 0 < (⟨0, ![]⟩ : Shape).numel) (i : Fin 32) :
    Host.reduceWindow IntOp.addi ![32] ![1] ![31] ![0] v z hw hu (ix1 i) = BitVec.ofNat 32 (ends n i.val) :=
  Routing.cumsum1 (N := 32) (Nm1 := 31) rfl v (tiles n) hv z hz hw hu i

end Cert.Proof.Plan
-- ==== Proof.ExpRef.lean ====
/- The reference's expert layer, read at an index. -/
module

public import proofs.«01_k».proof.Proof.ExpSpec
public import proofs.«01_k».proof.Proof.ExpPlan
public import proofs.«01_k».proof.Proof.Gen.Reference2Ideal.Read
public import Idealize.ShloMosaic.Lib.KernelVsHost
public import Idealize.ShloMosaic.Lib.Pointwise
public import Idealize.ShloMosaic.Lib.WordCmp
public import Idealize.ShloMosaic.Lib.TwoAxisContraction

@[expose] public section

set_option maxRecDepth 16384

noncomputable section

namespace Cert.Reference2Ideal.Exp

open Cert.Reference2Ideal Cert.Reference2Ideal.Gen Cert.Reference2Ideal.Read Cert.Proof.Spec Cert.Proof.Plan
open Idealize.ShloMosaic

/-- The normed rows. -/
theorem rows (x1 : FVec Ideal S44032x1024 .f32) (x2 : FVec Ideal S1024 .f32) (r : Fin 44032) (d : Fin 1024) :
    val_main_v33 (F := Ideal) x1 x2 (ix2 r d) = normed (fun e => x1 (ix2 r e)) (fun e => x2 (ix1 e)) d := by
  unfold normed
  simp only [val_main_v33_apply, val_main_v32_apply, val_main_v31_apply, val_main_v30_apply, val_main_v29_apply, val_main_v28_apply, val_main_v27_apply, val_main_v26_apply,
    val_main_cst_4_apply, val_main_v25_apply, val_main_v24_apply, val_main_cst_3_apply, val_main_v23_apply, val_main_v22_apply, val_main_v21_apply, val_main_cst_apply]
  have e1 (k : Fin 1024) : idx_main_v22 (idx_main_v23 (idx_main_v29 (ix2 r d))) k = ix2 r k := by funext a; fin_cases a <;> rfl
  have e2 : idx_main_v31 (idx_main_v32 (ix2 r d)) = ix1 d := by funext a; fin_cases a; rfl
  have hz : FloatOps.ofBits (F := Ideal) .f32 0#32 = (0 : EReal) := Ideal.ofBits_zero_f32
  simp only [e1, e2, hz, zero_add]
  rfl

/-- The gate projections, -/
theorem gates (x1 : FVec Ideal S44032x1024 .f32) (x2 : FVec Ideal S1024 .f32) (x3 : FVec Ideal S32x1024x256 .f32) (r : Fin 44032) (e : Fin 32) (f : Fin 256) :
    val_main_v34 (F := Ideal) x1 x2 x3 (ix3 r e f) = column (normed (fun e => x1 (ix2 r e)) (fun e => x2 (ix1 e))) (fun k f => x3 (ix3 e k f)) f := by
  rw [val_main_v34_apply]
  unfold column
  refine Finset.sum_congr rfl fun k _ => congrArg₂ (· * ·) (Eq.trans (congrArg _ (?_ : _ = ix2 r k)) (rows x1 x2 r k)) (congrArg x3 ?_)
  · funext a; fin_cases a <;> rfl
  · funext a; fin_cases a <;> rfl

/-- the up projections, -/
theorem ups (x1 : FVec Ideal S44032x1024 .f32) (x2 : FVec Ideal S1024 .f32) (x4 : FVec Ideal S32x1024x256 .f32) (r : Fin 44032) (e : Fin 32) (f : Fin 256) :
    val_main_v35 (F := Ideal) x1 x2 x4 (ix3 r e f) = column (normed (fun e => x1 (ix2 r e)) (fun e => x2 (ix1 e))) (fun k f => x4 (ix3 e k f)) f := by
  rw [val_main_v35_apply]
  unfold column
  refine Finset.sum_congr rfl fun k _ => congrArg₂ (· * ·) (Eq.trans (congrArg _ (?_ : _ = ix2 r k)) (rows x1 x2 r k)) (congrArg x4 ?_)
  · funext a; fin_cases a <;> rfl
  · funext a; fin_cases a <;> rfl

/-- and the hidden rows. -/
theorem hids (x1 : FVec Ideal S44032x1024 .f32) (x2 : FVec Ideal S1024 .f32) (x3 x4 : FVec Ideal S32x1024x256 .f32) (r : Fin 44032) (e : Fin 32) (f : Fin 256) :
    val_main_v37 (F := Ideal) x1 x2 x3 x4 (ix3 r e f)
      = hidRow (normed (fun e => x1 (ix2 r e)) (fun e => x2 (ix1 e))) (fun k f => x3 (ix3 e k f)) (fun k f => x4 (ix3 e k f)) f := by
  have h1 : FloatOps.ofBits (F := Ideal) .f32 0x3F800000#32 = (1 : EReal) := Ideal.ofBits_one_f32
  rw [val_main_v37_apply, val_main_v36_apply, val_main_call2_v5_apply, val_main_call2_v4_apply, val_main_call2_cst_0_apply, val_main_call2_v3_apply, val_main_call2_v2_apply,
    val_main_call2_cst_apply, val_main_call2_v1_apply, val_main_call2_v0_apply, gates, ups, h1]
  rfl

section
variable (x0 : IVec S32 32) (h : Fits (num x0))

include h in
/-- The tiles of each expert, -/
theorem tiles_at (e : Fin 32) : val_main_v2 (F := Ideal) x0 (ix1 e) = BitVec.ofNat 32 (tiles (num x0) e.val) := by
  refine tiles_word h bcast_S_S32 (val_main_v1 (F := Ideal) x0) (fun i => ?_) (val_main_c_0 (F := Ideal)) rfl e
  rw [val_main_v1_apply, val_main_v0_apply, val_main_c_apply, num_word x0 i]
  exact (pad_word _).2

include h in
/-- where they end, -/
theorem ends_at (e : Fin 32) : val_main_v3 (F := Ideal) x0 (ix1 e) = BitVec.ofNat 32 (ends (num x0) e.val) :=
  ends_word _ (tiles_at x0 h) _ rfl reduceWindows_S32_S32_w32s1p31_0 h_S_ e

include h in
/-- and the rows that are an expert's: those of its tiles. -/
theorem combs (r : Fin 44032) (e : Fin 32) :
    val_main_v20 (F := Ideal) x0 (ix2 r e) = if r.val / 256 < ends (num x0) 31 ∧ e.val = chosen (num x0) (r.val / 256) then (1 : EReal) else 0 := by
  have hr := r.isLt
  have he := ends_le h e.isLt
  have ht := tiles_le (n := num x0) e.val
  have c0 : val_main_v12 (F := Ideal) x0 (ix2 r e) = IntOp.cmpi .sge (BitVec.ofNat 32 r.val) (BitVec.ofNat 32 (256 * (ends (num x0) e.val - tiles (num x0) e.val))) := by
    rw [val_main_v12_apply, val_main_v11_apply, val_main_v10_apply, val_main_v9_apply, val_main_v8_apply, val_main_v7_apply, val_main_v6_apply, val_main_v5_apply, val_main_v4_apply, val_main_c_1_apply]
    have i1 : idx_main_v9 (idx_main_v11 (ix2 r e)) = ix1 e := by funext a; fin_cases a; rfl
    rw [i1, tiles_at x0 h, ends_at x0 h]
    refine congrArg₂ _ rfl ?_
    show 256#32 * (BitVec.ofNat 32 _ - BitVec.ofNat 32 _) = _
    apply BitVec.eq_of_toNat_eq
    simp only [BitVec.toNat_mul, BitVec.toNat_sub, BitVec.toNat_ofNat]
    omega
  have c1 : val_main_v18 (F := Ideal) x0 (ix2 r e) = IntOp.cmpi .slt (BitVec.ofNat 32 r.val) (BitVec.ofNat 32 (256 * ends (num x0) e.val)) := by
    rw [val_main_v18_apply, val_main_v17_apply, val_main_v16_apply, val_main_v15_apply, val_main_v14_apply, val_main_v13_apply, val_main_v5_apply, val_main_v4_apply, val_main_c_2_apply]
    have i1 : idx_main_v15 (idx_main_v17 (ix2 r e)) = ix1 e := by funext a; fin_cases a; rfl
    rw [i1, ends_at x0 h]
    refine congrArg₂ _ rfl ?_
    show 256#32 * BitVec.ofNat 32 _ = _
    apply BitVec.eq_of_toNat_eq
    simp only [BitVec.toNat_mul, BitVec.toNat_ofNat]
    omega
  rw [val_main_v20_apply, val_main_v19_apply, c0, c1, WordCmp.cmpi_sge_ofNat (w := 32) (by omega) (by omega), WordCmp.cmpi_slt_ofNat (w := 32) (by omega) (by omega)]
  have hb (a b : Bool) : FloatOps.uitofp (F := Ideal) .f32 (IntOp.andi (BitVec.ofBool a) (BitVec.ofBool b)) = if a = true ∧ b = true then (1 : EReal) else 0 := by
    show (((IntOp.andi (BitVec.ofBool a) (BitVec.ofBool b)).toNat : ℝ) : EReal) = _
    cases a <;> cases b <;> simp [IntOp.andi]
  rw [hb]
  refine if_congr ?_ rfl rfl
  rw [decide_eq_true_eq, decide_eq_true_eq, ← span_iff e.isLt]
  omega

end

theorem lhs0 (i : S44032x1024.Idx) (q : dot_S44032x32x256_S32x256x1024_S44032x1024_12_01_0_2_n_n.contr.Idx) : (dot_S44032x32x256_S32x256x1024_S44032x1024_12_01_0_2_n_n.lhsIdx i q 0).val = (i 0).val := by
  unfold DotDims.lhsIdx
  rw [dif_neg (show ¬(0 : Fin S44032x32x256.rank) ∈ dot_S44032x32x256_S32x256x1024_S44032x1024_12_01_0_2_n_n.lhsBatch by decide), dif_pos (show (0 : Fin S44032x32x256.rank) ∈ dot_S44032x32x256_S32x256x1024_S44032x1024_12_01_0_2_n_n.lhsNonContracting by decide)]
  rfl
theorem lhs1 (i : S44032x1024.Idx) (q : dot_S44032x32x256_S32x256x1024_S44032x1024_12_01_0_2_n_n.contr.Idx) : (dot_S44032x32x256_S32x256x1024_S44032x1024_12_01_0_2_n_n.lhsIdx i q 1).val = (q ⟨0, by decide⟩).val := by
  unfold DotDims.lhsIdx
  rw [dif_neg (show ¬(1 : Fin S44032x32x256.rank) ∈ dot_S44032x32x256_S32x256x1024_S44032x1024_12_01_0_2_n_n.lhsBatch by decide), dif_neg (show ¬(1 : Fin S44032x32x256.rank) ∈ dot_S44032x32x256_S32x256x1024_S44032x1024_12_01_0_2_n_n.lhsNonContracting by decide)]
  rfl
theorem lhs2 (i : S44032x1024.Idx) (q : dot_S44032x32x256_S32x256x1024_S44032x1024_12_01_0_2_n_n.contr.Idx) : (dot_S44032x32x256_S32x256x1024_S44032x1024_12_01_0_2_n_n.lhsIdx i q 2).val = (q ⟨1, by decide⟩).val := by
  unfold DotDims.lhsIdx
  rw [dif_neg (show ¬(2 : Fin S44032x32x256.rank) ∈ dot_S44032x32x256_S32x256x1024_S44032x1024_12_01_0_2_n_n.lhsBatch by decide), dif_neg (show ¬(2 : Fin S44032x32x256.rank) ∈ dot_S44032x32x256_S32x256x1024_S44032x1024_12_01_0_2_n_n.lhsNonContracting by decide)]
  rfl
theorem rhs0 (i : S44032x1024.Idx) (q : dot_S44032x32x256_S32x256x1024_S44032x1024_12_01_0_2_n_n.contr.Idx) : (dot_S44032x32x256_S32x256x1024_S44032x1024_12_01_0_2_n_n.rhsIdx i q 0).val = (q ⟨0, by decide⟩).val := by
  unfold DotDims.rhsIdx
  rw [dif_neg (show ¬(0 : Fin S32x256x1024.rank) ∈ dot_S44032x32x256_S32x256x1024_S44032x1024_12_01_0_2_n_n.rhsBatch by decide), dif_neg (show ¬(0 : Fin S32x256x1024.rank) ∈ dot_S44032x32x256_S32x256x1024_S44032x1024_12_01_0_2_n_n.rhsNonContracting by decide)]
  rfl
theorem rhs1 (i : S44032x1024.Idx) (q : dot_S44032x32x256_S32x256x1024_S44032x1024_12_01_0_2_n_n.contr.Idx) : (dot_S44032x32x256_S32x256x1024_S44032x1024_12_01_0_2_n_n.rhsIdx i q 1).val = (q ⟨1, by decide⟩).val := by
  unfold DotDims.rhsIdx
  rw [dif_neg (show ¬(1 : Fin S32x256x1024.rank) ∈ dot_S44032x32x256_S32x256x1024_S44032x1024_12_01_0_2_n_n.rhsBatch by decide), dif_neg (show ¬(1 : Fin S32x256x1024.rank) ∈ dot_S44032x32x256_S32x256x1024_S44032x1024_12_01_0_2_n_n.rhsNonContracting by decide)]
  rfl
theorem rhs2 (i : S44032x1024.Idx) (q : dot_S44032x32x256_S32x256x1024_S44032x1024_12_01_0_2_n_n.contr.Idx) : (dot_S44032x32x256_S32x256x1024_S44032x1024_12_01_0_2_n_n.rhsIdx i q 2).val = (i 1).val := by
  unfold DotDims.rhsIdx
  rw [dif_neg (show ¬(2 : Fin S32x256x1024.rank) ∈ dot_S44032x32x256_S32x256x1024_S44032x1024_12_01_0_2_n_n.rhsBatch by decide), dif_pos (show (2 : Fin S32x256x1024.rank) ∈ dot_S44032x32x256_S32x256x1024_S44032x1024_12_01_0_2_n_n.rhsNonContracting by decide)]
  rfl

/-- The contraction over experts and hidden columns is the double sum. -/
theorem dots (y : FVec Ideal S44032x32x256 .f32) (x5 : FVec Ideal S32x256x1024 .f32) (r : Fin 44032) (d : Fin 1024) :
    Host.dotGeneral (F := Ideal) dot_S44032x32x256_S32x256x1024_S44032x1024_12_01_0_2_n_n none y x5 (ix2 r d)
      = ∑ e : Fin 32, ∑ f : Fin 256, y (ix3 r e f) * x5 (ix3 e f d) := by
  simp only [Host.dotGeneral]
  rw [Ideal.dotGeneral_apply, ValueIdx.sum_contr2 dot_S44032x32x256_S32x256x1024_S44032x1024_12_01_0_2_n_n 32 256 rfl rfl rfl]
  refine Finset.sum_congr rfl fun e _ => Finset.sum_congr rfl fun f _ => congrArg₂ (· * ·) (congrArg y ?_) (congrArg x5 ?_)
  · funext a
    apply Fin.ext
    match a with
    | ⟨0, _⟩ => exact lhs0 _ _
    | ⟨1, _⟩ => exact (lhs1 _ _).trans (ValueIdx.contrEquiv2_symm_val0 dot_S44032x32x256_S32x256x1024_S44032x1024_12_01_0_2_n_n 32 256 rfl rfl rfl (e, f))
    | ⟨2, _⟩ => exact (lhs2 _ _).trans (ValueIdx.contrEquiv2_symm_val1 dot_S44032x32x256_S32x256x1024_S44032x1024_12_01_0_2_n_n 32 256 rfl rfl rfl (e, f))
  · funext a
    apply Fin.ext
    match a with
    | ⟨0, _⟩ => exact (rhs0 _ _).trans (ValueIdx.contrEquiv2_symm_val0 dot_S44032x32x256_S32x256x1024_S44032x1024_12_01_0_2_n_n 32 256 rfl rfl rfl (e, f))
    | ⟨1, _⟩ => exact (rhs1 _ _).trans (ValueIdx.contrEquiv2_symm_val1 dot_S44032x32x256_S32x256x1024_S44032x1024_12_01_0_2_n_n 32 256 rfl rfl rfl (e, f))
    | ⟨2, _⟩ => exact rhs2 _ _

/-- The reference's result at an index. -/
theorem outs (x0 : IVec S32 32) (h : Fits (num x0)) (x1 : FVec Ideal S44032x1024 .f32) (x2 : FVec Ideal S1024 .f32) (x3 x4 : FVec Ideal S32x1024x256 .f32) (x5 : FVec Ideal S32x256x1024 .f32)
    (tab : Fin 172 → BitVec 32) (cnt : BitVec 32) (hc : ∀ k, live cnt k ↔ k.val < ends (num x0) 31) (ht : ∀ k : Fin 172, k.val < ends (num x0) 31 → (exOf (tab k)).val = chosen (num x0) k.val)
    (r : Fin 44032) (d : Fin 1024) :
    val_main_v41 (F := Ideal) x0 x1 x2 x3 x4 x5 (ix2 r d)
      = expertRow tab cnt (fun r e => x1 (ix2 r e)) (fun e => x2 (ix1 e)) (fun e k f => x3 (ix3 e k f)) (fun e k f => x4 (ix3 e k f)) (fun e f d => x5 (ix3 e f d)) r d := by
  unfold val_main_v41 expertRow
  rw [dots]
  have hcomb (e : Fin 32) : val_main_v20 (F := Ideal) x0 (ix2 r e) = if live cnt (tileOf r) ∧ e = exOf (tab (tileOf r)) then (1 : EReal) else 0 := by
    rw [combs x0 h r e]
    refine if_congr ?_ rfl rfl
    rw [hc, Fin.ext_iff]
    exact and_congr_right fun q => by rw [ht (tileOf r) q]; rfl
  have hh (e : Fin 32) (f : Fin 256) : val_main_v40 (F := Ideal) x0 x1 x2 x3 x4 (ix3 r e f)
      = hidRow (normed (fun e => x1 (ix2 r e)) (fun e => x2 (ix1 e))) (fun k f => x3 (ix3 e k f)) (fun k f => x4 (ix3 e k f)) f
        * (if live cnt (tileOf r) ∧ e = exOf (tab (tileOf r)) then (1 : EReal) else 0) := by
    rw [val_main_v40_apply, hids, val_main_v39_apply, val_main_v38_apply]
    refine congrArg (_ * ·) (Eq.trans (congrArg _ (?_ : _ = ix2 r e)) (hcomb e))
    funext a; fin_cases a <;> rfl
  simp only [hh]
  exact sum_chosen (live cnt (tileOf r)) (exOf (tab (tileOf r))) _ (fun e k f => x3 (ix3 e k f)) (fun e k f => x4 (ix3 e k f)) (fun e f d => x5 (ix3 e f d))
    (fun e => if live cnt (tileOf r) ∧ e = exOf (tab (tileOf r)) then 1 else 0) (fun _ => rfl) d

end Cert.Reference2Ideal.Exp

end
-- ==== Proof.ExpLook.lean ====
/- The tables the host lines look up, read at an index as the plan's natural numbers. -/
module

public import proofs.«01_k».proof.Proof.ExpTables
public import proofs.«01_k».proof.Proof.ExpPlan

@[expose] public section

set_option maxRecDepth 16384

noncomputable section

namespace Cert.Kernel2Ideal.Exp

open Cert.Kernel2Ideal Cert.Kernel2Ideal.Gen Cert.Proof.Plan
open Idealize.ShloMosaic Idealize.ShloMosaic.ValueIdx

variable (x : IVec S32 32) (h : Fits (num x))

include h in
theorem tiles_at (i : Fin 32) : tilesOf x (ix1 i) = BitVec.ofNat 32 (tiles (num x) i.val) := by
  unfold tilesOf
  refine tiles_word h bcast_S_S32 _ (fun i => ?_) _ rfl i
  rw [Routing.subi_ap, Routing.addi_ap, Routing.bc0, Routing.bc0, num_word x i]
  exact (pad_word _).1

include h in
theorem ends_at (i : Fin 32) : endsOf x (ix1 i) = BitVec.ofNat 32 (ends (num x) i.val) := by
  unfold endsOf
  exact ends_word _ (tiles_at x h) _ (Routing.bc0 bcast_S_S_ _ ValueIdx.ix0) reduceWindows_S32_S32_w32s1p31_0 h_S_ i

include h in
theorem count_at : countOf x (ix1 (0 : Fin 1)) = BitVec.ofNat 32 (ends (num x) 31) := by
  unfold countOf
  have e (i : S_.Idx) : (S_.rowMajor i).val = 0 := Nat.lt_one_iff.mp (S_.rowMajor i).isLt
  have e' (i : S1.Idx) : (S1.rowMajor i).val = 0 := Nat.lt_one_iff.mp (S1.rowMajor i).isLt
  refine (shapeCast_apply _ _ _ ValueIdx.ix0 ((e _).trans (e' _).symm)).trans ((shapeCast_apply _ _ _ (ix1 (0 : Fin 1)) ((e' _).trans (e _).symm)).trans ?_)
  exact (Routing.slice1 31 (endsOf x) slices_S32_S1_31 (0 : Fin 1) (by decide)).trans (ends_at x h 31)

include h in
theorem blocks_at (k : Fin 172) : blocksOf x (ix1 k) = BitVec.ofNat 32 (min k.val (ends (num x) 31 - 1)) := by
  have t := total h
  unfold blocksOf
  have e : broadcastInDim S172 ![0] bcast_S1_S172_0 (subi (countOf x) (broadcastInDim S1 ![] bcast_S_S1 (constantI S_ 32 1#32))) (ix1 k) = BitVec.ofNat 32 (ends (num x) 31 - 1) := by
    refine (broadcastInDim_apply _ _ _ _ (ix1 (0 : Fin 1)) fun a => ?_).trans ?_
    · match a with
      | ⟨0, _⟩ => show (0 : Nat) = if (1 : Nat) = 1 then 0 else k.val; rw [if_pos rfl]
    · rw [Routing.subi_ap, Routing.bc0, count_at x h]
      apply BitVec.eq_of_toNat_eq
      show (BitVec.ofNat 32 _ - 1#32).toNat = _
      simp only [BitVec.toNat_sub, BitVec.toNat_ofNat]
      omega
  show IntOp.minsi (BitVec.ofNat 32 k.val) _ = _
  rw [e, PlanTiles.minsi_word (by have := k.isLt; omega) (by omega), Nat.min_comm]

include h in
theorem experts_at (k : Fin 172) : expertsOf x (ix1 k) = BitVec.ofNat 32 (min (chosen (num x) (min k.val (ends (num x) 31 - 1))) 31) := by
  have t := total h
  unfold expertsOf
  have e := Routing.reduce_count (n := 172) (m := 32) (by decide) (cmpi .sge
      (broadcastInDim S172x32 ![0, 1] bcast_S172x1_S172x32_0_1 (broadcastInDim S172x1 ![0] bcast_S172_S172x1_0 (blocksOf x)))
      (broadcastInDim S172x32 ![0, 1] bcast_S1x32_S172x32_0_1 (broadcastInDim S1x32 ![1] bcast_S32_S1x32_1 (endsOf x)))) natLt_1_32 reducesTo_S172x32_S172_d1 h_S_ k
      (fun e => ends (num x) e ≤ min k.val (ends (num x) 31 - 1)) (fun q => by
        show IntOp.cmpi .sge _ _ = 1#1 ↔ _
        rw [Routing.bcRows, Routing.bcCols, blocks_at x h, ends_at x h, WordCmp.cmpi_sge_ofNat (w := 32) (by omega) (by have := ends_le h q.isLt; omega)]
        rw [WordCmp.ofBool_decide_eq_one_iff])
  show IntOp.minsi _ _ = _
  have b : (broadcastInDim S172 ![] bcast_S_S172 (constantI S_ 32 31#32) (ix1 k) : BitVec 32) = BitVec.ofNat 32 31 := Routing.bc0 _ _ _
  rw [b]
  refine (congrArg (fun z => IntOp.minsi z (BitVec.ofNat 32 31)) e).trans ?_
  have c : chosen (num x) (min k.val (ends (num x) 31 - 1)) ≤ 32 := Nat.count_le _
  exact (PlanTiles.minsi_word (lt_of_le_of_lt c (by decide)) (by decide)).trans (congrArg _ (Nat.min_comm _ _))

end Cert.Kernel2Ideal.Exp

end
-- ==== Proof.ExpSame.lean ====
/- The expert call's program and its idealized form have one text. -/
module

public import proofs.«01_k».proof.Defs
public import proofs.«01_k».proof.Proof.Gen.Kernel2.Launch
public import proofs.«01_k».proof.Proof.Gen.Kernel2Ideal.Launch

@[expose] public section

set_option maxRecDepth 16384

noncomputable section

namespace Cert.Proof.Exp

open Idealize.ShloMosaic Idealize.SL.Sem

/-- Their kernel bodies are the same, -/
theorem bodies_eq : Cert.Kernel2.defs₀ (F := Bits) = Cert.Kernel2Ideal.defs₀ (F := Bits) := by
  refine congrArg Defs.onTc ?_
  funext k a
  match k, a with
  | 0, (t, s) => rfl

/-- with them their body tables, -/
theorem tables_eq : Cert.Kernel2.defs (F := Bits) = Cert.Kernel2Ideal.defs (F := Bits) :=
  congrArg (Pipeline.defs Cert.Kernel2Ideal.pcfgs) bodies_eq

/-- and their host lines. -/
theorem mains_eq : Cert.Kernel2.main (F := Bits) = Cert.Kernel2Ideal.main (F := Bits) := by
  chain_rfl

end Cert.Proof.Exp

end
-- ==== Proof.ExpAlg.lean ====
/- The expert call computes the reference's rows over the extended reals, where the counts are those of routed tokens. -/
module

public import proofs.«01_k».proof.Defs
public import proofs.«01_k».proof.Proof.ExpValue
public import proofs.«01_k».proof.Proof.ExpRef
public import proofs.«01_k».proof.Proof.ExpLook
public import proofs.«01_k».proof.Proof.Gen.Pre_routed_counts
public import proofs.«01_k».proof.Proof.ExpSame
public import proofs.«01_k».proof.Proof.Gen.Reference2Ideal.Run
public import Idealize.ShloMosaic.Lib.ReduceAll
public import Idealize.ShloMosaic.Lib.Quiescent

@[expose] public section

set_option maxRecDepth 16384

noncomputable section

namespace Cert.Proof.Exp

open Idealize.ShloMosaic Idealize.ShloMosaic.TcCoe Idealize.SL.Sem Cert.Proof.Spec Cert.Proof.Plan
open Cert.Kernel2Ideal.Exp (tbl Ok Good val5 tix one blocks_at experts_at count_at V_blocks V_experts V_count countOf blocksOf expertsOf)

/-- A conjunction of bits is one where both are, -/
theorem both {a b : BitVec 1} (h : IntOp.andi a b = 1#1) : a = 1#1 ∧ b = 1#1 := by
  revert a b; decide

/-- a proposition's bit where it holds. -/
theorem holds {p : Prop} [Decidable p] (h : BitVec.ofBool (decide p) = 1#1) : p := by
  by_contra q
  rw [decide_eq_false q] at h
  exact absurd h (by decide)

/-- A word between zero and a small bound, both signed, is at most it as a natural number. -/
theorem upto {w b : BitVec 32} (hb : b.toNat < 2 ^ 31) (h0 : IntOp.cmpi .sge w 0#32 = 1#1) (h1 : IntOp.cmpi .sle w b = 1#1) : w.toNat ≤ b.toNat := by
  rw [WordCmp.cmpi_sge_eq] at h0
  rw [WordCmp.cmpi_sle_eq] at h1
  have q0 := holds h0
  have q1 := holds h1
  have e0 : (0#32 : BitVec 32).toInt = 0 := by decide
  rw [e0] at q0
  rw [BitVec.toInt_eq_toNat_cond] at q0 q1
  rw [BitVec.toInt_eq_toNat_cond] at q1
  have := w.isLt
  split at q0 <;> split at q1 <;> split at q1 <;> omega

/-- A small number's word is the number. -/
theorem tile_word (k : ℕ) (hk : k < 2 ^ 31) : (BitVec.ofNat 32 k).toInt = (k : ℤ) ∧ (BitVec.ofNat 32 k).toNat = k := by
  have h : (BitVec.ofNat 32 k).toNat = k := by
    rw [BitVec.toNat_ofNat]; exact Nat.mod_eq_of_lt (by omega)
  refine ⟨?_, h⟩
  rw [BitVec.toInt_eq_toNat_cond, h]
  split <;> omega

variable {F : FTy → Type} [FloatOps F]

/-- A live tile is one before the count, -/
theorem live_iff {T : ℕ} (hT : T < 2 ^ 31) (k : Fin 172) : live (BitVec.ofNat 32 T) k ↔ k.val < T := by
  show (k.val : ℤ) < (BitVec.ofNat 32 T).toInt ↔ _
  rw [(tile_word T hT).1]
  exact Int.ofNat_lt

/-- and it names its own expert. -/
theorem looked {n : ℕ → ℕ} (k : Fin 172) (hk : k.val < ends n 31) : (exOf (BitVec.ofNat 32 (min (chosen n (min k.val (ends n 31 - 1))) 31))).val = chosen n k.val := by
  have e : min k.val (ends n 31 - 1) = k.val := by omega
  have c := (span hk).1
  rw [e]
  show (BitVec.ofNat 32 (min (chosen n k.val) 31)).toNat % 32 = _
  rw [(tile_word _ (by omega)).2]
  omega

/-- The sum of boundedly many bounded numbers. -/
theorem sum_le (n : ℕ → ℕ) (b : ℕ) (hn : ∀ i, n i ≤ b) (k : ℕ) : ((List.range k).map n).sum ≤ k * b := by
  induction k with
  | zero => simp
  | succ k ih =>
    rw [List.range_succ, List.map_append, List.sum_append, List.map_singleton, List.sum_singleton, Nat.succ_mul]
    exact Nat.add_le_add ih (hn k)

/-- The precondition, read: the counts are those of at least one and at most 35840 rows. -/
theorem fits (x0 : IVec Cert.Pre_routed_counts.S32 32) (x1 : FVec F Cert.Pre_routed_counts.S44032x1024 .f32) (x2 : FVec F Cert.Pre_routed_counts.S1024 .f32)
    (x3 x4 : FVec F Cert.Pre_routed_counts.S32x1024x256 .f32) (x5 : FVec F Cert.Pre_routed_counts.S32x256x1024 .f32)
    (h : Cert.Pre_routed_counts.fn (F := F) x0 x1 x2 x3 x4 x5 = fun _ => 1#1) : Fits (num x0) := by
  haveI : Subsingleton Cert.Pre_routed_counts.S_.Idx := ⟨fun a b => funext fun k => k.elim0⟩
  have e := congrFun h ValueIdx.ix0
  obtain ⟨e1, e2⟩ := both e
  obtain ⟨e3, e4⟩ := both e1
  obtain ⟨e5, e6⟩ := both e3
  have hb (i : Fin 32) : (x0 (ix1 i)).toNat ≤ 35840 :=
    upto (b := 35840#32) (by decide) (Host.reduce_andi_all _ _ _ _ ValueIdx.ix0 e5 (ix1 i)) (Host.reduce_andi_all _ _ _ _ ValueIdx.ix0 e6 (ix1 i))
  have hn (e : ℕ) : num x0 e ≤ 35840 := hb _
  have hs : Host.reduce IntOp.addi x0 (constantI Cert.Pre_routed_counts.S_ 32 0#32) Cert.Pre_routed_counts.Facts.reducesTo_S32_S_d0 Cert.Pre_routed_counts.Facts.h_S_ ValueIdx.ix0 = BitVec.ofNat 32 (((List.range 32).map (num x0)).sum) :=
    Routing.reduce_sum x0 (num x0) (fun i => num_word x0 i) _ _
  have hl := sum_le (num x0) 35840 hn 32
  have g0 : IntOp.cmpi .sge (BitVec.ofNat 32 (((List.range 32).map (num x0)).sum)) (BitVec.ofNat 32 1) = 1#1 := (congrArg (fun z => IntOp.cmpi .sge z (BitVec.ofNat 32 1)) hs).symm.trans e4
  have g1 : IntOp.cmpi .sle (BitVec.ofNat 32 (((List.range 32).map (num x0)).sum)) (35840#32) = 1#1 := (congrArg (fun z => IntOp.cmpi .sle z (35840#32)) hs).symm.trans e2
  rw [WordCmp.cmpi_sge_ofNat (w := 32) (by omega) (by decide)] at g0
  have g0' := holds g0
  have g2 : IntOp.cmpi .sge (BitVec.ofNat 32 (((List.range 32).map (num x0)).sum)) 0#32 = 1#1 := by
    refine (WordCmp.cmpi_sge_ofNat (w := 32) (a := ((List.range 32).map (num x0)).sum) (b := 0) (by omega) (by decide)).trans ?_
    rw [decide_eq_true (Nat.zero_le _)]
    rfl
  have g1' := upto (by decide) g2 g1
  rw [(tile_word _ (by omega)).2] at g1'
  exact ⟨g0', g1', hn⟩

section
variable (m : (ℓ : Loc Cert.Kernel2Ideal.nD Cert.Kernel2Ideal.τ Cert.Kernel2Ideal.sig) → Buf (Elt F) ℓ)

/-- A tile's place in its table, and the count's in its own. -/
theorem tix_eq (k : Fin 172) : tix k = ix1 k := by
  funext a
  match a with
  | ⟨0, _⟩ => rfl
theorem one_eq : one = ix1 (0 : Fin 1) := by
  funext a
  match a with
  | ⟨0, _⟩ => rfl

/-- The experts' counts, on the one device. -/
abbrev cts : IVec Cert.Kernel2Ideal.S32 32 := (m (((0 : Dev Cert.Kernel2Ideal.nD) : Thread Cert.Kernel2Ideal.nD Cert.Kernel2Ideal.τ).loc Cert.Kernel2Ideal.main_arg0) : IVec Cert.Kernel2Ideal.S32 32)

/-- The precondition of the argument arrays. -/
abbrev Pre : Prop := Fits (num (cts m))

/-- The tables as launched are those looked up from the counts. -/
theorem tbl0 (h : Pre m) (k : Fin 172) : (tbl m 0 : Cert.Kernel2Ideal.S172.Idx → BitVec 32) (tix k) = BitVec.ofNat 32 (min k.val (ends (num (cts m)) 31 - 1)) :=
  (congrArg (tbl m 0 : Cert.Kernel2Ideal.S172.Idx → BitVec 32) (tix_eq k)).trans ((congrFun (V_blocks m 0) (ix1 k)).trans (blocks_at (cts m) h k))
theorem tbl1 (h : Pre m) (k : Fin 172) : (tbl m 1 : Cert.Kernel2Ideal.S172.Idx → BitVec 32) (tix k) = BitVec.ofNat 32 (min (chosen (num (cts m)) (min k.val (ends (num (cts m)) 31 - 1))) 31) :=
  (congrArg (tbl m 1 : Cert.Kernel2Ideal.S172.Idx → BitVec 32) (tix_eq k)).trans ((congrFun (V_experts m 0) (ix1 k)).trans (experts_at (cts m) h k))
theorem tbl2 (h : Pre m) : (tbl m 2 : Cert.Kernel2Ideal.S1.Idx → BitVec 32) one = BitVec.ofNat 32 (ends (num (cts m)) 31) :=
  (congrArg (tbl m 2 : Cert.Kernel2Ideal.S1.Idx → BitVec 32) one_eq).trans ((congrFun (V_count m 0) (ix1 (0 : Fin 1))).trans (count_at (cts m) h))

theorem pre_of (h : ∀ c : Dev Cert.Kernel2Ideal.nD, Cert.Pre_routed_counts.fn (F := F) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) = fun _ => 1#1) : Pre m :=
  fits _ _ _ _ _ _ (h 0)

theorem blk_lt (h : Pre m) (k : Fin 172) : ((tbl m 0 : Cert.Kernel2Ideal.S172.Idx → BitVec 32) (tix k)).toNat < 172 := by
  have := total h
  rw [tbl0 m h, (tile_word _ (by omega)).2]
  omega
theorem exp_lt (h : Pre m) (k : Fin 172) : ((tbl m 1 : Cert.Kernel2Ideal.S172.Idx → BitVec 32) (tix k)).toNat < 32 := by
  rw [tbl1 m h, (tile_word _ (by omega)).2]
  omega

theorem ok_pre (h : Pre m) : Ok m := Cert.Kernel2Ideal.Exp.ok_of (tbl m) (blk_lt m h) (exp_lt m h)

end

theorem good_pre (m : (ℓ : Loc Cert.Kernel2Ideal.nD Cert.Kernel2Ideal.τ Cert.Kernel2Ideal.sig) → Buf (Elt Ideal) ℓ) (h : Pre m) : Good m :=
  ⟨fun k hk => by
    have t := total h
    have hk' : live ((tbl m 2 : Cert.Kernel2Ideal.S1.Idx → BitVec 32) one) k := hk
    rw [tbl2 m h, live_iff (by omega)] at hk'
    show ((tbl m 0 : Cert.Kernel2Ideal.S172.Idx → BitVec 32) (tix k)).toNat = k.val
    rw [tbl0 m h, (tile_word _ (by omega)).2]
    omega, exp_lt m h⟩

/-- The kernel's frame: the run over any float values is the kernel's at the words. -/
theorem frame_kernel : Cert.quiescent_Kernel2 (hKernel2 := Cert.Kernel2.Gen.facts) (hPre_routed_counts := Cert.Pre_routed_counts.Gen.facts) := fun m ρ h => by
  rw [tables_eq, mains_eq]
  exact (θ_run Cert.Kernel2Ideal.defs _ _).mono (fun _ h => h) (Cert.Kernel2Ideal.Exp.frame (F := Bits) m ρ (ok_pre m (pre_of m h)))

/-- The idealized kernel's frame. -/
theorem frame_ideal : Cert.quiescent_Kernel2Ideal (hKernel2Ideal := Cert.Kernel2Ideal.Gen.facts) (hPre_routed_counts := Cert.Pre_routed_counts.Gen.facts) := fun m ρ h =>
  Cert.Kernel2Ideal.Exp.frame m ρ (ok_pre m (pre_of m h))

/-- The reference's frame. -/
theorem frame_reference : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The two programs compute the same array. -/
theorem algebraic : Cert.algebraic_Kernel2Ideal_Reference2Ideal (hKernel2Ideal := Cert.Kernel2Ideal.Gen.facts) (hReference2Ideal := Cert.Reference2Ideal.Gen.facts) (hPre_routed_counts := Cert.Pre_routed_counts.Gen.facts) := by
  intro m ρ m' ρ' hpre hagree
  have hP : Pre m := pre_of m hpre
  refine ⟨fun c => val5 m c, Cert.Kernel2Ideal.Exp.run m ρ (ok_pre m hP) (good_pre m hP), ?_⟩
  refine (θ_run Cert.Reference2Ideal.defs _ _).mono (fun _ h c => ⟨(h c).1.trans ?_, (h c).2⟩) (Cert.Reference2Ideal.Value.run (F := Ideal) m' ρ')
  rw [Cert.Reference2Ideal.Read.val_main_v41_eq]
  obtain ⟨a0, a1, a2, a3, a4, a5⟩ := hagree c
  rw [a0, a1, a2, a3, a4, a5]
  obtain rfl : c = 0 := Subsingleton.elim _ _
  refine funext fun (j : Cert.Reference2Ideal.S44032x1024.Idx) => ?_
  have ej : j = ix2 (j 0 : Fin 44032) (j 1 : Fin 1024) := by funext a; fin_cases a <;> rfl
  have t := total hP
  refine (congrArg _ ej).trans ((Cert.Reference2Ideal.Exp.outs (cts m) hP _ _ _ _ _ (Cert.Kernel2Ideal.Exp.expT m) (Cert.Kernel2Ideal.Exp.cntT m) (fun k => ?_) (fun k hk => ?_) (j 0) (j 1)).trans rfl)
  · rw [show Cert.Kernel2Ideal.Exp.cntT m = _ from tbl2 m hP]
    exact live_iff (by omega) k
  · rw [show Cert.Kernel2Ideal.Exp.expT m k = _ from tbl1 m hP k]
    exact looked k hk

end Cert.Proof.Exp

end
-- ==== Proof.PlanSpec.lean ====
/- What the planning call computes, over the extended reals, from the 17920 routing rows (lanes 0 and 1 hold a token's two
   choices of 128 experts): for each choice, how many earlier tokens chose that expert, and for each expert, how many
   tokens chose it. -/
module

public import Idealize.ShloMosaic.PureOps.Ideal
public import Idealize.ShloMosaic.Lib.WordCmp
public import Mathlib.Algebra.BigOperators.Fin
public import Mathlib.Algebra.BigOperators.Intervals

@[expose] public section

noncomputable section

namespace Cert.Proof.Ranks

open Idealize.ShloMosaic

/-- An expert's number as the choices hold it. -/
def number (l : Fin 128) : EReal := FloatOps.sitofp (F := Ideal) .f32 (BitVec.ofNat 32 l.val)

open scoped Classical in
/-- Whether one of a token's two choices is the expert: one or zero. -/
def mark (p q : EReal) (l : Fin 128) : EReal := if p = number l ∨ q = number l then 1 else 0

/-- Token `i`'s mark of an expert; no mark past the last token. -/
def markAt (x : Fin 17920 → Fin 128 → EReal) (l : Fin 128) (i : ℕ) : EReal :=
  if h : i < 17920 then mark (x ⟨i, h⟩ 0) (x ⟨i, h⟩ 1) l else 0

/-- How many of the first `n` tokens chose the expert. -/
def before (x : Fin 17920 → Fin 128 → EReal) (l : Fin 128) (n : ℕ) : EReal := ∑ i ∈ Finset.range n, markAt x l i

open scoped Classical in
/-- How many of the first `n` tokens chose the expert that `p` names; none when it names no expert. -/
def rank (x : Fin 17920 → Fin 128 → EReal) (n : ℕ) (p : EReal) : EReal := ∑ l : Fin 128, if p = number l then before x l n else 0

/-- The ranks' array: a token's two ranks in lanes 0 and 1, zeros after. -/
def ranks (x : Fin 17920 → Fin 128 → EReal) (r : Fin 17920) (j : Fin 128) : EReal :=
  if j.val = 0 then rank x r.val (x r 0) else if j.val = 1 then rank x r.val (x r 1) else 0

theorem markAt_of (x : Fin 17920 → Fin 128 → EReal) (l : Fin 128) (r : Fin 17920) : markAt x l r.val = mark (x r 0) (x r 1) l :=
  dif_pos r.isLt

/-- A mark is a real number. -/
theorem mark_real (p q : EReal) (l : Fin 128) : ∃ b : ℝ, mark p q l = (b : EReal) := by
  unfold mark
  split
  · exact ⟨1, rfl⟩
  · exact ⟨0, rfl⟩

/-- The running sum up to and including a token, less its own mark. -/
theorem before_of_through (x : Fin 17920 → Fin 128 → EReal) (l : Fin 128) (r : Fin 17920) :
    before x l (r.val + 1) - mark (x r 0) (x r 1) l = before x l r.val := by
  unfold before
  rw [Finset.sum_range_succ, markAt_of]
  obtain ⟨b, hb⟩ := mark_real (x r 0) (x r 1) l
  rw [hb]
  exact EReal.add_sub_cancel_right

/-- All tokens' marks. -/
theorem before_all (x : Fin 17920 → Fin 128 → EReal) (l : Fin 128) :
    before x l 17920 = ∑ r : Fin 17920, mark (x r 0) (x r 1) l := by
  unfold before
  rw [← Fin.sum_univ_eq_sum_range]
  exact Finset.sum_congr rfl fun r _ => markAt_of x l r

/-- The marks of a tile's first `r` tokens, after those of the tiles before it. -/
theorem before_tile (x : Fin 17920 → Fin 128 → EReal) (l : Fin 128) (t r : ℕ) (hr : r ≤ 128) :
    (∑ k : Fin 128, (if k.val < r then (1 : EReal) else 0) * markAt x l (128 * t + k.val)) + before x l (128 * t) = before x l (128 * t + r) := by
  unfold before
  rw [Finset.sum_range_add, add_comm]
  congr 1
  rw [Fin.sum_univ_eq_sum_range (fun k => (if k < r then (1 : EReal) else 0) * markAt x l (128 * t + k)) 128]
  rw [← Finset.sum_subset (Finset.range_mono hr) (fun k _ hk => by
    rw [if_neg (fun h => hk (Finset.mem_range.mpr h)), zero_mul])]
  exact Finset.sum_congr rfl fun k hk => by rw [if_pos (Finset.mem_range.mp hk), one_mul]

/-- The marks of a whole tile. -/
theorem before_next (x : Fin 17920 → Fin 128 → EReal) (l : Fin 128) (t : ℕ) :
    before x l (128 * t) + ∑ k : Fin 128, markAt x l (128 * t + k.val) = before x l (128 * (t + 1)) := by
  unfold before
  rw [Nat.mul_add, Nat.mul_one, Finset.sum_range_add, Fin.sum_univ_eq_sum_range (fun k => markAt x l (128 * t + k)) 128]

theorem before_zero (x : Fin 17920 → Fin 128 → EReal) (l : Fin 128) : before x l 0 = 0 := Finset.sum_range_zero _

/-- A comparison's bit. -/
theorem bit_eq (p q : EReal) : FloatOps.cmpf (F := Ideal) (φ := .f32) .oeq p q = 1#1 ↔ p = q := by
  show BitVec.ofBool (decide (p = q)) = 1#1 ↔ p = q
  by_cases h : p = q
  · simp [h]
  · simp [h]

/-- A bit made a float, signed after widening, -/
theorem float_wide (b : BitVec 1) : FloatOps.sitofp (F := Ideal) .f32 (b.setWidth 32) = if b = 1#1 then (1 : EReal) else 0 := by
  show (((b.setWidth 32).toInt : ℝ) : EReal) = _
  rcases BitVec.eq_zero_or_eq_one b with rfl | rfl
  · rw [if_neg (by decide)]; norm_num
  · rw [if_pos rfl]; norm_num

/-- and unsigned as it is. -/
theorem float_bit (b : BitVec 1) : FloatOps.uitofp (F := Ideal) .f32 b = if b = 1#1 then (1 : EReal) else 0 := by
  show ((b.toNat : ℝ) : EReal) = _
  rcases BitVec.eq_zero_or_eq_one b with rfl | rfl
  · rw [if_neg (by decide)]; norm_num
  · rw [if_pos rfl]; norm_num

end Cert.Proof.Ranks

end
-- ==== Proof.PlanKer.lean ====
/- The planning call's payloads read at an index, at the extended reals. -/
module

public import proofs.«01_k».proof.Proof.PlanSpec
public import proofs.«01_k».proof.Proof.Gen.Kernel3Ideal.Skeleton
public import Idealize.ShloMosaic.Lib.Pipeline.ValueKit.Tiles
public import Idealize.ShloMosaic.Lib.KernelVsHost
public import Idealize.ShloMosaic.Lib.Pointwise
public import Idealize.ShloMosaic.Lib.WordCmp

@[expose] public section

set_option maxRecDepth 16384

noncomputable section

namespace Cert.Kernel3Ideal.Ranks

open Cert.Kernel3Ideal Cert.Kernel3Ideal.Gen Cert.Proof.Ranks
open Idealize.ShloMosaic

theorem pay5_iff (x : Vec Ideal S128x128 .f32) (r l : Fin 128) : k0_pay5 (F := Ideal) x (ix2 r l) = 1#1 ↔ x (ix2 r (0 : Fin 128)) = number l := by
  have e : k0_pay5 (F := Ideal) x (ix2 r l) = FloatOps.cmpf (F := Ideal) (φ := .f32) .oeq (number l) (x (ix2 r (0 : Fin 128))) := by
    pointwise [k0_pay5, k0_pay4, number]
  rw [e, bit_eq]
  exact eq_comm

theorem pay6_iff (x : Vec Ideal S128x128 .f32) (r l : Fin 128) : k0_pay6 (F := Ideal) x (ix2 r l) = 1#1 ↔ x (ix2 r (1 : Fin 128)) = number l := by
  have e : k0_pay6 (F := Ideal) x (ix2 r l) = FloatOps.cmpf (F := Ideal) (φ := .f32) .oeq (number l) (x (ix2 r (1 : Fin 128))) := by
    pointwise [k0_pay6, k0_pay4, number]
  rw [e, bit_eq]
  exact eq_comm

/-- A row's mark of an expert. -/
theorem pay7_apply (x : Vec Ideal S128x128 .f32) (r l : Fin 128) :
    k0_pay7 (F := Ideal) x (ix2 r l) = mark (x (ix2 r (0 : Fin 128))) (x (ix2 r (1 : Fin 128))) l := by
  have e : k0_pay7 (F := Ideal) x (ix2 r l) = FloatOps.sitofp (F := Ideal) .f32 ((k0_pay5 (F := Ideal) x (ix2 r l) ||| k0_pay6 (F := Ideal) x (ix2 r l)).setWidth 32) := rfl
  rw [e, float_wide]
  unfold mark
  refine if_congr ?_ rfl rfl
  rw [← pay5_iff, ← pay6_iff]
  generalize k0_pay5 (F := Ideal) x (ix2 r l) = a
  generalize k0_pay6 (F := Ideal) x (ix2 r l) = b
  revert a b
  decide

/-- A tile's earlier rows, marked. -/
def earlier : FVec Ideal S128x128 .f32 :=
  sitofp .f32 (extui 32 (cmpi .sgt (iota .tc S128x128 32 [0] iota_S128x128_d0_w32) (iota .tc S128x128 32 [1] iota_S128x128_d1_w32)) natLt_1_32)

theorem earlier_apply (r k : Fin 128) : earlier (ix2 r k) = if k.val < r.val then (1 : EReal) else 0 := by
  have e : earlier (ix2 r k) = FloatOps.sitofp (F := Ideal) .f32 ((IntOp.cmpi .sgt (BitVec.ofNat 32 r.val) (BitVec.ofNat 32 k.val)).setWidth 32) := by
    pointwise [earlier]
  rw [e, float_wide]
  refine if_congr ?_ rfl rfl
  clear e
  revert r k
  decide +kernel

/-- The marks of the rows before each of a tile's rows, over the count `y` of the tiles before. -/
theorem pay8_apply (x : Vec Ideal S128x128 .f32) (y : Vec Ideal S1x128 .f32) (r l : Fin 128) :
    k0_pay8 (F := Ideal) x y (ix2 r l)
      = (∑ k : Fin 128, (if k.val < r.val then (1 : EReal) else 0) * mark (x (ix2 k (0 : Fin 128))) (x (ix2 k (1 : Fin 128))) l) + y (ix2 (0 : Fin 1) l) := by
  have e : k0_pay8 (F := Ideal) x y = addf (matmul dot_S128x128_S128x128_S128x128_1_0_0_1_n_n none (truncf .bf16 earlier bitsLt_bf16_f32) (truncf .bf16 (k0_pay7 x) bitsLt_bf16_f32) (constant S128x128 .f32 0x00000000#32))
    (broadcastTo S128x128 (shapeCast S1x128 y shapeCasts_S1x128_S1x128) broadcasts_S1x128_S128x128) := rfl
  rw [e]
  pointwise
  simp only [earlier_apply, pay7_apply]

/-- A tile's marks, added to the count `y` of the tiles before. -/
theorem pay2_apply (x : Vec Ideal S128x128 .f32) (y : Vec Ideal S1x128 .f32) (l : Fin 128) :
    k0_pay2 (F := Ideal) (k0_pay7 x) y (ix2 (0 : Fin 1) l)
      = y (ix2 (0 : Fin 1) l) + ∑ k : Fin 128, mark (x (ix2 k (0 : Fin 128))) (x (ix2 k (1 : Fin 128))) l := by
  generalize hz : k0_pay7 (F := Ideal) x = z
  pointwise [k0_pay2]
  subst hz
  simp only [pay7_apply]

theorem pay3_apply (l : Fin 128) : k0_pay3 (F := Ideal) (ix2 (0 : Fin 1) l) = (0 : EReal) := by
  pointwise [k0_pay3]

theorem lane_zero : ∀ j : Fin 128, IntOp.cmpi .eq (BitVec.ofNat 32 j.val) 0#32 = 1#1 ↔ j.val = 0 := by decide +kernel

theorem lane_one : ∀ j : Fin 128, IntOp.cmpi .eq (BitVec.ofNat 32 j.val) 1#32 = 1#1 ↔ j.val = 1 := by decide +kernel

open scoped Classical in
/-- The block of ranks. -/
theorem pay1_apply (x : Vec Ideal S128x128 .f32) (y : Vec Ideal S1x128 .f32) (r j : Fin 128) :
    k0_pay1 (F := Ideal) k0_pay9 (k0_pay10 x y) (k0_pay11 x y) (ix2 r j)
      = if j.val = 0 then ∑ l : Fin 128, (if x (ix2 r (0 : Fin 128)) = number l then k0_pay8 (F := Ideal) x y (ix2 r l) else 0)
        else if j.val = 1 then ∑ l : Fin 128, (if x (ix2 r (1 : Fin 128)) = number l then k0_pay8 (F := Ideal) x y (ix2 r l) else 0)
        else 0 := by
  have h5 := pay5_iff x
  have h6 := pay6_iff x
  generalize e8 : k0_pay8 (F := Ideal) x y = p8
  generalize e5 : k0_pay5 (F := Ideal) x = p5 at h5
  generalize e6 : k0_pay6 (F := Ideal) x = p6 at h6
  pointwise [k0_pay1, k0_pay9, k0_pay10, k0_pay11, e8, e5, e6]
  unfold Scalar.select
  exact if_congr (lane_zero j) (Finset.sum_congr rfl fun l _ => if_congr (h5 r l) rfl rfl)
    (if_congr (lane_one j) (Finset.sum_congr rfl fun l _ => if_congr (h6 r l) rfl rfl) rfl)

end Cert.Kernel3Ideal.Ranks

end
-- ==== Proof.PlanValue.lean ====
/- What the planning call's two result arrays hold after the run, at the extended reals: the ranks' blocks, one to a grid
   point, and the counts, which every point adds its tile's marks to. -/
module

public import proofs.«01_k».proof.Proof.PlanKer
public import proofs.«01_k».proof.Proof.Gen.Kernel3Ideal.Value
public import Idealize.ShloMosaic.Lib.Pipeline.ValueKit.Basic
public import Idealize.ShloMosaic.Lib.Tactic

@[expose] public section

set_option maxRecDepth 16384

noncomputable section

namespace Cert.Kernel3Ideal.Ranks

open Cert.Kernel3Ideal Cert.Kernel3Ideal.Gen Cert.Kernel3Ideal.Value Cert.Proof.Ranks
open Idealize.ShloMosaic Idealize.ShloMosaic.TcCoe Idealize.ShloMosaic.Tactic Idealize.SL.Sem
open Idealize.ShloMosaic.Pipeline (Dat)

theorem hz : (![0, 0] : Fin 2 → ℕ) = fun _ => 0 := by funext a; fin_cases a <;> rfl

section Cases

variable (c : Dev nD) (i : grid0.Coords) (a1 : Memref sig .tc .vmem S128x128 .f32) (h1 : a1.IsWhole)
  (a2 : Memref sig .tc .vmem S128x128 .f32) (h2 : a2.IsWhole) (a3 : Memref sig .tc .vmem S1x128 .f32) (h3 : a3.IsWhole)

/-- A later point's block of ranks, over the counts `y` before it, -/
theorem ranks_B (hc : ¬cond0_0 i) (x : Vec Ideal S128x128 .f32) (y : Vec Ideal S1x128 .f32) :
    out0_B_1 c i a1 h1 a2 h2 a3 h3 hc x y = k0_pay1 k0_pay9 (k0_pay10 x y) (k0_pay11 x y) := by
  unfold out0_B_1
  rw [View.read_writes_eq_canon _ _ _ (cover0_B_1 c i a1 h1 a2 h2 a3 h3 hc x y)]
  unfold kernelRun0_B
  dsimp only
  sl_unfold_words
  rw [View.canon_unit_zero hz]
  simp only [View.readAt_eq_ld, h1.read_unread, h3.read_unread, View.ld_unit_zero (S := S128x128) hz, View.ld_unit_zero (S := S1x128) hz]

/-- and the counts after it. -/
theorem counts_B (hc : ¬cond0_0 i) (x : Vec Ideal S128x128 .f32) (y : Vec Ideal S1x128 .f32) :
    out0_B_2 c i a1 h1 a2 h2 a3 h3 hc x y = k0_pay2 (k0_pay7 x) y := by
  unfold out0_B_2
  rw [View.read_writes_eq_canon _ _ _ (cover0_B_2 c i a1 h1 a2 h2 a3 h3 hc x y)]
  unfold kernelRun0_B
  dsimp only
  sl_unfold_words
  rw [View.canon_unit_zero hz]
  simp only [View.readAt_eq_ld, h1.read_unread, h3.read_unread, View.ld_unit_zero (S := S128x128) hz, View.ld_unit_zero (S := S1x128) hz]

/-- The first point's block of ranks, over no counts, -/
theorem ranks_A (hc : cond0_0 i) (x : Vec Ideal S128x128 .f32) :
    out0_A_1 c i a1 h1 a2 h2 a3 h3 hc x = k0_pay1 k0_pay9 (k0_pay10 x (k0_pay3 (F := Ideal))) (k0_pay11 x (k0_pay3 (F := Ideal))) := by
  unfold out0_A_1
  rw [View.read_writes_eq_canon _ _ _ (cover0_A_1 c i a1 h1 a2 h2 a3 h3 hc x)]
  unfold kernelRun0_A
  dsimp only
  sl_unfold_words
  rw [View.canon_unit_zero hz, View.readCov_unit_zero (S := S1x128) _ hz]
  simp only [View.readAt_eq_ld, h1.read_unread, View.ld_unit_zero (S := S128x128) hz]

/-- and the counts after it. -/
theorem counts_A (hc : cond0_0 i) (x : Vec Ideal S128x128 .f32) :
    out0_A_2 c i a1 h1 a2 h2 a3 h3 hc x = k0_pay2 (k0_pay7 x) (k0_pay3 (F := Ideal)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S128x128) hz]

end Cases

variable (m : (ℓ : Loc nD τ sig) → Buf (Elt Ideal) ℓ) (ρ : Dev nD → PrngReg)

/-- The routing rows as a function of plain coordinates. -/
abbrev in0 (c : Dev nD) (r : Fin 17920) (j : Fin 128) : EReal := (m ((c : Thread nD τ).loc main_arg0) : S17920x128.Idx → EReal) (ix2 r j)

theorem idx0_0 : ∀ t : Fin grid0.N, win0_0.index t 0 = t.val ∧ win0_0.index t 1 = 0 := by decide +kernel
theorem idx0_1 : ∀ t : Fin grid0.N, win0_1.index t 0 = t.val ∧ win0_1.index t 1 = 0 := by decide +kernel
theorem idx0_2 : ∀ t : Fin grid0.N, win0_2.index t 0 = 0 ∧ win0_2.index t 1 = 0 := by decide +kernel

theorem blk0 (c : Dev nD) (t : Fin cfg0.N) (r j : Fin 128) (r' : Fin 17920) (h : r'.val = 128 * t.val + r.val) :
    (iblk m c 0 t : S128x128.Idx → EReal) (ix2 r j) = in0 m c r' j := by
  unfold iblk
  show (V m c main_arg0) ((win0_0.rect t).emb (ix2 r j)) = _
  rw [V_main_arg0]
  refine congrArg _ (funext fun a => Fin.ext ?_)
  refine (Pipeline.Window.rect_emb_val win0_0 t _ a).trans ?_
  match a with
  | ⟨0, _⟩ => show win0_0.index t 0 * 128 + r.val = r'.val; rw [(idx0_0 t).1, h]; omega
  | ⟨1, _⟩ => show win0_0.index t 1 * 128 + j.val = j.val; rw [(idx0_0 t).2]; omega

/-- A tile's marks are the launch's. -/
theorem mark_blk (c : Dev nD) (t : Fin cfg0.N) (k l : Fin 128) :
    mark ((iblk m c 0 t : S128x128.Idx → EReal) (ix2 k (0 : Fin 128))) ((iblk m c 0 t : S128x128.Idx → EReal) (ix2 k (1 : Fin 128))) l = markAt (in0 m c) l (128 * t.val + k.val) := by
  have hN : cfg0.N = 140 := N_0
  have ht := t.isLt
  have hk := k.isLt
  have hlt : 128 * t.val + k.val < 17920 := by omega
  rw [blk0 m c t k 0 ⟨128 * t.val + k.val, hlt⟩ rfl, blk0 m c t k 1 ⟨128 * t.val + k.val, hlt⟩ rfl]
  exact (markAt_of (in0 m c) l ⟨128 * t.val + k.val, hlt⟩).symm

/-- A point's counts, from the counts `y` of the tiles before it. -/
theorem counts_step (c : Dev nD) (t : Fin cfg0.N) (y : Vec Ideal S1x128 .f32) (hy : ∀ l : Fin 128, y (ix2 (0 : Fin 1) l) = before (in0 m c) l (128 * t.val)) (l : Fin 128) :
    k0_pay2 (F := Ideal) (k0_pay7 (iblk m c 0 t)) y (ix2 (0 : Fin 1) l) = before (in0 m c) l (128 * (t.val + 1)) := by
  rw [pay2_apply, hy, ← before_next]
  exact congrArg _ (Finset.sum_congr rfl fun k _ => mark_blk m c t k l)

/-- A point's ranks, from the counts `y` of the tiles before it. -/
theorem ranks_step (c : Dev nD) (t : Fin cfg0.N) (y : Vec Ideal S1x128 .f32) (hy : ∀ l : Fin 128, y (ix2 (0 : Fin 1) l) = before (in0 m c) l (128 * t.val))
    (r j : Fin 128) (r' : Fin 17920) (h : r'.val = 128 * t.val + r.val) :
    k0_pay1 (F := Ideal) k0_pay9 (k0_pay10 (iblk m c 0 t) y) (k0_pay11 (iblk m c 0 t) y) (ix2 r j) = ranks (in0 m c) r' j := by
  have e (l : Fin 128) : k0_pay8 (F := Ideal) (iblk m c 0 t) y (ix2 r l) = before (in0 m c) l r'.val := by
    rw [pay8_apply, hy, h, ← before_tile (in0 m c) l t.val r.val (Nat.le_of_lt r.isLt)]
    exact congrArg (· + _) (Finset.sum_congr rfl fun k _ => congrArg _ (mark_blk m c t k l))
  rw [pay1_apply]
  unfold ranks rank
  simp only [e]
  rw [blk0 m c t r 0 r' h, blk0 m c t r 1 r' h]

/-- The counts after a point are the marks of its rows and all before. -/
theorem counts_at (c : Dev nD) : ∀ (n : ℕ) (hn : n < cfg0.N) (l : Fin 128), (outsAt0 m c n hn).2 (ix2 (0 : Fin 1) l) = before (in0 m c) l (128 * (n + 1))
  | 0, hn, l => by
    rw [outsAt0_A m c ⟨0, hn⟩ rfl]
    dsimp only
    rw [counts_A]
    exact counts_step m c ⟨0, hn⟩ _ (fun l => (pay3_apply l).trans (before_zero (in0 m c) l).symm) l
  | n + 1, hn, l => by
    have hN : cfg0.N = 140 := N_0
    have hB : ¬(⟨n + 1, hn⟩ : Fin cfg0.N).val % 140 = 0 := by dsimp only; omega
    rw [outsAt0_B m c ⟨n + 1, hn⟩ hB]
    dsimp only
    rw [counts_B]
    exact counts_step m c ⟨n + 1, hn⟩ _ (fun l => counts_at c n (Nat.lt_of_succ_lt hn) l) l

/-- The ranks a point leaves are its rows'. -/
theorem ranks_at (c : Dev nD) (t : Fin cfg0.N) (r j : Fin 128) (r' : Fin 17920) (h : r'.val = 128 * t.val + r.val) :
    (outsAt0 m c t.val t.isLt).1 (ix2 r j) = ranks (in0 m c) r' j := by
  have hN : cfg0.N = 140 := N_0
  have ht := t.isLt
  by_cases h0 : t.val % 140 = 0
  · have hz0 : t.val = 0 := by omega
    rw [outsAt0_A m c t h0]
    dsimp only
    rw [ranks_A]
    exact ranks_step m c t _ (fun l => (pay3_apply l).trans (by rw [hz0, Nat.mul_zero]; exact (before_zero (in0 m c) l).symm)) r j r' h
  · rw [outsAt0_B m c t h0]
    dsimp only
    rw [ranks_B]
    refine ranks_step m c t _ (fun l => ?_) r j r' h
    rw [counts_at m c (t.val - 1) (by omega) l, show t.val - 1 + 1 = t.val from by omega]

/-- The ranks' array, -/
def val1 (c : Dev nD) : Buf (Elt Ideal) ((c : Thread nD τ).loc main_v0_0) := fun (j : S17920x128.Idx) => ranks (in0 m c) (j 0) (j 1)

/-- and the counts'. -/
def val2 (c : Dev nD) : Buf (Elt Ideal) ((c : Thread nD τ).loc main_v0_1) := fun (j : S1x128.Idx) => before (in0 m c) (j 1) 17920

theorem flushes1 (c : Dev nD) (t : Fin cfg0.N) : (dats m 0 c).flushed 1 t = (win0_1.blk t).view.read (Elt Ideal) (val1 m c) := by
  rw [flushed1]
  have hN : cfg0.N = 140 := N_0
  have ht := t.isLt
  funext (y : S128x128.Idx)
  have y0 : (y 0).val < 128 := (y 0).isLt
  have y1 : (y 1).val < 128 := (y 1).isLt
  have e0 : (((win0_1.rect t).emb y) 0).val = win0_1.index t 0 * 128 + (y 0).val := Pipeline.Window.rect_emb_val win0_1 t y 0
  have e1 : (((win0_1.rect t).emb y) 1).val = win0_1.index t 1 * 128 + (y 1).val := Pipeline.Window.rect_emb_val win0_1 t y 1
  rw [(idx0_1 t).1] at e0
  rw [(idx0_1 t).2] at e1
  show (outsAt0 m c t.val t.isLt).1 y = val1 m c ((win0_1.rect t).emb y)
  unfold val1
  refine Eq.trans (congrArg _ (?_ : _ = ix2 (⟨(y 0).val, y0⟩ : Fin 128) (⟨(y 1).val, y1⟩ : Fin 128))) ?_
  · funext a; fin_cases a <;> rfl
  · refine (ranks_at m c t _ _ (((win0_1.rect t).emb y) 0) (by show (((win0_1.rect t).emb y) 0).val = 128 * t.val + (y 0).val; omega)).trans ?_
    refine congrArg _ (Fin.ext ?_)
    show (y 1).val = (((win0_1.rect t).emb y) 1).val
    omega

theorem flushes2 (c : Dev nD) (t : Fin cfg0.N) (hf : t.val % 140 = 139) : (dats m 0 c).flushed 2 t = (win0_2.blk t).view.read (Elt Ideal) (val2 m c) := by
  rw [flushed2]
  have hN : cfg0.N = 140 := N_0
  have ht := t.isLt
  funext (y : S1x128.Idx)
  have y0 : (y 0).val < 1 := (y 0).isLt
  have y1 : (y 1).val < 128 := (y 1).isLt
  have e1 : (((win0_2.rect t).emb y) 1).val = win0_2.index t 1 * 128 + (y 1).val := Pipeline.Window.rect_emb_val win0_2 t y 1
  rw [(idx0_2 t).2] at e1
  have read (g : S1x128.Idx → EReal) (h : (outsAt0 m c t.val t.isLt).2 y = g ((win0_2.rect t).emb y)) :
      (cfg0.win 2).cut (grid0.coords t) ((outsAt0 m c t.val t.isLt).2) y = (win0_2.blk t).view.read (Elt Ideal) g y := h
  refine read (val2 m c) ?_
  unfold val2
  refine Eq.trans (congrArg _ (?_ : _ = ix2 (0 : Fin 1) (⟨(y 1).val, y1⟩ : Fin 128))) ?_
  · funext a
    match a with
    | ⟨0, _⟩ => exact Fin.ext (by show (y 0).val = 0; omega)
    | ⟨1, _⟩ => rfl
  · refine (counts_at m c t.val t.isLt _).trans ?_
    rw [show 128 * (t.val + 1) = 17920 from by omega]
    refine congrArg (fun l => before (in0 m c) l 17920) (Fin.ext ?_)
    show (y 1).val = (((win0_2.rect t).emb y) 1).val
    omega

theorem cover1 (i : S17920x128.Idx) : ∃ t : Fin cfg0.N, (cfg0.win 1).flush t = true ∧ i ∈ ((cfg0.win 1).blk t).view.set := by
  have h0 : (i 0 : ℕ) < 17920 := (i 0).isLt
  have h1 : (i 1 : ℕ) < 128 := (i 1).isLt
  have hN : cfg0.N = 140 := N_0
  have ht : (i 0 : ℕ) / 128 < cfg0.N := by omega
  refine ⟨⟨_, ht⟩, flush0_1 _, ?_⟩
  show i ∈ ((View.whole main_v0_0).slice (win0_1.rect ⟨_, ht⟩)).set
  rw [View.set_slice_whole, Pipeline.Window.mem_rect_iff (w := win0_1)]
  have e := idx0_1 ⟨_, ht⟩
  intro a
  match a with
  | ⟨0, _⟩ => show win0_1.index ⟨_, ht⟩ 0 * 128 ≤ (i 0 : ℕ) ∧ (i 0 : ℕ) < win0_1.index ⟨_, ht⟩ 0 * 128 + 128; rw [e.1]; dsimp only; omega
  | ⟨1, _⟩ => show win0_1.index ⟨_, ht⟩ 1 * 128 ≤ (i 1 : ℕ) ∧ (i 1 : ℕ) < win0_1.index ⟨_, ht⟩ 1 * 128 + 128; rw [e.2]; omega

theorem cover2 (i : S1x128.Idx) : ∃ t : Fin cfg0.N, (cfg0.win 2).flush t = true ∧ i ∈ ((cfg0.win 2).blk t).view.set := by
  have h0 : (i 0 : ℕ) < 1 := (i 0).isLt
  have h1 : (i 1 : ℕ) < 128 := (i 1).isLt
  have ht : 139 < cfg0.N := by rw [show cfg0.N = 140 from N_0]; decide
  refine ⟨⟨139, ht⟩, (flush0_2 _).mpr rfl, ?_⟩
  show i ∈ ((View.whole main_v0_1).slice (win0_2.rect ⟨139, ht⟩)).set
  rw [View.set_slice_whole, Pipeline.Window.mem_rect_iff (w := win0_2)]
  have e := idx0_2 ⟨139, ht⟩
  intro a
  match a with
  | ⟨0, _⟩ => show win0_2.index ⟨139, ht⟩ 0 * 1 ≤ (i 0 : ℕ) ∧ (i 0 : ℕ) < win0_2.index ⟨139, ht⟩ 0 * 1 + 1; rw [e.1]; omega
  | ⟨1, _⟩ => show win0_2.index ⟨139, ht⟩ 1 * 128 ≤ (i 1 : ℕ) ∧ (i 1 : ℕ) < win0_2.index ⟨139, ht⟩ 1 * 128 + 128; rw [e.2]; omega

theorem final1 (c : Dev nD) : (dats m 0 c).arrAt 1 cfg0.N = val1 m c :=
  (dats m 0 c).arrAt_eq_of_cover 1 (val1 m c) (fun t _ => flushes1 m c t) cover1

theorem final2 (c : Dev nD) : (dats m 0 c).arrAt 2 cfg0.N = val2 m c :=
  (dats m 0 c).arrAt_eq_of_cover 2 (val2 m c) (fun t ht => flushes2 m c t ((flush0_2 t).mp ht)) cover2

/-- The run, read: both results and the argument unchanged. -/
theorem run : θ_run defs (onTc (τ := τ) (main (F := Ideal))) ⟨m, fun _ => 0, ρ⟩ fun r => ∀ c : Dev nD,
      r.2.mem ((c : Thread nD τ).loc main_v0_0) = val1 m c
      ∧ r.2.mem ((c : Thread nD τ).loc main_v0_1) = val2 m c
      ∧ r.2.mem ((c : Thread nD τ).loc main_arg0) = m ((c : Thread nD τ).loc main_arg0) :=
  (θ_run defs _ _).mono (fun _ h c => ⟨(h c).1.trans (final1 m c), (h c).2.1.trans (final2 m c), (h c).2.2⟩) (run_blocks m ρ)

end Cert.Kernel3Ideal.Ranks

end
-- ==== Proof.PlanRef.lean ====
/- The reference's ranks and counts, read at an index. -/
module

public import proofs.«01_k».proof.Proof.PlanSpec
public import proofs.«01_k».proof.Proof.Gen.Reference3Ideal.Read
public import Idealize.ShloMosaic.Lib.KernelVsHost
public import Idealize.ShloMosaic.Lib.Pointwise
public import Idealize.ShloMosaic.Lib.Routing.OpsOne

@[expose] public section

set_option maxRecDepth 16384

noncomputable section

namespace Cert.Reference3Ideal.Ranks

open Cert.Reference3Ideal Cert.Reference3Ideal.Gen Cert.Reference3Ideal.Read Cert.Proof.Ranks
open Idealize.ShloMosaic

variable (x : FVec Ideal S17920x128 .f32)

/-- The rows as a function of plain coordinates. -/
abbrev rowsOf : Fin 17920 → Fin 128 → EReal := fun r j => x (ix2 r j)

open scoped Classical in
theorem first_apply (r : Fin 17920) (l : Fin 128) : val_main_v7 (F := Ideal) x (ix2 r l) = if x (ix2 r (0 : Fin 128)) = number l then (1 : EReal) else 0 := by
  rw [val_main_v7_apply, float_bit, val_main_v6_apply]
  refine if_congr ((bit_eq _ _).trans ?_) rfl rfl
  simp only [val_main_v4_apply, val_main_v0_apply, val_main_v5_apply, val_main_v3_apply, val_main_v2_apply, val_main_v1_apply]
  have e : idx_main_v0 (idx_main_v4 (ix2 r l)) = ix2 r (0 : Fin 128) := by funext a; fin_cases a <;> rfl
  rw [e]
  exact Iff.rfl

open scoped Classical in
theorem second_apply (r : Fin 17920) (l : Fin 128) : val_main_v15 (F := Ideal) x (ix2 r l) = if x (ix2 r (1 : Fin 128)) = number l then (1 : EReal) else 0 := by
  rw [val_main_v15_apply, float_bit, val_main_v14_apply]
  refine if_congr ((bit_eq _ _).trans ?_) rfl rfl
  simp only [val_main_v12_apply, val_main_v8_apply, val_main_v13_apply, val_main_v11_apply, val_main_v10_apply, val_main_v9_apply]
  have e : idx_main_v8 (idx_main_v12 (ix2 r l)) = ix2 r (1 : Fin 128) := by funext a; fin_cases a <;> rfl
  rw [e]
  exact Iff.rfl

/-- A token's mark: the greater of its two one-hot rows. -/
theorem mark_apply (r : Fin 17920) (l : Fin 128) : val_main_v16 (F := Ideal) x (ix2 r l) = mark (x (ix2 r (0 : Fin 128))) (x (ix2 r (1 : Fin 128))) l := by
  classical
  rw [val_main_v16_apply, first_apply, second_apply]
  show max (if _ then (1 : EReal) else 0) (if _ then (1 : EReal) else 0) = _
  unfold mark
  by_cases h0 : x (ix2 r (0 : Fin 128)) = number l
  · rw [if_pos h0, if_pos (Or.inl h0)]
    split
    · exact max_self _
    · exact max_eq_left zero_le_one
  · rw [if_neg h0]
    by_cases h1 : x (ix2 r (1 : Fin 128)) = number l
    · rw [if_pos h1, if_pos (Or.inr h1)]
      exact max_eq_right zero_le_one
    · rw [if_neg h1, if_neg (fun h => h.elim h0 h1)]
      exact max_self _

/-- A left fold that adds is a sum. -/
theorem fold_add {ι : Type} (f : ι → EReal) (L : List ι) (z : EReal) : L.foldl (fun a k => a + f k) z = z + (L.map f).sum := by
  induction L generalizing z with
  | nil => exact (add_zero z).symm
  | cons k L ih => rw [List.foldl_cons, ih, List.map_cons, List.sum_cons, add_assoc]

/-- A list's sum over a range is the range's sum. -/
theorem range_sum (f : ℕ → EReal) (n : ℕ) : ((List.range n).map f).sum = ∑ i ∈ Finset.range n, f i := by
  induction n with
  | zero => rfl
  | succ n ih => rw [List.range_succ, List.map_append, List.sum_append, ih, Finset.sum_range_succ]; simp

/-- The last `r + 1` places of a window that ends at row `r` are rows `0` to `r`; the others are padding. -/
theorem window_sum (f : ℕ → EReal) (r : ℕ) (hr : r < 17920) :
    (∑ n ∈ Finset.range 17920, if 17919 ≤ r + n then f (r + n - 17919) else 0) = ∑ i ∈ Finset.range (r + 1), f i := by
  rw [show 17920 = (17919 - r) + (r + 1) from by omega, Finset.sum_range_add,
    Finset.sum_eq_zero (fun n hn => if_neg (by have := Finset.mem_range.mp hn; omega)), zero_add]
  refine Finset.sum_congr rfl fun i _ => ?_
  rw [if_pos (by omega)]
  exact congrArg f (by omega)

/-- The running sum down the rows, through a row. -/
theorem through_apply (r : Fin 17920) (l : Fin 128) : val_main_v17 (F := Ideal) x (ix2 r l) = before (rowsOf x) l (r.val + 1) := by
  have hx (i : Fin 17920) : val_main_v16 (F := Ideal) x (ix2 i l) = markAt (rowsOf x) l i.val := (mark_apply x i l).trans (markAt_of (rowsOf x) l i).symm
  have hr := r.isLt
  unfold val_main_v17
  generalize val_main_v16 (F := Ideal) x = y at hx
  have hi : val_main_call0_call0_v0 (F := Ideal) (Shape.Idx.first h_S_) = (0 : EReal) := by
    rw [val_main_call0_call0_v0_apply, val_main_call0_call0_cst_apply]
    exact Ideal.ofBits_zero_f32
  unfold Host.reduceWindowAdd
  rw [hi, Ideal.hostReduceWindowAdd_def]
  unfold Ideal.hostReduceWindowAdd Host.reduceWindow
  dsimp only
  rw [fold_add, zero_add, List.map_congr_left (g := fun n : Fin _ => if 17919 ≤ r.val + n.val then markAt (rowsOf x) l (r.val + n.val - 17919) else 0) (fun n _ => ?_)]
  · rw [Routing.map_finRange_val _ (fun n => if 17919 ≤ r.val + n then markAt (rowsOf x) l (r.val + n - 17919) else 0)]
    refine (range_sum _ _).trans ?_
    rw [show (Shape.numel ⟨2, ![17920, 1]⟩) = 17920 from Routing.numel_col 17920]
    exact window_sum (markAt (rowsOf x) l) r.val hr
  · have hn : n.val < 17920 := lt_of_lt_of_eq n.isLt (Routing.numel_col 17920)
    have w0 : ((Shape.rowMajor ⟨2, ![17920, 1]⟩).symm n (0 : Fin 2)).val = n.val := congrArg (fun q : Shape.Idx ⟨2, ![17920, 1]⟩ => (q (0 : Fin 2)).val) (Routing.symm_col (R := 17920) n)
    have w1 : ((Shape.rowMajor ⟨2, ![17920, 1]⟩).symm n (1 : Fin 2)).val = 0 := congrArg (fun q : Shape.Idx ⟨2, ![17920, 1]⟩ => (q (1 : Fin 2)).val) (Routing.symm_col (R := 17920) n)
    by_cases h : 17919 ≤ r.val + n.val
    · rw [if_pos h, dif_pos (fun a => match a with
        | ⟨0, _⟩ => by
          show 17919 ≤ r.val * 1 + ((Shape.rowMajor ⟨2, ![17920, 1]⟩).symm n (0 : Fin 2)).val ∧ r.val * 1 + ((Shape.rowMajor ⟨2, ![17920, 1]⟩).symm n (0 : Fin 2)).val - 17919 < 17920
          rw [w0]; omega
        | ⟨1, _⟩ => by
          have hl := l.isLt
          show 0 ≤ l.val * 1 + ((Shape.rowMajor ⟨2, ![17920, 1]⟩).symm n (1 : Fin 2)).val ∧ l.val * 1 + ((Shape.rowMajor ⟨2, ![17920, 1]⟩).symm n (1 : Fin 2)).val - 0 < 128
          rw [w1]; omega)]
      refine Eq.trans (congrArg y (?_ : _ = ix2 (⟨r.val + n.val - 17919, by omega⟩ : Fin 17920) l)) (hx _)
      funext a
      apply Fin.ext
      match a with
      | ⟨0, _⟩ => show r.val * 1 + ((Shape.rowMajor ⟨2, ![17920, 1]⟩).symm n (0 : Fin 2)).val - 17919 = r.val + n.val - 17919; rw [w0, Nat.mul_one]
      | ⟨1, _⟩ => show l.val * 1 + ((Shape.rowMajor ⟨2, ![17920, 1]⟩).symm n (1 : Fin 2)).val - 0 = l.val; rw [w1]; omega
    · rw [if_neg h, dif_neg fun hin => h ?_]
      have q : 17919 ≤ r.val * 1 + ((Shape.rowMajor ⟨2, ![17920, 1]⟩).symm n (0 : Fin 2)).val := (hin (0 : Fin 2)).1
      rw [w0] at q
      omega

/-- The marks of the rows before a row. -/
theorem before_apply (r : Fin 17920) (l : Fin 128) : val_main_v18 (F := Ideal) x (ix2 r l) = before (rowsOf x) l r.val := by
  rw [val_main_v18_apply, through_apply, mark_apply]
  exact before_of_through (rowsOf x) l r

/-- A choice's one-hot row times the marks before, summed. -/
theorem first_rank (r : Fin 17920) : val_main_v20 (F := Ideal) x (ValueIdx.ix1 r) = rank (rowsOf x) r.val (x (ix2 r (0 : Fin 128))) := by
  rw [val_main_v20_apply, show val_main_cst (F := Ideal) (Shape.Idx.first h_S_) = (0 : EReal) from Ideal.ofBits_zero_f32, zero_add]
  unfold rank
  refine Finset.sum_congr rfl fun l _ => ?_
  have e : idx_main_v20 (ValueIdx.ix1 r) l = ix2 r l := by funext a; fin_cases a <;> rfl
  rw [e, val_main_v19_apply, first_apply, before_apply]
  show (if _ then (1 : EReal) else 0) * _ = _
  split
  · exact one_mul _
  · exact zero_mul _

theorem second_rank (r : Fin 17920) : val_main_v22 (F := Ideal) x (ValueIdx.ix1 r) = rank (rowsOf x) r.val (x (ix2 r (1 : Fin 128))) := by
  rw [val_main_v22_apply, show val_main_cst_0 (F := Ideal) (Shape.Idx.first h_S_) = (0 : EReal) from Ideal.ofBits_zero_f32, zero_add]
  unfold rank
  refine Finset.sum_congr rfl fun l _ => ?_
  have e : idx_main_v22 (ValueIdx.ix1 r) l = ix2 r l := by funext a; fin_cases a <;> rfl
  rw [e, val_main_v21_apply, second_apply, before_apply]
  show (if _ then (1 : EReal) else 0) * _ = _
  split
  · exact one_mul _
  · exact zero_mul _

/-- The array of ranks. -/
theorem ranks_apply (r : Fin 17920) (j : Fin 128) : val_main_v26 (F := Ideal) x (ix2 r j) = ranks (rowsOf x) r j := by
  have h0 : val_main_v23 (F := Ideal) x (ix2 r (0 : Fin 1)) = rank (rowsOf x) r.val (x (ix2 r (0 : Fin 128))) := by
    rw [val_main_v23_apply, ← first_rank]
    exact congrArg _ (by funext a; fin_cases a; rfl)
  have h1 : val_main_v24 (F := Ideal) x (ix2 r (0 : Fin 1)) = rank (rowsOf x) r.val (x (ix2 r (1 : Fin 128))) := by
    rw [val_main_v24_apply, ← second_rank]
    exact congrArg _ (by funext a; fin_cases a; rfl)
  have hp (i : S_.Idx) : val_main_call1_v0 (F := Ideal) i = (0 : EReal) := by
    rw [val_main_call1_v0_apply, val_main_c_apply]
    show (((0#32).toInt : ℝ) : EReal) = 0
    norm_num
  unfold val_main_v26 val_main_v25 ranks
  generalize val_main_v23 (F := Ideal) x = a at h0
  generalize val_main_v24 (F := Ideal) x = b at h1
  generalize val_main_call1_v0 (F := Ideal) = z at hp
  pointwise
  by_cases j0 : j.val = 0
  · rw [if_pos j0, dif_pos (by omega), dif_pos (by omega)]
    refine Eq.trans (congrArg a ?_) h0
    exact congrArg (ix2 r) (Fin.ext j0)
  · rw [if_neg j0]
    by_cases j1 : j.val = 1
    · rw [if_pos j1, dif_pos (by omega), dif_neg (by omega)]
      refine Eq.trans (congrArg b ?_) h1
      exact congrArg (ix2 r) (Fin.ext (by show j.val - 1 = 0; omega))
    · rw [if_neg j1, dif_neg (by omega)]
      exact hp _

/-- The array of counts. -/
theorem counts_apply (l : Fin 128) : val_main_v28 (F := Ideal) x (ix2 (0 : Fin 1) l) = before (rowsOf x) l 17920 := by
  rw [val_main_v28_apply, val_main_v27_apply, show val_main_cst_1 (F := Ideal) (Shape.Idx.first h_S_) = (0 : EReal) from Ideal.ofBits_zero_f32, zero_add, before_all]
  refine Finset.sum_congr rfl fun r _ => ?_
  rw [← mark_apply]
  exact congrArg _ (by funext a; fin_cases a <;> rfl)

end Cert.Reference3Ideal.Ranks

end
-- ==== Proof.PlanAlg.lean ====
/- The planning call computes the reference's ranks and counts over the extended reals. -/
module

public import proofs.«01_k».proof.Defs
public import proofs.«01_k».proof.Proof.PlanValue
public import proofs.«01_k».proof.Proof.PlanRef
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Proof.Ranks

open Idealize.ShloMosaic Idealize.ShloMosaic.TcCoe Idealize.SL.Sem
open Cert.Kernel3Ideal.Ranks (val1 val2)

/-- The reference's frame. -/
theorem frame_reference : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The reference's array of ranks, -/
theorem ranks_eq (x : FVec Ideal Cert.Reference3Ideal.S17920x128 .f32) (j : Cert.Reference3Ideal.S17920x128.Idx) :
    Cert.Reference3Ideal.Read.val_main_v26 (F := Ideal) x j = ranks (fun r i => x (ix2 r i)) (j 0) (j 1) := by
  rw [← Cert.Reference3Ideal.Ranks.ranks_apply x (j 0) (j 1)]
  exact congrArg _ (by funext a; fin_cases a <;> rfl)

/-- and its array of counts. -/
theorem counts_eq (x : FVec Ideal Cert.Reference3Ideal.S17920x128 .f32) (j : Cert.Reference3Ideal.S1x128.Idx) :
    Cert.Reference3Ideal.Read.val_main_v28 (F := Ideal) x j = before (fun r i => x (ix2 r i)) (j 1) 17920 := by
  rw [← Cert.Reference3Ideal.Ranks.counts_apply x (j 1)]
  refine congrArg _ (funext fun a => ?_)
  match a with
  | ⟨0, _⟩ => exact Subsingleton.elim (α := Fin 1) _ _
  | ⟨1, _⟩ => rfl

/-- The two programs compute the same two arrays. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => val1 m c, fun c => val2 m c, Cert.Kernel3Ideal.Ranks.run m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · rw [Cert.Reference3Ideal.Read.val_main_v26_eq, hagree c]
    exact funext fun j => ranks_eq _ j
  · rw [Cert.Reference3Ideal.Read.val_main_v28_eq, hagree c]
    exact funext fun j => counts_eq _ j

end Cert.Proof.Ranks

end
-- ==== Proof.PowSpec.lean ====
/- The discretisation of one head's states and the powers of its transitions, over the extended reals: what the fourth
   call's kernel and its reference are both read as. -/
module

public import Idealize.ShloMosaic.Lib.KernelVsHost

@[expose] public section

noncomputable section

namespace Cert.Proof.Powers

open Idealize.ShloMosaic

/-- One head's parameters: the 64 states' rates, the step's logarithm, and the input and output weights over 16 channels. -/
structure Head where
  ar : Fin 64 → EReal
  ai : Fin 64 → EReal
  ld : EReal
  br : Fin 16 → Fin 64 → EReal
  bi : Fin 16 → Fin 64 → EReal
  cr : Fin 16 → Fin 64 → EReal
  ci : Fin 16 → Fin 64 → EReal

/-- One, as both programs spell it, -/
def one : EReal := Scalar.ofBits (F := Ideal) .f32 0x3F800000#32
/-- and nought. -/
def nought : EReal := Scalar.ofBits (F := Ideal) .f32 0x00000000#32

namespace Head

variable (H : Head)

/-- The step. -/
def dt : EReal := FloatOps.hostUnary (F := Ideal) (φ := .f32) .exp H.ld
/-- The transition's size, -/
def mag (n : Fin 64) : EReal := FloatOps.hostUnary (F := Ideal) (φ := .f32) .exp (H.dt * H.ar n)
/-- its real part, -/
def abr (n : Fin 64) : EReal := H.mag n * FloatOps.hostUnary (F := Ideal) (φ := .f32) .cos (H.dt * H.ai n)
/-- and its imaginary part. -/
def abi (n : Fin 64) : EReal := H.mag n * FloatOps.hostUnary (F := Ideal) (φ := .f32) .sin (H.dt * H.ai n)
/-- The rate's squared size. -/
def den (n : Fin 64) : EReal := H.ar n * H.ar n + H.ai n * H.ai n
/-- The input's factor, real, -/
def fr (n : Fin 64) : EReal := FloatOps.hostDivf (F := Ideal) (φ := .f32) ((H.abr n - one) * H.ar n + H.abi n * H.ai n) (H.den n)
/-- and imaginary. -/
def fi (n : Fin 64) : EReal := FloatOps.hostDivf (F := Ideal) (φ := .f32) (H.abi n * H.ar n - (H.abr n - one) * H.ai n) (H.den n)
/-- The discretised input weight, real, -/
def bbr (c : Fin 16) (n : Fin 64) : EReal := H.fr n * H.br c n - H.fi n * H.bi c n
/-- and imaginary. -/
def bbi (c : Fin 16) (n : Fin 64) : EReal := H.fr n * H.bi c n + H.fi n * H.br c n
/-- The transition's powers. -/
def pw (n : Fin 64) : ℕ → EReal × EReal
  | 0 => (one, nought)
  | k + 1 => ((pw n k).1 * H.abr n - (pw n k).2 * H.abi n, (pw n k).1 * H.abi n + (pw n k).2 * H.abr n)
/-- The output weight times a power, real, -/
def er (k : ℕ) (c : Fin 16) (n : Fin 64) : EReal := H.cr c n * (H.pw n k).1 - H.ci c n * (H.pw n k).2
/-- and imaginary. -/
def ei (k : ℕ) (c : Fin 16) (n : Fin 64) : EReal := H.cr c n * (H.pw n k).2 + H.ci c n * (H.pw n k).1
/-- A power times the input weight, real, -/
def wr (k : ℕ) (c : Fin 16) (n : Fin 64) : EReal := (H.pw n k).1 * H.bbr c n - (H.pw n k).2 * H.bbi c n
/-- and imaginary. -/
def wi (k : ℕ) (c : Fin 16) (n : Fin 64) : EReal := (H.pw n k).1 * H.bbi c n + (H.pw n k).2 * H.bbr c n
/-- The response of channel `c` to channel `d`, `k` steps on. -/
def kk (k : ℕ) (c d : Fin 16) : EReal := ∑ n, H.er k c n * H.bbr d n - ∑ n, H.ei k c n * H.bbi d n

end Head

end Cert.Proof.Powers

end
-- ==== Proof.PowKer.lean ====
/- What a grid point of the fourth call's kernel leaves in its seven result blocks, over the extended reals: entry by
   entry, the head's discretised weights, its transition's powers and their products with the weights. -/
module

public import proofs.«01_k».proof.Proof.PowSpec
public import proofs.«01_k».proof.Proof.Gen.Kernel4Ideal.Frame
public import Idealize.ShloMosaic.Lib.Pipeline.ValueKit.Basic
public import Idealize.ShloMosaic.Lib.Pointwise

@[expose] public section

set_option maxRecDepth 16384

noncomputable section

namespace Cert.Kernel4Ideal.Powers

open Cert.Kernel4Ideal Cert.Kernel4Ideal.Gen Cert.Proof.Powers
open Idealize.ShloMosaic Idealize.ShloMosaic.TcCoe Idealize.SL.Sem

theorem hz3 : (![0, 0, 0] : Fin 3 → ℕ) = fun _ => 0 := by funext a; fin_cases a <;> rfl

/-- A head's parameters, from a grid point's seven blocks. -/
def headOf (x0 x1 : Vec Ideal S1x1x64 .f32) (x2 : Vec Ideal S1x1x1 .f32) (x3 x4 x5 x6 : Vec Ideal S1x16x64 .f32) : Head where
  ar n := x0 (ix3 (0 : Fin 1) (0 : Fin 1) n)
  ai n := x1 (ix3 (0 : Fin 1) (0 : Fin 1) n)
  ld := x2 (ix3 (0 : Fin 1) (0 : Fin 1) (0 : Fin 1))
  br c n := x3 (ix3 (0 : Fin 1) c n)
  bi c n := x4 (ix3 (0 : Fin 1) c n)
  cr c n := x5 (ix3 (0 : Fin 1) c n)
  ci c n := x6 (ix3 (0 : Fin 1) c n)

/-- The next power of a row of transitions, real, -/
def stepRe (a b p q : FVec Ideal S1x64 .f32) : FVec Ideal S1x64 .f32 := subf (mulf p a) (mulf q b)
/-- and imaginary. -/
def stepIm (a b p q : FVec Ideal S1x64 .f32) : FVec Ideal S1x64 .f32 := addf (mulf p b) (mulf q a)

/-- The powers of a row of transitions. -/
def rowPw (a b : FVec Ideal S1x64 .f32) : ℕ → FVec Ideal S1x64 .f32 × FVec Ideal S1x64 .f32
  | 0 => (k0_pay20, k0_pay21)
  | k + 1 => (stepRe a b (rowPw a b k).1 (rowPw a b k).2, stepIm a b (rowPw a b k).1 (rowPw a b k).2)

/-- A row of powers over the output weights, real, -/
def eRe (C D : FVec Ideal S16x64 .f32) (p q : FVec Ideal S1x64 .f32) : FVec Ideal S16x64 .f32 :=
  subf (mulf C (broadcastTo S16x64 p broadcasts_S1x64_S16x64)) (mulf D (broadcastTo S16x64 q broadcasts_S1x64_S16x64))
/-- and imaginary. -/
def eIm (C D : FVec Ideal S16x64 .f32) (p q : FVec Ideal S1x64 .f32) : FVec Ideal S16x64 .f32 :=
  addf (mulf C (broadcastTo S16x64 q broadcasts_S1x64_S16x64)) (mulf D (broadcastTo S16x64 p broadcasts_S1x64_S16x64))
/-- A row of powers over the input weights, real, -/
def wRe (B E : FVec Ideal S16x64 .f32) (p q : FVec Ideal S1x64 .f32) : FVec Ideal S16x64 .f32 :=
  subf (mulf (broadcastTo S16x64 p broadcasts_S1x64_S16x64) B) (mulf (broadcastTo S16x64 q broadcasts_S1x64_S16x64) E)
/-- and imaginary. -/
def wIm (B E : FVec Ideal S16x64 .f32) (p q : FVec Ideal S1x64 .f32) : FVec Ideal S16x64 .f32 :=
  addf (mulf (broadcastTo S16x64 p broadcasts_S1x64_S16x64) E) (mulf (broadcastTo S16x64 q broadcasts_S1x64_S16x64) B)
/-- Two tables over channels, contracted over the states. -/
def dots (u v : FVec Ideal S16x64 .f32) : FVec Ideal S16x16 .f32 :=
  matmul dot_S16x64_S16x64_S16x16_1_1_0_0_n_n (some .fp32) u v (constant S16x16 .f32 0x00000000#32)
/-- The response of every channel to every other. -/
def resp (B E C D : FVec Ideal S16x64 .f32) (p q : FVec Ideal S1x64 .f32) : FVec Ideal S16x16 .f32 :=
  subf (dots (eRe C D p q) B) (dots (eIm C D p q) E)

theorem row_apply (p : FVec Ideal S1x64 .f32) (c : Fin 16) (n : Fin 64) : broadcastTo S16x64 p broadcasts_S1x64_S16x64 (ix2 c n) = p (ix2 (0 : Fin 1) n) := by
  pointwise []

theorem dots_apply (u v : FVec Ideal S16x64 .f32) (c d : Fin 16) : dots u v (ix2 c d) = ∑ n : Fin 64, u (ix2 c n) * v (ix2 d n) := by
  pointwise [dots]

/-- A table written as a block. -/
theorem tall_apply (u : FVec Ideal S16x64 .f32) (x : S1x1x16x64.Idx) : shapeCast S1x1x16x64 u shapeCasts_S16x64_S1x1x16x64 x = u (ix2 (x 2) (x 3)) := by
  refine shapeCast_apply u _ x _ ?_
  rw [Shape.rowMajor_val_two, Shape.rowMajor_val_four]
  have h0 : (x 0).val < 1 := (x 0).isLt
  have h1 : (x 1).val < 1 := (x 1).isLt
  show (x 2).val * 64 + (x 3).val = (((x 0).val * 1 + (x 1).val) * 16 + (x 2).val) * 64 + (x 3).val
  omega

theorem small_apply (u : FVec Ideal S16x16 .f32) (x : S1x1x16x16.Idx) : shapeCast S1x1x16x16 u shapeCasts_S16x16_S1x1x16x16 x = u (ix2 (x 2) (x 3)) := by
  refine shapeCast_apply u _ x _ ?_
  rw [Shape.rowMajor_val_two, Shape.rowMajor_val_four]
  have h0 : (x 0).val < 1 := (x 0).isLt
  have h1 : (x 1).val < 1 := (x 1).isLt
  show (x 2).val * 16 + (x 3).val = (((x 0).val * 1 + (x 1).val) * 16 + (x 2).val) * 16 + (x 3).val
  omega

theorem flat_apply (u : FVec Ideal S1x64 .f32) (x : S1x1x64.Idx) : shapeCast S1x1x64 u shapeCasts_S1x64_S1x1x64 x = u (ix2 (0 : Fin 1) (x 2)) := by
  refine shapeCast_apply u _ x _ ?_
  rw [Shape.rowMajor_val_two, Shape.rowMajor_val_three]
  have h0 : (x 0).val < 1 := (x 0).isLt
  have h1 : (x 1).val < 1 := (x 1).isLt
  show 0 * 64 + (x 2).val = ((x 0).val * 1 + (x 1).val) * 64 + (x 2).val
  omega

section Body

variable (x0 x1 : Vec Ideal S1x1x64 .f32) (x2 : Vec Ideal S1x1x1 .f32) (x3 x4 x5 x6 : Vec Ideal S1x16x64 .f32)

theorem lds64 (x : Vec Ideal S1x1x64 .f32) : View.ld x r0_0 = x := View.ld_unit_zero (S := S1x1x64) hz3 _ x
theorem lds1 (x : Vec Ideal S1x1x1 .f32) : View.ld x r0_1 = x := View.ld_unit_zero (S := S1x1x1) hz3 _ x
theorem lds16 (x : Vec Ideal S1x16x64 .f32) : View.ld x r0_2 = x := View.ld_unit_zero (S := S1x16x64) hz3 _ x

theorem re_apply (n : Fin 64) : k0_pay2 (F := Ideal) x0 (ix2 (0 : Fin 1) n) = x0 (ix3 (0 : Fin 1) (0 : Fin 1) n) := by
  pointwise [k0_pay2]

theorem im_apply (n : Fin 64) : k0_pay3 (F := Ideal) x1 (ix2 (0 : Fin 1) n) = x1 (ix3 (0 : Fin 1) (0 : Fin 1) n) := by
  pointwise [k0_pay3]

theorem dt_apply (n : Fin 64) : broadcastTo S1x64 (k0_pay4 (F := Ideal) x2) broadcasts_S1x1_S1x64 (ix2 (0 : Fin 1) n) = (headOf x0 x1 x2 x3 x4 x5 x6).dt := by
  have e : broadcastTo S1x64 (k0_pay4 (F := Ideal) x2) broadcasts_S1x1_S1x64 (ix2 (0 : Fin 1) n) = k0_pay4 (F := Ideal) x2 (ix2 (0 : Fin 1) (0 : Fin 1)) := by
    generalize k0_pay4 (F := Ideal) x2 = y
    pointwise []
  rw [e]
  have e' : shapeCast S1x1 x2 shapeCasts_S1x1x1_S1x1 (ix2 (0 : Fin 1) (0 : Fin 1)) = x2 (ix3 (0 : Fin 1) (0 : Fin 1) (0 : Fin 1)) := by pointwise []
  exact congrArg (FloatOps.hostUnary (F := Ideal) (φ := .f32) .exp) e'

theorem mag_apply (n : Fin 64) : k0_pay5 (F := Ideal) x0 x2 (ix2 (0 : Fin 1) n) = (headOf x0 x1 x2 x3 x4 x5 x6).mag n :=
  congrArg (FloatOps.hostUnary (F := Ideal) (φ := .f32) .exp) (congrArg₂ (fun a b : EReal => a * b) (dt_apply x0 x1 x2 x3 x4 x5 x6 n) (re_apply x0 n))

theorem abr_apply (n : Fin 64) : k0_pay6 (F := Ideal) x0 x1 x2 (ix2 (0 : Fin 1) n) = (headOf x0 x1 x2 x3 x4 x5 x6).abr n :=
  congrArg₂ (fun a b : EReal => a * b) (mag_apply x0 x1 x2 x3 x4 x5 x6 n)
    (congrArg (FloatOps.hostUnary (F := Ideal) (φ := .f32) .cos) (congrArg₂ (fun a b : EReal => a * b) (dt_apply x0 x1 x2 x3 x4 x5 x6 n) (im_apply x1 n)))

theorem abi_apply (n : Fin 64) : k0_pay7 (F := Ideal) x0 x1 x2 (ix2 (0 : Fin 1) n) = (headOf x0 x1 x2 x3 x4 x5 x6).abi n :=
  congrArg₂ (fun a b : EReal => a * b) (mag_apply x0 x1 x2 x3 x4 x5 x6 n)
    (congrArg (FloatOps.hostUnary (F := Ideal) (φ := .f32) .sin) (congrArg₂ (fun a b : EReal => a * b) (dt_apply x0 x1 x2 x3 x4 x5 x6 n) (im_apply x1 n)))

theorem den_apply (n : Fin 64) : k0_pay8 (F := Ideal) x0 x1 (ix2 (0 : Fin 1) n) = (headOf x0 x1 x2 x3 x4 x5 x6).den n := by
  show k0_pay2 (F := Ideal) x0 (ix2 (0 : Fin 1) n) * k0_pay2 (F := Ideal) x0 (ix2 (0 : Fin 1) n) + k0_pay3 (F := Ideal) x1 (ix2 (0 : Fin 1) n) * k0_pay3 (F := Ideal) x1 (ix2 (0 : Fin 1) n) = _
  rw [re_apply, im_apply]
  rfl

theorem fr_apply (n : Fin 64) : k0_pay10 (F := Ideal) x0 x1 x2 (ix2 (0 : Fin 1) n) = (headOf x0 x1 x2 x3 x4 x5 x6).fr n := by
  show FloatOps.hostDivf (F := Ideal) (φ := .f32) ((k0_pay6 (F := Ideal) x0 x1 x2 (ix2 (0 : Fin 1) n) - one) * k0_pay2 (F := Ideal) x0 (ix2 (0 : Fin 1) n) + k0_pay7 (F := Ideal) x0 x1 x2 (ix2 (0 : Fin 1) n) * k0_pay3 (F := Ideal) x1 (ix2 (0 : Fin 1) n)) (k0_pay8 (F := Ideal) x0 x1 (ix2 (0 : Fin 1) n)) = _
  rw [abr_apply x0 x1 x2 x3 x4 x5 x6, abi_apply x0 x1 x2 x3 x4 x5 x6, den_apply x0 x1 x2 x3 x4 x5 x6, re_apply, im_apply]
  rfl

theorem fi_apply (n : Fin 64) : k0_pay11 (F := Ideal) x0 x1 x2 (ix2 (0 : Fin 1) n) = (headOf x0 x1 x2 x3 x4 x5 x6).fi n := by
  show FloatOps.hostDivf (F := Ideal) (φ := .f32) (k0_pay7 (F := Ideal) x0 x1 x2 (ix2 (0 : Fin 1) n) * k0_pay2 (F := Ideal) x0 (ix2 (0 : Fin 1) n) - (k0_pay6 (F := Ideal) x0 x1 x2 (ix2 (0 : Fin 1) n) - one) * k0_pay3 (F := Ideal) x1 (ix2 (0 : Fin 1) n)) (k0_pay8 (F := Ideal) x0 x1 (ix2 (0 : Fin 1) n)) = _
  rw [abr_apply x0 x1 x2 x3 x4 x5 x6, abi_apply x0 x1 x2 x3 x4 x5 x6, den_apply x0 x1 x2 x3 x4 x5 x6, re_apply, im_apply]
  rfl

theorem table_apply (x : Vec Ideal S1x16x64 .f32) (c : Fin 16) (n : Fin 64) : shapeCast S16x64 x shapeCasts_S1x16x64_S16x64 (ix2 c n) = x (ix3 (0 : Fin 1) c n) := by
  pointwise []

/-- The tables the powers multiply. -/
abbrev tB : FVec Ideal S16x64 .f32 := k0_pay102 (F := Ideal) x0 x1 x2 x3 x4 x5 x6
abbrev tE : FVec Ideal S16x64 .f32 := k0_pay105 (F := Ideal) x0 x1 x2 x3 x4 x5 x6
abbrev tC : FVec Ideal S16x64 .f32 := k0_pay106 (F := Ideal) x0 x1 x2 x3 x4 x5 x6
abbrev tD : FVec Ideal S16x64 .f32 := k0_pay107 (F := Ideal) x0 x1 x2 x3 x4 x5 x6
/-- The rows of transitions. -/
abbrev tA : FVec Ideal S1x64 .f32 := k0_pay99 (F := Ideal) x0 x1 x2 x3 x4 x5 x6
abbrev tI : FVec Ideal S1x64 .f32 := k0_pay100 (F := Ideal) x0 x1 x2 x3 x4 x5 x6
/-- Their powers. -/
abbrev tP (k : ℕ) : FVec Ideal S1x64 .f32 := (rowPw (tA x0 x1 x2 x3 x4 x5 x6) (tI x0 x1 x2 x3 x4 x5 x6) k).1
abbrev tQ (k : ℕ) : FVec Ideal S1x64 .f32 := (rowPw (tA x0 x1 x2 x3 x4 x5 x6) (tI x0 x1 x2 x3 x4 x5 x6) k).2

theorem tB_apply (c : Fin 16) (n : Fin 64) : tB x0 x1 x2 x3 x4 x5 x6 (ix2 c n) = (headOf x0 x1 x2 x3 x4 x5 x6).bbr c n := by
  unfold tB k0_pay102
  rw [lds64, lds64, lds1, lds16, lds16]
  show broadcastTo S16x64 (k0_pay10 (F := Ideal) x0 x1 x2) broadcasts_S1x64_S16x64 (ix2 c n) * shapeCast S16x64 x3 shapeCasts_S1x16x64_S16x64 (ix2 c n)
    - broadcastTo S16x64 (k0_pay11 (F := Ideal) x0 x1 x2) broadcasts_S1x64_S16x64 (ix2 c n) * shapeCast S16x64 x4 shapeCasts_S1x16x64_S16x64 (ix2 c n) = _
  rw [row_apply, row_apply, table_apply, table_apply, fr_apply x0 x1 x2 x3 x4 x5 x6, fi_apply x0 x1 x2 x3 x4 x5 x6]
  rfl

theorem tE_apply (c : Fin 16) (n : Fin 64) : tE x0 x1 x2 x3 x4 x5 x6 (ix2 c n) = (headOf x0 x1 x2 x3 x4 x5 x6).bbi c n := by
  unfold tE k0_pay105 k0_pay101 k0_pay103 k0_pay104
  rw [lds64, lds64, lds1, lds16, lds16]
  show broadcastTo S16x64 (k0_pay10 (F := Ideal) x0 x1 x2) broadcasts_S1x64_S16x64 (ix2 c n) * shapeCast S16x64 x4 shapeCasts_S1x16x64_S16x64 (ix2 c n)
    + broadcastTo S16x64 (k0_pay11 (F := Ideal) x0 x1 x2) broadcasts_S1x64_S16x64 (ix2 c n) * shapeCast S16x64 x3 shapeCasts_S1x16x64_S16x64 (ix2 c n) = _
  rw [row_apply, row_apply, table_apply, table_apply, fr_apply x0 x1 x2 x3 x4 x5 x6, fi_apply x0 x1 x2 x3 x4 x5 x6]
  rfl

theorem tC_apply (c : Fin 16) (n : Fin 64) : tC x0 x1 x2 x3 x4 x5 x6 (ix2 c n) = (headOf x0 x1 x2 x3 x4 x5 x6).cr c n := by
  unfold tC k0_pay106
  rw [lds16]
  exact table_apply x5 c n

theorem tD_apply (c : Fin 16) (n : Fin 64) : tD x0 x1 x2 x3 x4 x5 x6 (ix2 c n) = (headOf x0 x1 x2 x3 x4 x5 x6).ci c n := by
  unfold tD k0_pay107
  rw [lds16]
  exact table_apply x6 c n

theorem tA_apply (n : Fin 64) : tA x0 x1 x2 x3 x4 x5 x6 (ix2 (0 : Fin 1) n) = (headOf x0 x1 x2 x3 x4 x5 x6).abr n := by
  unfold tA k0_pay99
  rw [lds64, lds64, lds1]
  exact abr_apply x0 x1 x2 x3 x4 x5 x6 n

theorem tI_apply (n : Fin 64) : tI x0 x1 x2 x3 x4 x5 x6 (ix2 (0 : Fin 1) n) = (headOf x0 x1 x2 x3 x4 x5 x6).abi n := by
  unfold tI k0_pay100
  rw [lds64, lds64, lds1]
  exact abi_apply x0 x1 x2 x3 x4 x5 x6 n

/-- The powers' rows, state by state. -/
theorem pw_apply (n : Fin 64) : ∀ k : ℕ, (tP x0 x1 x2 x3 x4 x5 x6 k (ix2 (0 : Fin 1) n), tQ x0 x1 x2 x3 x4 x5 x6 k (ix2 (0 : Fin 1) n)) = (headOf x0 x1 x2 x3 x4 x5 x6).pw n k
  | 0 => rfl
  | k + 1 => by
    have ih := pw_apply n k
    have h1 := congrArg Prod.fst ih
    have h2 := congrArg Prod.snd ih
    dsimp only at h1 h2
    unfold Head.pw
    rw [← h1, ← h2, ← tA_apply, ← tI_apply]
    rfl

theorem tP_apply (k : ℕ) (n : Fin 64) : tP x0 x1 x2 x3 x4 x5 x6 k (ix2 (0 : Fin 1) n) = ((headOf x0 x1 x2 x3 x4 x5 x6).pw n k).1 := congrArg Prod.fst (pw_apply x0 x1 x2 x3 x4 x5 x6 n k)
theorem tQ_apply (k : ℕ) (n : Fin 64) : tQ x0 x1 x2 x3 x4 x5 x6 k (ix2 (0 : Fin 1) n) = ((headOf x0 x1 x2 x3 x4 x5 x6).pw n k).2 := congrArg Prod.snd (pw_apply x0 x1 x2 x3 x4 x5 x6 n k)

theorem eRe_at (k : ℕ) (c : Fin 16) (n : Fin 64) : eRe (tC x0 x1 x2 x3 x4 x5 x6) (tD x0 x1 x2 x3 x4 x5 x6) (tP x0 x1 x2 x3 x4 x5 x6 k) (tQ x0 x1 x2 x3 x4 x5 x6 k) (ix2 c n) = (headOf x0 x1 x2 x3 x4 x5 x6).er k c n := by
  show tC x0 x1 x2 x3 x4 x5 x6 (ix2 c n) * broadcastTo S16x64 (tP x0 x1 x2 x3 x4 x5 x6 k) broadcasts_S1x64_S16x64 (ix2 c n) - tD x0 x1 x2 x3 x4 x5 x6 (ix2 c n) * broadcastTo S16x64 (tQ x0 x1 x2 x3 x4 x5 x6 k) broadcasts_S1x64_S16x64 (ix2 c n) = _
  rw [row_apply, row_apply, tC_apply, tD_apply, tP_apply, tQ_apply]
  rfl

theorem eIm_at (k : ℕ) (c : Fin 16) (n : Fin 64) : eIm (tC x0 x1 x2 x3 x4 x5 x6) (tD x0 x1 x2 x3 x4 x5 x6) (tP x0 x1 x2 x3 x4 x5 x6 k) (tQ x0 x1 x2 x3 x4 x5 x6 k) (ix2 c n) = (headOf x0 x1 x2 x3 x4 x5 x6).ei k c n := by
  show tC x0 x1 x2 x3 x4 x5 x6 (ix2 c n) * broadcastTo S16x64 (tQ x0 x1 x2 x3 x4 x5 x6 k) broadcasts_S1x64_S16x64 (ix2 c n) + tD x0 x1 x2 x3 x4 x5 x6 (ix2 c n) * broadcastTo S16x64 (tP x0 x1 x2 x3 x4 x5 x6 k) broadcasts_S1x64_S16x64 (ix2 c n) = _
  rw [row_apply, row_apply, tC_apply, tD_apply, tP_apply, tQ_apply]
  rfl

theorem wRe_at (k : ℕ) (c : Fin 16) (n : Fin 64) : wRe (tB x0 x1 x2 x3 x4 x5 x6) (tE x0 x1 x2 x3 x4 x5 x6) (tP x0 x1 x2 x3 x4 x5 x6 k) (tQ x0 x1 x2 x3 x4 x5 x6 k) (ix2 c n) = (headOf x0 x1 x2 x3 x4 x5 x6).wr k c n := by
  show broadcastTo S16x64 (tP x0 x1 x2 x3 x4 x5 x6 k) broadcasts_S1x64_S16x64 (ix2 c n) * tB x0 x1 x2 x3 x4 x5 x6 (ix2 c n) - broadcastTo S16x64 (tQ x0 x1 x2 x3 x4 x5 x6 k) broadcasts_S1x64_S16x64 (ix2 c n) * tE x0 x1 x2 x3 x4 x5 x6 (ix2 c n) = _
  rw [row_apply, row_apply, tB_apply, tE_apply, tP_apply, tQ_apply]
  rfl

theorem wIm_at (k : ℕ) (c : Fin 16) (n : Fin 64) : wIm (tB x0 x1 x2 x3 x4 x5 x6) (tE x0 x1 x2 x3 x4 x5 x6) (tP x0 x1 x2 x3 x4 x5 x6 k) (tQ x0 x1 x2 x3 x4 x5 x6 k) (ix2 c n) = (headOf x0 x1 x2 x3 x4 x5 x6).wi k c n := by
  show broadcastTo S16x64 (tP x0 x1 x2 x3 x4 x5 x6 k) broadcasts_S1x64_S16x64 (ix2 c n) * tE x0 x1 x2 x3 x4 x5 x6 (ix2 c n) + broadcastTo S16x64 (tQ x0 x1 x2 x3 x4 x5 x6 k) broadcasts_S1x64_S16x64 (ix2 c n) * tB x0 x1 x2 x3 x4 x5 x6 (ix2 c n) = _
  rw [row_apply, row_apply, tB_apply, tE_apply, tP_apply, tQ_apply]
  rfl

theorem resp_at (k : ℕ) (c d : Fin 16) : resp (tB x0 x1 x2 x3 x4 x5 x6) (tE x0 x1 x2 x3 x4 x5 x6) (tC x0 x1 x2 x3 x4 x5 x6) (tD x0 x1 x2 x3 x4 x5 x6) (tP x0 x1 x2 x3 x4 x5 x6 k) (tQ x0 x1 x2 x3 x4 x5 x6 k) (ix2 c d) = (headOf x0 x1 x2 x3 x4 x5 x6).kk k c d := by
  unfold Head.kk
  show dots _ _ (ix2 c d) - dots _ _ (ix2 c d) = _
  rw [dots_apply, dots_apply]
  simp only [eRe_at, eIm_at, tB_apply, tE_apply]

/-- Where a piece's entry lies in the block. -/
theorem place_tall (k : ℕ) (inb : ∀ a, (![0, k, 0, 0] : Fin 4 → ℕ) a + S1x1x16x64.size a ≤ S1x8x16x64.size a) (f : ℕ → Fin 16 → Fin 64 → EReal) (x : S1x1x16x64.Idx) :
    f k (x 2) (x 3) = f ((Rect.unit (s := S1x8x16x64) ![0, k, 0, 0] S1x1x16x64.size inb).emb x 1).val ((Rect.unit (s := S1x8x16x64) ![0, k, 0, 0] S1x1x16x64.size inb).emb x 2) ((Rect.unit (s := S1x8x16x64) ![0, k, 0, 0] S1x1x16x64.size inb).emb x 3) := by
  have h1 : (x 1).val < 1 := (x 1).isLt
  have e1 : ((Rect.unit (s := S1x8x16x64) ![0, k, 0, 0] S1x1x16x64.size inb).emb x 1).val = k := by show k + 1 * (x 1).val = k; omega
  have e2 : (Rect.unit (s := S1x8x16x64) ![0, k, 0, 0] S1x1x16x64.size inb).emb x 2 = x 2 := Fin.ext (by show 0 + 1 * (x 2).val = (x 2).val; omega)
  have e3 : (Rect.unit (s := S1x8x16x64) ![0, k, 0, 0] S1x1x16x64.size inb).emb x 3 = x 3 := Fin.ext (by show 0 + 1 * (x 3).val = (x 3).val; omega)
  rw [e1, e2, e3]

theorem place_small (k : ℕ) (inb : ∀ a, (![0, k, 0, 0] : Fin 4 → ℕ) a + S1x1x16x16.size a ≤ S1x8x16x16.size a) (f : ℕ → Fin 16 → Fin 16 → EReal) (x : S1x1x16x16.Idx) :
    f k (x 2) (x 3) = f ((Rect.unit (s := S1x8x16x16) ![0, k, 0, 0] S1x1x16x16.size inb).emb x 1).val ((Rect.unit (s := S1x8x16x16) ![0, k, 0, 0] S1x1x16x16.size inb).emb x 2) ((Rect.unit (s := S1x8x16x16) ![0, k, 0, 0] S1x1x16x16.size inb).emb x 3) := by
  have h1 : (x 1).val < 1 := (x 1).isLt
  have e1 : ((Rect.unit (s := S1x8x16x16) ![0, k, 0, 0] S1x1x16x16.size inb).emb x 1).val = k := by show k + 1 * (x 1).val = k; omega
  have e2 : (Rect.unit (s := S1x8x16x16) ![0, k, 0, 0] S1x1x16x16.size inb).emb x 2 = x 2 := Fin.ext (by show 0 + 1 * (x 2).val = (x 2).val; omega)
  have e3 : (Rect.unit (s := S1x8x16x16) ![0, k, 0, 0] S1x1x16x16.size inb).emb x 3 = x 3 := Fin.ext (by show 0 + 1 * (x 3).val = (x 3).val; omega)
  rw [e1, e2, e3]
theorem pay110_eq : k0_pay110 (F := Ideal) x0 x1 x2 x3 x4 x5 x6 = tP x0 x1 x2 x3 x4 x5 x6 1 := rfl
theorem pay111_eq : k0_pay111 (F := Ideal) x0 x1 x2 x3 x4 x5 x6 = tQ x0 x1 x2 x3 x4 x5 x6 1 := rfl
theorem pay112_eq : k0_pay112 (F := Ideal) x0 x1 x2 x3 x4 x5 x6 = tP x0 x1 x2 x3 x4 x5 x6 2 := by
  unfold k0_pay112
  rw [pay110_eq, pay111_eq]
  rfl
theorem pay113_eq : k0_pay113 (F := Ideal) x0 x1 x2 x3 x4 x5 x6 = tQ x0 x1 x2 x3 x4 x5 x6 2 := by
  unfold k0_pay113
  rw [pay110_eq, pay111_eq]
  rfl
theorem pay115_eq : k0_pay115 (F := Ideal) x0 x1 x2 x3 x4 x5 x6 = tP x0 x1 x2 x3 x4 x5 x6 3 := by
  unfold k0_pay115
  rw [pay112_eq, pay113_eq]
  rfl
theorem pay116_eq : k0_pay116 (F := Ideal) x0 x1 x2 x3 x4 x5 x6 = tQ x0 x1 x2 x3 x4 x5 x6 3 := by
  unfold k0_pay116
  rw [pay112_eq, pay113_eq]
  rfl
theorem pay119_eq : k0_pay119 (F := Ideal) x0 x1 x2 x3 x4 x5 x6 = tP x0 x1 x2 x3 x4 x5 x6 4 := by
  unfold k0_pay119
  rw [pay115_eq, pay116_eq]
  rfl
theorem pay120_eq : k0_pay120 (F := Ideal) x0 x1 x2 x3 x4 x5 x6 = tQ x0 x1 x2 x3 x4 x5 x6 4 := by
  unfold k0_pay120
  rw [pay115_eq, pay116_eq]
  rfl
theorem pay123_eq : k0_pay123 (F := Ideal) x0 x1 x2 x3 x4 x5 x6 = tP x0 x1 x2 x3 x4 x5 x6 5 := by
  unfold k0_pay123
  rw [pay119_eq, pay120_eq]
  rfl
theorem pay124_eq : k0_pay124 (F := Ideal) x0 x1 x2 x3 x4 x5 x6 = tQ x0 x1 x2 x3 x4 x5 x6 5 := by
  unfold k0_pay124
  rw [pay119_eq, pay120_eq]
  rfl
theorem pay126_eq : k0_pay126 (F := Ideal) x0 x1 x2 x3 x4 x5 x6 = tP x0 x1 x2 x3 x4 x5 x6 6 := by
  unfold k0_pay126
  rw [pay123_eq, pay124_eq]
  rfl
theorem pay127_eq : k0_pay127 (F := Ideal) x0 x1 x2 x3 x4 x5 x6 = tQ x0 x1 x2 x3 x4 x5 x6 6 := by
  unfold k0_pay127
  rw [pay123_eq, pay124_eq]
  rfl
theorem pay128_eq : k0_pay128 (F := Ideal) x0 x1 x2 x3 x4 x5 x6 = tP x0 x1 x2 x3 x4 x5 x6 7 := by
  unfold k0_pay128
  rw [pay126_eq, pay127_eq]
  rfl
theorem pay129_eq : k0_pay129 (F := Ideal) x0 x1 x2 x3 x4 x5 x6 = tQ x0 x1 x2 x3 x4 x5 x6 7 := by
  unfold k0_pay129
  rw [pay126_eq, pay127_eq]
  rfl
theorem pay114_eq : k0_pay114 (F := Ideal) x0 x1 x2 x3 x4 x5 x6 = eIm (tC x0 x1 x2 x3 x4 x5 x6) (tD x0 x1 x2 x3 x4 x5 x6) (tP x0 x1 x2 x3 x4 x5 x6 2) (tQ x0 x1 x2 x3 x4 x5 x6 2) := by
  unfold k0_pay114
  rw [pay110_eq, pay111_eq]
  rfl
theorem pay117_eq : k0_pay117 (F := Ideal) x0 x1 x2 x3 x4 x5 x6 = eRe (tC x0 x1 x2 x3 x4 x5 x6) (tD x0 x1 x2 x3 x4 x5 x6) (tP x0 x1 x2 x3 x4 x5 x6 3) (tQ x0 x1 x2 x3 x4 x5 x6 3) := by
  unfold k0_pay117
  rw [pay112_eq, pay113_eq]
  rfl
theorem pay118_eq : k0_pay118 (F := Ideal) x0 x1 x2 x3 x4 x5 x6 = eIm (tC x0 x1 x2 x3 x4 x5 x6) (tD x0 x1 x2 x3 x4 x5 x6) (tP x0 x1 x2 x3 x4 x5 x6 3) (tQ x0 x1 x2 x3 x4 x5 x6 3) := by
  unfold k0_pay118
  rw [pay112_eq, pay113_eq]
  rfl
theorem pay121_eq : k0_pay121 (F := Ideal) x0 x1 x2 x3 x4 x5 x6 = eRe (tC x0 x1 x2 x3 x4 x5 x6) (tD x0 x1 x2 x3 x4 x5 x6) (tP x0 x1 x2 x3 x4 x5 x6 4) (tQ x0 x1 x2 x3 x4 x5 x6 4) := by
  unfold k0_pay121
  rw [pay115_eq, pay116_eq]
  rfl
theorem pay122_eq : k0_pay122 (F := Ideal) x0 x1 x2 x3 x4 x5 x6 = eIm (tC x0 x1 x2 x3 x4 x5 x6) (tD x0 x1 x2 x3 x4 x5 x6) (tP x0 x1 x2 x3 x4 x5 x6 4) (tQ x0 x1 x2 x3 x4 x5 x6 4) := by
  unfold k0_pay122
  rw [pay115_eq, pay116_eq]
  rfl
theorem pay125_eq : k0_pay125 (F := Ideal) x0 x1 x2 x3 x4 x5 x6 = eRe (tC x0 x1 x2 x3 x4 x5 x6) (tD x0 x1 x2 x3 x4 x5 x6) (tP x0 x1 x2 x3 x4 x5 x6 5) (tQ x0 x1 x2 x3 x4 x5 x6 5) := by
  unfold k0_pay125
  rw [pay119_eq, pay120_eq]
  rfl

theorem out7_eq : out0_7 (F := Ideal) x0 x1 x2 x3 x4 x5 x6 = View.canon [⟨r0_18, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 7) (tQ x0 x1 x2 x3 x4 x5 x6 7)) shapeCasts_S16x16_S1x1x16x16⟩,
    ⟨r0_16, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 6) (tQ x0 x1 x2 x3 x4 x5 x6 6)) shapeCasts_S16x16_S1x1x16x16⟩,
    ⟨r0_14, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 5) (tQ x0 x1 x2 x3 x4 x5 x6 5)) shapeCasts_S16x16_S1x1x16x16⟩,
    ⟨r0_12, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 4) (tQ x0 x1 x2 x3 x4 x5 x6 4)) shapeCasts_S16x16_S1x1x16x16⟩,
    ⟨r0_10, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 3) (tQ x0 x1 x2 x3 x4 x5 x6 3)) shapeCasts_S16x16_S1x1x16x16⟩,
    ⟨r0_8, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 2) (tQ x0 x1 x2 x3 x4 x5 x6 2)) shapeCasts_S16x16_S1x1x16x16⟩,
    ⟨r0_6, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 1) (tQ x0 x1 x2 x3 x4 x5 x6 1)) shapeCasts_S16x16_S1x1x16x16⟩,
    ⟨r0_4, shapeCast S1x1x16x16 (resp (tB x0 x1 x2 x3 x4 x5 x6) (tE x0 x1 x2 x3 x4 x5 x6) (tC x0 x1 x2 x3 x4 x5 x6) (tD x0 x1 x2 x3 x4 x5 x6) (tP x0 x1 x2 x3 x4 x5 x6 0) (tQ x0 x1 x2 x3 x4 x5 x6 0)) shapeCasts_S16x16_S1x1x16x16⟩] := by
  unfold out0_7
  simp only [pay110_eq, pay111_eq, pay112_eq, pay113_eq, pay115_eq, pay116_eq, pay119_eq, pay120_eq, pay123_eq, pay124_eq, pay126_eq, pay127_eq, pay128_eq, pay129_eq, pay114_eq, pay117_eq, pay118_eq, pay121_eq, pay122_eq, pay125_eq]
  rfl

/-- Window 7's block, entry by entry. -/
theorem out7_apply (y : S1x8x16x16.Idx) : out0_7 (F := Ideal) x0 x1 x2 x3 x4 x5 x6 y = (headOf x0 x1 x2 x3 x4 x5 x6).kk (y 1).val (y 2) (y 3) := by
  rw [out7_eq]
  refine View.canon_apply_of_pieces (Val := Elt Ideal) (e := .f32) (fun y : S1x8x16x16.Idx => (headOf x0 x1 x2 x3 x4 x5 x6).kk (y 1).val (y 2) (y 3)) _ ?_ y (cover0_7 _ _ _ _ _ _ _ _ y)
  intro p hp
  simp only [List.mem_cons, List.not_mem_nil, or_false] at hp
  rcases hp with rfl | rfl | rfl | rfl | rfl | rfl | rfl | rfl <;> intro x
  · exact (small_apply _ x).trans ((resp_at x0 x1 x2 x3 x4 x5 x6 7 (x 2) (x 3)).trans (place_small 7 inb_S1x8x16x16_S1x1x16x16_0_7_0_0 (fun k c d => (headOf x0 x1 x2 x3 x4 x5 x6).kk k c d) x))
  · exact (small_apply _ x).trans ((resp_at x0 x1 x2 x3 x4 x5 x6 6 (x 2) (x 3)).trans (place_small 6 inb_S1x8x16x16_S1x1x16x16_0_6_0_0 (fun k c d => (headOf x0 x1 x2 x3 x4 x5 x6).kk k c d) x))
  · exact (small_apply _ x).trans ((resp_at x0 x1 x2 x3 x4 x5 x6 5 (x 2) (x 3)).trans (place_small 5 inb_S1x8x16x16_S1x1x16x16_0_5_0_0 (fun k c d => (headOf x0 x1 x2 x3 x4 x5 x6).kk k c d) x))
  · exact (small_apply _ x).trans ((resp_at x0 x1 x2 x3 x4 x5 x6 4 (x 2) (x 3)).trans (place_small 4 inb_S1x8x16x16_S1x1x16x16_0_4_0_0 (fun k c d => (headOf x0 x1 x2 x3 x4 x5 x6).kk k c d) x))
  · exact (small_apply _ x).trans ((resp_at x0 x1 x2 x3 x4 x5 x6 3 (x 2) (x 3)).trans (place_small 3 inb_S1x8x16x16_S1x1x16x16_0_3_0_0 (fun k c d => (headOf x0 x1 x2 x3 x4 x5 x6).kk k c d) x))
  · exact (small_apply _ x).trans ((resp_at x0 x1 x2 x3 x4 x5 x6 2 (x 2) (x 3)).trans (place_small 2 inb_S1x8x16x16_S1x1x16x16_0_2_0_0 (fun k c d => (headOf x0 x1 x2 x3 x4 x5 x6).kk k c d) x))
  · exact (small_apply _ x).trans ((resp_at x0 x1 x2 x3 x4 x5 x6 1 (x 2) (x 3)).trans (place_small 1 inb_S1x8x16x16_S1x1x16x16_0_1_0_0 (fun k c d => (headOf x0 x1 x2 x3 x4 x5 x6).kk k c d) x))
  · exact (small_apply _ x).trans ((resp_at x0 x1 x2 x3 x4 x5 x6 0 (x 2) (x 3)).trans (place_small 0 inb_S1x8x16x16_S1x1x16x16_0_0_0_0 (fun k c d => (headOf x0 x1 x2 x3 x4 x5 x6).kk k c d) x))

theorem out8_eq : out0_8 (F := Ideal) x0 x1 x2 x3 x4 x5 x6 = View.canon [⟨r0_17, shapeCast S1x1x16x64 (wRe (tB x0 x1 x2 x3 x4 x5 x6) (tE x0 x1 x2 x3 x4 x5 x6) (tP x0 x1 x2 x3 x4 x5 x6 7) (tQ x0 x1 x2 x3 x4 x5 x6 7)) shapeCasts_S16x64_S1x1x16x64⟩,
    ⟨r0_15, shapeCast S1x1x16x64 (wRe (tB x0 x1 x2 x3 x4 x5 x6) (tE x0 x1 x2 x3 x4 x5 x6) (tP x0 x1 x2 x3 x4 x5 x6 6) (tQ x0 x1 x2 x3 x4 x5 x6 6)) shapeCasts_S16x64_S1x1x16x64⟩,
    ⟨r0_13, shapeCast S1x1x16x64 (wRe (tB x0 x1 x2 x3 x4 x5 x6) (tE x0 x1 x2 x3 x4 x5 x6) (tP x0 x1 x2 x3 x4 x5 x6 5) (tQ x0 x1 x2 x3 x4 x5 x6 5)) shapeCasts_S16x64_S1x1x16x64⟩,
    ⟨r0_11, shapeCast S1x1x16x64 (wRe (tB x0 x1 x2 x3 x4 x5 x6) (tE x0 x1 x2 x3 x4 x5 x6) (tP x0 x1 x2 x3 x4 x5 x6 4) (tQ x0 x1 x2 x3 x4 x5 x6 4)) shapeCasts_S16x64_S1x1x16x64⟩,
    ⟨r0_9, shapeCast S1x1x16x64 (wRe (tB x0 x1 x2 x3 x4 x5 x6) (tE x0 x1 x2 x3 x4 x5 x6) (tP x0 x1 x2 x3 x4 x5 x6 3) (tQ x0 x1 x2 x3 x4 x5 x6 3)) shapeCasts_S16x64_S1x1x16x64⟩,
    ⟨r0_7, shapeCast S1x1x16x64 (wRe (tB x0 x1 x2 x3 x4 x5 x6) (tE x0 x1 x2 x3 x4 x5 x6) (tP x0 x1 x2 x3 x4 x5 x6 2) (tQ x0 x1 x2 x3 x4 x5 x6 2)) shapeCasts_S16x64_S1x1x16x64⟩,
    ⟨r0_5, shapeCast S1x1x16x64 (wRe (tB x0 x1 x2 x3 x4 x5 x6) (tE x0 x1 x2 x3 x4 x5 x6) (tP x0 x1 x2 x3 x4 x5 x6 1) (tQ x0 x1 x2 x3 x4 x5 x6 1)) shapeCasts_S16x64_S1x1x16x64⟩,
    ⟨r0_3, shapeCast S1x1x16x64 (wRe (tB x0 x1 x2 x3 x4 x5 x6) (tE x0 x1 x2 x3 x4 x5 x6) (tP x0 x1 x2 x3 x4 x5 x6 0) (tQ x0 x1 x2 x3 x4 x5 x6 0)) shapeCasts_S16x64_S1x1x16x64⟩] := by
  unfold out0_8
  simp only [pay110_eq, pay111_eq, pay112_eq, pay113_eq, pay115_eq, pay116_eq, pay119_eq, pay120_eq, pay123_eq, pay124_eq, pay126_eq, pay127_eq, pay128_eq, pay129_eq, pay114_eq, pay117_eq, pay118_eq, pay121_eq, pay122_eq, pay125_eq]
  rfl

/-- Window 8's block, entry by entry. -/
theorem out8_apply (y : S1x8x16x64.Idx) : out0_8 (F := Ideal) x0 x1 x2 x3 x4 x5 x6 y = (headOf x0 x1 x2 x3 x4 x5 x6).wr (y 1).val (y 2) (y 3) := by
  rw [out8_eq]
  refine View.canon_apply_of_pieces (Val := Elt Ideal) (e := .f32) (fun y : S1x8x16x64.Idx => (headOf x0 x1 x2 x3 x4 x5 x6).wr (y 1).val (y 2) (y 3)) _ ?_ y (cover0_8 _ _ _ _ _ _ _ _ y)
  intro p hp
  simp only [List.mem_cons, List.not_mem_nil, or_false] at hp
  rcases hp with rfl | rfl | rfl | rfl | rfl | rfl | rfl | rfl <;> intro x
  · exact (tall_apply _ x).trans ((wRe_at x0 x1 x2 x3 x4 x5 x6 7 (x 2) (x 3)).trans (place_tall 7 inb_S1x8x16x64_S1x1x16x64_0_7_0_0 (fun k c d => (headOf x0 x1 x2 x3 x4 x5 x6).wr k c d) x))
  · exact (tall_apply _ x).trans ((wRe_at x0 x1 x2 x3 x4 x5 x6 6 (x 2) (x 3)).trans (place_tall 6 inb_S1x8x16x64_S1x1x16x64_0_6_0_0 (fun k c d => (headOf x0 x1 x2 x3 x4 x5 x6).wr k c d) x))
  · exact (tall_apply _ x).trans ((wRe_at x0 x1 x2 x3 x4 x5 x6 5 (x 2) (x 3)).trans (place_tall 5 inb_S1x8x16x64_S1x1x16x64_0_5_0_0 (fun k c d => (headOf x0 x1 x2 x3 x4 x5 x6).wr k c d) x))
  · exact (tall_apply _ x).trans ((wRe_at x0 x1 x2 x3 x4 x5 x6 4 (x 2) (x 3)).trans (place_tall 4 inb_S1x8x16x64_S1x1x16x64_0_4_0_0 (fun k c d => (headOf x0 x1 x2 x3 x4 x5 x6).wr k c d) x))
  · exact (tall_apply _ x).trans ((wRe_at x0 x1 x2 x3 x4 x5 x6 3 (x 2) (x 3)).trans (place_tall 3 inb_S1x8x16x64_S1x1x16x64_0_3_0_0 (fun k c d => (headOf x0 x1 x2 x3 x4 x5 x6).wr k c d) x))
  · exact (tall_apply _ x).trans ((wRe_at x0 x1 x2 x3 x4 x5 x6 2 (x 2) (x 3)).trans (place_tall 2 inb_S1x8x16x64_S1x1x16x64_0_2_0_0 (fun k c d => (headOf x0 x1 x2 x3 x4 x5 x6).wr k c d) x))
  · exact (tall_apply _ x).trans ((wRe_at x0 x1 x2 x3 x4 x5 x6 1 (x 2) (x 3)).trans (place_tall 1 inb_S1x8x16x64_S1x1x16x64_0_1_0_0 (fun k c d => (headOf x0 x1 x2 x3 x4 x5 x6).wr k c d) x))
  · exact (tall_apply _ x).trans ((wRe_at x0 x1 x2 x3 x4 x5 x6 0 (x 2) (x 3)).trans (place_tall 0 inb_S1x8x16x64_S1x1x16x64_0_0_0_0 (fun k c d => (headOf x0 x1 x2 x3 x4 x5 x6).wr k c d) x))

theorem out9_eq : out0_9 (F := Ideal) x0 x1 x2 x3 x4 x5 x6 = View.canon [⟨r0_17, shapeCast S1x1x16x64 (wIm (tB x0 x1 x2 x3 x4 x5 x6) (tE x0 x1 x2 x3 x4 x5 x6) (tP x0 x1 x2 x3 x4 x5 x6 7) (tQ x0 x1 x2 x3 x4 x5 x6 7)) shapeCasts_S16x64_S1x1x16x64⟩,
    ⟨r0_15, shapeCast S1x1x16x64 (wIm (tB x0 x1 x2 x3 x4 x5 x6) (tE x0 x1 x2 x3 x4 x5 x6) (tP x0 x1 x2 x3 x4 x5 x6 6) (tQ x0 x1 x2 x3 x4 x5 x6 6)) shapeCasts_S16x64_S1x1x16x64⟩,
    ⟨r0_13, shapeCast S1x1x16x64 (wIm (tB x0 x1 x2 x3 x4 x5 x6) (tE x0 x1 x2 x3 x4 x5 x6) (tP x0 x1 x2 x3 x4 x5 x6 5) (tQ x0 x1 x2 x3 x4 x5 x6 5)) shapeCasts_S16x64_S1x1x16x64⟩,
    ⟨r0_11, shapeCast S1x1x16x64 (wIm (tB x0 x1 x2 x3 x4 x5 x6) (tE x0 x1 x2 x3 x4 x5 x6) (tP x0 x1 x2 x3 x4 x5 x6 4) (tQ x0 x1 x2 x3 x4 x5 x6 4)) shapeCasts_S16x64_S1x1x16x64⟩,
    ⟨r0_9, shapeCast S1x1x16x64 (wIm (tB x0 x1 x2 x3 x4 x5 x6) (tE x0 x1 x2 x3 x4 x5 x6) (tP x0 x1 x2 x3 x4 x5 x6 3) (tQ x0 x1 x2 x3 x4 x5 x6 3)) shapeCasts_S16x64_S1x1x16x64⟩,
    ⟨r0_7, shapeCast S1x1x16x64 (wIm (tB x0 x1 x2 x3 x4 x5 x6) (tE x0 x1 x2 x3 x4 x5 x6) (tP x0 x1 x2 x3 x4 x5 x6 2) (tQ x0 x1 x2 x3 x4 x5 x6 2)) shapeCasts_S16x64_S1x1x16x64⟩,
    ⟨r0_5, shapeCast S1x1x16x64 (wIm (tB x0 x1 x2 x3 x4 x5 x6) (tE x0 x1 x2 x3 x4 x5 x6) (tP x0 x1 x2 x3 x4 x5 x6 1) (tQ x0 x1 x2 x3 x4 x5 x6 1)) shapeCasts_S16x64_S1x1x16x64⟩,
    ⟨r0_3, shapeCast S1x1x16x64 (wIm (tB x0 x1 x2 x3 x4 x5 x6) (tE x0 x1 x2 x3 x4 x5 x6) (tP x0 x1 x2 x3 x4 x5 x6 0) (tQ x0 x1 x2 x3 x4 x5 x6 0)) shapeCasts_S16x64_S1x1x16x64⟩] := by
  unfold out0_9
  simp only [pay110_eq, pay111_eq, pay112_eq, pay113_eq, pay115_eq, pay116_eq, pay119_eq, pay120_eq, pay123_eq, pay124_eq, pay126_eq, pay127_eq, pay128_eq, pay129_eq, pay114_eq, pay117_eq, pay118_eq, pay121_eq, pay122_eq, pay125_eq]
  rfl

/-- Window 9's block, entry by entry. -/
theorem out9_apply (y : S1x8x16x64.Idx) : out0_9 (F := Ideal) x0 x1 x2 x3 x4 x5 x6 y = (headOf x0 x1 x2 x3 x4 x5 x6).wi (y 1).val (y 2) (y 3) := by
  rw [out9_eq]
  refine View.canon_apply_of_pieces (Val := Elt Ideal) (e := .f32) (fun y : S1x8x16x64.Idx => (headOf x0 x1 x2 x3 x4 x5 x6).wi (y 1).val (y 2) (y 3)) _ ?_ y (cover0_9 _ _ _ _ _ _ _ _ y)
  intro p hp
  simp only [List.mem_cons, List.not_mem_nil, or_false] at hp
  rcases hp with rfl | rfl | rfl | rfl | rfl | rfl | rfl | rfl <;> intro x
  · exact (tall_apply _ x).trans ((wIm_at x0 x1 x2 x3 x4 x5 x6 7 (x 2) (x 3)).trans (place_tall 7 inb_S1x8x16x64_S1x1x16x64_0_7_0_0 (fun k c d => (headOf x0 x1 x2 x3 x4 x5 x6).wi k c d) x))
  · exact (tall_apply _ x).trans ((wIm_at x0 x1 x2 x3 x4 x5 x6 6 (x 2) (x 3)).trans (place_tall 6 inb_S1x8x16x64_S1x1x16x64_0_6_0_0 (fun k c d => (headOf x0 x1 x2 x3 x4 x5 x6).wi k c d) x))
  · exact (tall_apply _ x).trans ((wIm_at x0 x1 x2 x3 x4 x5 x6 5 (x 2) (x 3)).trans (place_tall 5 inb_S1x8x16x64_S1x1x16x64_0_5_0_0 (fun k c d => (headOf x0 x1 x2 x3 x4 x5 x6).wi k c d) x))
  · exact (tall_apply _ x).trans ((wIm_at x0 x1 x2 x3 x4 x5 x6 4 (x 2) (x 3)).trans (place_tall 4 inb_S1x8x16x64_S1x1x16x64_0_4_0_0 (fun k c d => (headOf x0 x1 x2 x3 x4 x5 x6).wi k c d) x))
  · exact (tall_apply _ x).trans ((wIm_at x0 x1 x2 x3 x4 x5 x6 3 (x 2) (x 3)).trans (place_tall 3 inb_S1x8x16x64_S1x1x16x64_0_3_0_0 (fun k c d => (headOf x0 x1 x2 x3 x4 x5 x6).wi k c d) x))
  · exact (tall_apply _ x).trans ((wIm_at x0 x1 x2 x3 x4 x5 x6 2 (x 2) (x 3)).trans (place_tall 2 inb_S1x8x16x64_S1x1x16x64_0_2_0_0 (fun k c d => (headOf x0 x1 x2 x3 x4 x5 x6).wi k c d) x))
  · exact (tall_apply _ x).trans ((wIm_at x0 x1 x2 x3 x4 x5 x6 1 (x 2) (x 3)).trans (place_tall 1 inb_S1x8x16x64_S1x1x16x64_0_1_0_0 (fun k c d => (headOf x0 x1 x2 x3 x4 x5 x6).wi k c d) x))
  · exact (tall_apply _ x).trans ((wIm_at x0 x1 x2 x3 x4 x5 x6 0 (x 2) (x 3)).trans (place_tall 0 inb_S1x8x16x64_S1x1x16x64_0_0_0_0 (fun k c d => (headOf x0 x1 x2 x3 x4 x5 x6).wi k c d) x))

theorem out10_eq : out0_10 (F := Ideal) x0 x1 x2 x3 x4 x5 x6 = View.canon [⟨r0_17, shapeCast S1x1x16x64 (eRe (tC x0 x1 x2 x3 x4 x5 x6) (tD x0 x1 x2 x3 x4 x5 x6) (tP x0 x1 x2 x3 x4 x5 x6 8) (tQ x0 x1 x2 x3 x4 x5 x6 8)) shapeCasts_S16x64_S1x1x16x64⟩,
    ⟨r0_15, shapeCast S1x1x16x64 (eRe (tC x0 x1 x2 x3 x4 x5 x6) (tD x0 x1 x2 x3 x4 x5 x6) (tP x0 x1 x2 x3 x4 x5 x6 7) (tQ x0 x1 x2 x3 x4 x5 x6 7)) shapeCasts_S16x64_S1x1x16x64⟩,
    ⟨r0_13, shapeCast S1x1x16x64 (eRe (tC x0 x1 x2 x3 x4 x5 x6) (tD x0 x1 x2 x3 x4 x5 x6) (tP x0 x1 x2 x3 x4 x5 x6 6) (tQ x0 x1 x2 x3 x4 x5 x6 6)) shapeCasts_S16x64_S1x1x16x64⟩,
    ⟨r0_11, shapeCast S1x1x16x64 (eRe (tC x0 x1 x2 x3 x4 x5 x6) (tD x0 x1 x2 x3 x4 x5 x6) (tP x0 x1 x2 x3 x4 x5 x6 5) (tQ x0 x1 x2 x3 x4 x5 x6 5)) shapeCasts_S16x64_S1x1x16x64⟩,
    ⟨r0_9, shapeCast S1x1x16x64 (eRe (tC x0 x1 x2 x3 x4 x5 x6) (tD x0 x1 x2 x3 x4 x5 x6) (tP x0 x1 x2 x3 x4 x5 x6 4) (tQ x0 x1 x2 x3 x4 x5 x6 4)) shapeCasts_S16x64_S1x1x16x64⟩,
    ⟨r0_7, shapeCast S1x1x16x64 (eRe (tC x0 x1 x2 x3 x4 x5 x6) (tD x0 x1 x2 x3 x4 x5 x6) (tP x0 x1 x2 x3 x4 x5 x6 3) (tQ x0 x1 x2 x3 x4 x5 x6 3)) shapeCasts_S16x64_S1x1x16x64⟩,
    ⟨r0_5, shapeCast S1x1x16x64 (eRe (tC x0 x1 x2 x3 x4 x5 x6) (tD x0 x1 x2 x3 x4 x5 x6) (tP x0 x1 x2 x3 x4 x5 x6 2) (tQ x0 x1 x2 x3 x4 x5 x6 2)) shapeCasts_S16x64_S1x1x16x64⟩,
    ⟨r0_3, shapeCast S1x1x16x64 (eRe (tC x0 x1 x2 x3 x4 x5 x6) (tD x0 x1 x2 x3 x4 x5 x6) (tP x0 x1 x2 x3 x4 x5 x6 1) (tQ x0 x1 x2 x3 x4 x5 x6 1)) shapeCasts_S16x64_S1x1x16x64⟩] := by
  unfold out0_10
  simp only [pay110_eq, pay111_eq, pay112_eq, pay113_eq, pay115_eq, pay116_eq, pay119_eq, pay120_eq, pay123_eq, pay124_eq, pay126_eq, pay127_eq, pay128_eq, pay129_eq, pay114_eq, pay117_eq, pay118_eq, pay121_eq, pay122_eq, pay125_eq]
  rfl

/-- Window 10's block, entry by entry. -/
theorem out10_apply (y : S1x8x16x64.Idx) : out0_10 (F := Ideal) x0 x1 x2 x3 x4 x5 x6 y = (headOf x0 x1 x2 x3 x4 x5 x6).er ((y 1).val + 1) (y 2) (y 3) := by
  rw [out10_eq]
  refine View.canon_apply_of_pieces (Val := Elt Ideal) (e := .f32) (fun y : S1x8x16x64.Idx => (headOf x0 x1 x2 x3 x4 x5 x6).er ((y 1).val + 1) (y 2) (y 3)) _ ?_ y (cover0_10 _ _ _ _ _ _ _ _ y)
  intro p hp
  simp only [List.mem_cons, List.not_mem_nil, or_false] at hp
  rcases hp with rfl | rfl | rfl | rfl | rfl | rfl | rfl | rfl <;> intro x
  · exact (tall_apply _ x).trans ((eRe_at x0 x1 x2 x3 x4 x5 x6 8 (x 2) (x 3)).trans (place_tall 7 inb_S1x8x16x64_S1x1x16x64_0_7_0_0 (fun k c d => (headOf x0 x1 x2 x3 x4 x5 x6).er (k + 1) c d) x))
  · exact (tall_apply _ x).trans ((eRe_at x0 x1 x2 x3 x4 x5 x6 7 (x 2) (x 3)).trans (place_tall 6 inb_S1x8x16x64_S1x1x16x64_0_6_0_0 (fun k c d => (headOf x0 x1 x2 x3 x4 x5 x6).er (k + 1) c d) x))
  · exact (tall_apply _ x).trans ((eRe_at x0 x1 x2 x3 x4 x5 x6 6 (x 2) (x 3)).trans (place_tall 5 inb_S1x8x16x64_S1x1x16x64_0_5_0_0 (fun k c d => (headOf x0 x1 x2 x3 x4 x5 x6).er (k + 1) c d) x))
  · exact (tall_apply _ x).trans ((eRe_at x0 x1 x2 x3 x4 x5 x6 5 (x 2) (x 3)).trans (place_tall 4 inb_S1x8x16x64_S1x1x16x64_0_4_0_0 (fun k c d => (headOf x0 x1 x2 x3 x4 x5 x6).er (k + 1) c d) x))
  · exact (tall_apply _ x).trans ((eRe_at x0 x1 x2 x3 x4 x5 x6 4 (x 2) (x 3)).trans (place_tall 3 inb_S1x8x16x64_S1x1x16x64_0_3_0_0 (fun k c d => (headOf x0 x1 x2 x3 x4 x5 x6).er (k + 1) c d) x))
  · exact (tall_apply _ x).trans ((eRe_at x0 x1 x2 x3 x4 x5 x6 3 (x 2) (x 3)).trans (place_tall 2 inb_S1x8x16x64_S1x1x16x64_0_2_0_0 (fun k c d => (headOf x0 x1 x2 x3 x4 x5 x6).er (k + 1) c d) x))
  · exact (tall_apply _ x).trans ((eRe_at x0 x1 x2 x3 x4 x5 x6 2 (x 2) (x 3)).trans (place_tall 1 inb_S1x8x16x64_S1x1x16x64_0_1_0_0 (fun k c d => (headOf x0 x1 x2 x3 x4 x5 x6).er (k + 1) c d) x))
  · exact (tall_apply _ x).trans ((eRe_at x0 x1 x2 x3 x4 x5 x6 1 (x 2) (x 3)).trans (place_tall 0 inb_S1x8x16x64_S1x1x16x64_0_0_0_0 (fun k c d => (headOf x0 x1 x2 x3 x4 x5 x6).er (k + 1) c d) x))

theorem out11_eq : out0_11 (F := Ideal) x0 x1 x2 x3 x4 x5 x6 = View.canon [⟨r0_17, shapeCast S1x1x16x64 (eIm (tC x0 x1 x2 x3 x4 x5 x6) (tD x0 x1 x2 x3 x4 x5 x6) (tP x0 x1 x2 x3 x4 x5 x6 8) (tQ x0 x1 x2 x3 x4 x5 x6 8)) shapeCasts_S16x64_S1x1x16x64⟩,
    ⟨r0_15, shapeCast S1x1x16x64 (eIm (tC x0 x1 x2 x3 x4 x5 x6) (tD x0 x1 x2 x3 x4 x5 x6) (tP x0 x1 x2 x3 x4 x5 x6 7) (tQ x0 x1 x2 x3 x4 x5 x6 7)) shapeCasts_S16x64_S1x1x16x64⟩,
    ⟨r0_13, shapeCast S1x1x16x64 (eIm (tC x0 x1 x2 x3 x4 x5 x6) (tD x0 x1 x2 x3 x4 x5 x6) (tP x0 x1 x2 x3 x4 x5 x6 6) (tQ x0 x1 x2 x3 x4 x5 x6 6)) shapeCasts_S16x64_S1x1x16x64⟩,
    ⟨r0_11, shapeCast S1x1x16x64 (eIm (tC x0 x1 x2 x3 x4 x5 x6) (tD x0 x1 x2 x3 x4 x5 x6) (tP x0 x1 x2 x3 x4 x5 x6 5) (tQ x0 x1 x2 x3 x4 x5 x6 5)) shapeCasts_S16x64_S1x1x16x64⟩,
    ⟨r0_9, shapeCast S1x1x16x64 (eIm (tC x0 x1 x2 x3 x4 x5 x6) (tD x0 x1 x2 x3 x4 x5 x6) (tP x0 x1 x2 x3 x4 x5 x6 4) (tQ x0 x1 x2 x3 x4 x5 x6 4)) shapeCasts_S16x64_S1x1x16x64⟩,
    ⟨r0_7, shapeCast S1x1x16x64 (eIm (tC x0 x1 x2 x3 x4 x5 x6) (tD x0 x1 x2 x3 x4 x5 x6) (tP x0 x1 x2 x3 x4 x5 x6 3) (tQ x0 x1 x2 x3 x4 x5 x6 3)) shapeCasts_S16x64_S1x1x16x64⟩,
    ⟨r0_5, shapeCast S1x1x16x64 (eIm (tC x0 x1 x2 x3 x4 x5 x6) (tD x0 x1 x2 x3 x4 x5 x6) (tP x0 x1 x2 x3 x4 x5 x6 2) (tQ x0 x1 x2 x3 x4 x5 x6 2)) shapeCasts_S16x64_S1x1x16x64⟩,
    ⟨r0_3, shapeCast S1x1x16x64 (eIm (tC x0 x1 x2 x3 x4 x5 x6) (tD x0 x1 x2 x3 x4 x5 x6) (tP x0 x1 x2 x3 x4 x5 x6 1) (tQ x0 x1 x2 x3 x4 x5 x6 1)) shapeCasts_S16x64_S1x1x16x64⟩] := by
  unfold out0_11
  simp only [pay110_eq, pay111_eq, pay112_eq, pay113_eq, pay115_eq, pay116_eq, pay119_eq, pay120_eq, pay123_eq, pay124_eq, pay126_eq, pay127_eq, pay128_eq, pay129_eq, pay114_eq, pay117_eq, pay118_eq, pay121_eq, pay122_eq, pay125_eq]
  rfl

/-- Window 11's block, entry by entry. -/
theorem out11_apply (y : S1x8x16x64.Idx) : out0_11 (F := Ideal) x0 x1 x2 x3 x4 x5 x6 y = (headOf x0 x1 x2 x3 x4 x5 x6).ei ((y 1).val + 1) (y 2) (y 3) := by
  rw [out11_eq]
  refine View.canon_apply_of_pieces (Val := Elt Ideal) (e := .f32) (fun y : S1x8x16x64.Idx => (headOf x0 x1 x2 x3 x4 x5 x6).ei ((y 1).val + 1) (y 2) (y 3)) _ ?_ y (cover0_11 _ _ _ _ _ _ _ _ y)
  intro p hp
  simp only [List.mem_cons, List.not_mem_nil, or_false] at hp
  rcases hp with rfl | rfl | rfl | rfl | rfl | rfl | rfl | rfl <;> intro x
  · exact (tall_apply _ x).trans ((eIm_at x0 x1 x2 x3 x4 x5 x6 8 (x 2) (x 3)).trans (place_tall 7 inb_S1x8x16x64_S1x1x16x64_0_7_0_0 (fun k c d => (headOf x0 x1 x2 x3 x4 x5 x6).ei (k + 1) c d) x))
  · exact (tall_apply _ x).trans ((eIm_at x0 x1 x2 x3 x4 x5 x6 7 (x 2) (x 3)).trans (place_tall 6 inb_S1x8x16x64_S1x1x16x64_0_6_0_0 (fun k c d => (headOf x0 x1 x2 x3 x4 x5 x6).ei (k + 1) c d) x))
  · exact (tall_apply _ x).trans ((eIm_at x0 x1 x2 x3 x4 x5 x6 6 (x 2) (x 3)).trans (place_tall 5 inb_S1x8x16x64_S1x1x16x64_0_5_0_0 (fun k c d => (headOf x0 x1 x2 x3 x4 x5 x6).ei (k + 1) c d) x))
  · exact (tall_apply _ x).trans ((eIm_at x0 x1 x2 x3 x4 x5 x6 5 (x 2) (x 3)).trans (place_tall 4 inb_S1x8x16x64_S1x1x16x64_0_4_0_0 (fun k c d => (headOf x0 x1 x2 x3 x4 x5 x6).ei (k + 1) c d) x))
  · exact (tall_apply _ x).trans ((eIm_at x0 x1 x2 x3 x4 x5 x6 4 (x 2) (x 3)).trans (place_tall 3 inb_S1x8x16x64_S1x1x16x64_0_3_0_0 (fun k c d => (headOf x0 x1 x2 x3 x4 x5 x6).ei (k + 1) c d) x))
  · exact (tall_apply _ x).trans ((eIm_at x0 x1 x2 x3 x4 x5 x6 3 (x 2) (x 3)).trans (place_tall 2 inb_S1x8x16x64_S1x1x16x64_0_2_0_0 (fun k c d => (headOf x0 x1 x2 x3 x4 x5 x6).ei (k + 1) c d) x))
  · exact (tall_apply _ x).trans ((eIm_at x0 x1 x2 x3 x4 x5 x6 2 (x 2) (x 3)).trans (place_tall 1 inb_S1x8x16x64_S1x1x16x64_0_1_0_0 (fun k c d => (headOf x0 x1 x2 x3 x4 x5 x6).ei (k + 1) c d) x))
  · exact (tall_apply _ x).trans ((eIm_at x0 x1 x2 x3 x4 x5 x6 1 (x 2) (x 3)).trans (place_tall 0 inb_S1x8x16x64_S1x1x16x64_0_0_0_0 (fun k c d => (headOf x0 x1 x2 x3 x4 x5 x6).ei (k + 1) c d) x))

/-- Window 12's block, entry by entry. -/
theorem out12_apply (y : S1x1x64.Idx) : out0_12 (F := Ideal) x0 x1 x2 x3 x4 x5 x6 y = ((headOf x0 x1 x2 x3 x4 x5 x6).pw (y 2) 8).1 := by
  have e : out0_12 (F := Ideal) x0 x1 x2 x3 x4 x5 x6 = shapeCast S1x1x64 (tP x0 x1 x2 x3 x4 x5 x6 8) shapeCasts_S1x64_S1x1x64 := by
    unfold out0_12
    rw [View.canon_unit_zero hz3, pay128_eq, pay129_eq]
    rfl
  rw [e, flat_apply]
  exact tP_apply x0 x1 x2 x3 x4 x5 x6 8 (y 2)

/-- Window 13's block, entry by entry. -/
theorem out13_apply (y : S1x1x64.Idx) : out0_13 (F := Ideal) x0 x1 x2 x3 x4 x5 x6 y = ((headOf x0 x1 x2 x3 x4 x5 x6).pw (y 2) 8).2 := by
  have e : out0_13 (F := Ideal) x0 x1 x2 x3 x4 x5 x6 = shapeCast S1x1x64 (tQ x0 x1 x2 x3 x4 x5 x6 8) shapeCasts_S1x64_S1x1x64 := by
    unfold out0_13
    rw [View.canon_unit_zero hz3, pay128_eq, pay129_eq]
    rfl
  rw [e, flat_apply]
  exact tQ_apply x0 x1 x2 x3 x4 x5 x6 8 (y 2)

end Body

end Cert.Kernel4Ideal.Powers

end
-- ==== Proof.PowValue.lean ====
/- What the powers call's seven result arrays hold after the run, at the extended reals: one head to a grid point, every
   block written at its own point. -/
module

public import proofs.«01_k».proof.Proof.PowKer
public import Idealize.ShloMosaic.Lib.StableHlo.Run
public import Idealize.ShloMosaic.Lib.Pipeline.ValueKit.Basic
public import Idealize.ShloMosaic.Lib.Pointwise
public import Idealize.ShloMosaic.Lib.Tactic

@[expose] public section

set_option maxRecDepth 16384

noncomputable section

namespace Cert.Kernel4Ideal.Powers

open Cert.Kernel4Ideal Cert.Kernel4Ideal.Gen Cert.Proof.Powers
open Idealize.ShloMosaic Idealize.ShloMosaic.TcCoe Idealize.ShloMosaic.StableHlo Idealize.ShloMosaic.Tactic Idealize.SL.Sem

variable (m : (ℓ : Loc nD τ sig) → Buf (Elt Ideal) ℓ) (ρ : Dev nD → PrngReg)

/-- The arguments, by coordinates. -/
def in0 (c : Dev nD) : S2x32x64.Idx → EReal := m ((c : Thread nD τ).loc main_arg0)
def in1 (c : Dev nD) : S2x32x64.Idx → EReal := m ((c : Thread nD τ).loc main_arg1)
def in2 (c : Dev nD) : S2x32.Idx → EReal := m ((c : Thread nD τ).loc main_arg2)
def in3 (c : Dev nD) : S2x32x64x16.Idx → EReal := m ((c : Thread nD τ).loc main_arg3)
def in4 (c : Dev nD) : S2x32x64x16.Idx → EReal := m ((c : Thread nD τ).loc main_arg4)
def in5 (c : Dev nD) : S2x32x16x64.Idx → EReal := m ((c : Thread nD τ).loc main_arg5)
def in6 (c : Dev nD) : S2x32x16x64.Idx → EReal := m ((c : Thread nD τ).loc main_arg6)

/-- A flat head's layer and its number in the layer. -/
abbrev lay (s : Fin 64) : Fin 2 := ⟨s.val / 32, by have h := s.isLt; omega⟩
abbrev num (s : Fin 64) : Fin 32 := ⟨s.val % 32, Nat.mod_lt _ (by decide)⟩

/-- The head the arguments hold at the flat number `s`. -/
def headM (c : Dev nD) (s : Fin 64) : Head where
  ar n := in0 m c (ix3 (lay s) (num s) n)
  ai n := in1 m c (ix3 (lay s) (num s) n)
  ld := in2 m c (ix2 (lay s) (num s))
  br k n := in3 m c (ix4 (lay s) (num s) n k)
  bi k n := in4 m c (ix4 (lay s) (num s) n k)
  cr k n := in5 m c (ix4 (lay s) (num s) k n)
  ci k n := in6 m c (ix4 (lay s) (num s) k n)

theorem head_mk {a a' b b' : Fin 64 → EReal} {d d' : EReal} {e e' f f' g g' h h' : Fin 16 → Fin 64 → EReal}
    (p0 : a = a') (p1 : b = b') (p2 : d = d') (p3 : e = e') (p4 : f = f') (p5 : g = g') (p6 : h = h') :
    Head.mk a b d e f g h = Head.mk a' b' d' e' f' g' h' := by subst p0 p1 p2 p3 p4 p5 p6; rfl

/-! What the windows read of the arguments: reshapes, and for the input maps a transpose. -/

theorem V_main_v6 (c : Dev nD) : V m c main_v6 = shapeCast S64x1x64 (in0 m c) shapeCasts_S2x32x64_S64x1x64 := by
  show StableHlo.after hostOps0 (fun b => m (c, b)) (Proc.tc.devRef main_v6) = _
  after_results_simp
  rfl

theorem V_main_v7 (c : Dev nD) : V m c main_v7 = shapeCast S64x1x64 (in1 m c) shapeCasts_S2x32x64_S64x1x64 := by
  show StableHlo.after hostOps0 (fun b => m (c, b)) (Proc.tc.devRef main_v7) = _
  after_results_simp
  rfl

theorem V_main_v8 (c : Dev nD) : V m c main_v8 = shapeCast S64x1x1 (in2 m c) shapeCasts_S2x32_S64x1x1 := by
  show StableHlo.after hostOps0 (fun b => m (c, b)) (Proc.tc.devRef main_v8) = _
  after_results_simp
  rfl

theorem V_main_v1 (c : Dev nD) : V m c main_v1 = transpose S64x16x64 [0, 2, 1] (shapeCast S64x64x16 (in3 m c) shapeCasts_S2x32x64x16_S64x64x16) transposes_S64x64x16_S64x16x64_0_2_1 := by
  show StableHlo.after hostOps0 (fun b => m (c, b)) (Proc.tc.devRef main_v1) = _
  after_results_simp
  rfl

theorem V_main_v3 (c : Dev nD) : V m c main_v3 = transpose S64x16x64 [0, 2, 1] (shapeCast S64x64x16 (in4 m c) shapeCasts_S2x32x64x16_S64x64x16) transposes_S64x64x16_S64x16x64_0_2_1 := by
  show StableHlo.after hostOps0 (fun b => m (c, b)) (Proc.tc.devRef main_v3) = _
  after_results_simp
  rfl

theorem V_main_v4 (c : Dev nD) : V m c main_v4 = shapeCast S64x16x64 (in5 m c) shapeCasts_S2x32x16x64_S64x16x64 := by
  show StableHlo.after hostOps0 (fun b => m (c, b)) (Proc.tc.devRef main_v4) = _
  after_results_simp
  rfl

theorem V_main_v5 (c : Dev nD) : V m c main_v5 = shapeCast S64x16x64 (in6 m c) shapeCasts_S2x32x16x64_S64x16x64 := by
  show StableHlo.after hostOps0 (fun b => m (c, b)) (Proc.tc.devRef main_v5) = _
  after_results_simp
  rfl

theorem idx0_0 : ∀ t : Fin grid0.N, win0_0.index t 0 = t.val ∧ win0_0.index t 1 = 0 ∧ win0_0.index t 2 = 0 := by decide +kernel
theorem idx0_1 : ∀ t : Fin grid0.N, win0_1.index t 0 = t.val ∧ win0_1.index t 1 = 0 ∧ win0_1.index t 2 = 0 := by decide +kernel
theorem idx0_2 : ∀ t : Fin grid0.N, win0_2.index t 0 = t.val ∧ win0_2.index t 1 = 0 ∧ win0_2.index t 2 = 0 := by decide +kernel
theorem idx0_3 : ∀ t : Fin grid0.N, win0_3.index t 0 = t.val ∧ win0_3.index t 1 = 0 ∧ win0_3.index t 2 = 0 := by decide +kernel
theorem idx0_4 : ∀ t : Fin grid0.N, win0_4.index t 0 = t.val ∧ win0_4.index t 1 = 0 ∧ win0_4.index t 2 = 0 := by decide +kernel
theorem idx0_5 : ∀ t : Fin grid0.N, win0_5.index t 0 = t.val ∧ win0_5.index t 1 = 0 ∧ win0_5.index t 2 = 0 := by decide +kernel
theorem idx0_6 : ∀ t : Fin grid0.N, win0_6.index t 0 = t.val ∧ win0_6.index t 1 = 0 ∧ win0_6.index t 2 = 0 := by decide +kernel
theorem idx0_7 : ∀ t : Fin grid0.N, win0_7.index t 0 = t.val ∧ win0_7.index t 1 = 0 ∧ win0_7.index t 2 = 0 ∧ win0_7.index t 3 = 0 := by decide +kernel
theorem idx0_8 : ∀ t : Fin grid0.N, win0_8.index t 0 = t.val ∧ win0_8.index t 1 = 0 ∧ win0_8.index t 2 = 0 ∧ win0_8.index t 3 = 0 := by decide +kernel
theorem idx0_9 : ∀ t : Fin grid0.N, win0_9.index t 0 = t.val ∧ win0_9.index t 1 = 0 ∧ win0_9.index t 2 = 0 ∧ win0_9.index t 3 = 0 := by decide +kernel
theorem idx0_10 : ∀ t : Fin grid0.N, win0_10.index t 0 = t.val ∧ win0_10.index t 1 = 0 ∧ win0_10.index t 2 = 0 ∧ win0_10.index t 3 = 0 := by decide +kernel
theorem idx0_11 : ∀ t : Fin grid0.N, win0_11.index t 0 = t.val ∧ win0_11.index t 1 = 0 ∧ win0_11.index t 2 = 0 ∧ win0_11.index t 3 = 0 := by decide +kernel
theorem idx0_12 : ∀ t : Fin grid0.N, win0_12.index t 0 = t.val ∧ win0_12.index t 1 = 0 ∧ win0_12.index t 2 = 0 := by decide +kernel
theorem idx0_13 : ∀ t : Fin grid0.N, win0_13.index t 0 = t.val ∧ win0_13.index t 1 = 0 ∧ win0_13.index t 2 = 0 := by decide +kernel

theorem blk0 (c : Dev nD) (t : Fin cfg0.N) (s : Fin 64) (hs : s.val = t.val) (n : Fin 64) :
    (iblk m c 0 t : S1x1x64.Idx → EReal) (ix3 (0 : Fin 1) (0 : Fin 1) n) = in0 m c (ix3 (lay s) (num s) n) := by
  unfold iblk
  show (V m c main_v6) ((win0_0.rect t).emb (ix3 (0 : Fin 1) (0 : Fin 1) n)) = _
  have ee : (win0_0.rect t).emb (ix3 (0 : Fin 1) (0 : Fin 1) n) = (ix3 s (0 : Fin 1) n : S64x1x64.Idx) := by
    funext a
    apply Fin.ext
    refine (Pipeline.Window.rect_emb_val win0_0 t _ a).trans ?_
    have e := idx0_0 t
    match a with
    | ⟨0, _⟩ => show win0_0.index t 0 * 1 + 0 = s.val; rw [e.1]; omega
    | ⟨1, _⟩ => show win0_0.index t 1 * 1 + 0 = 0; have h := e.2.1; omega
    | ⟨2, _⟩ => show win0_0.index t 2 * 64 + n.val = n.val; have h := e.2.2; omega
  rw [ee, V_main_v6]
  refine shapeCast_apply _ _ _ (ix3 (lay s) (num s) n) ?_
  rw [Shape.rowMajor_val_three, Shape.rowMajor_val_three]
  show ((s.val / 32) * 32 + s.val % 32) * 64 + n.val = (s.val * 1 + 0) * 64 + n.val
  omega

theorem blk1 (c : Dev nD) (t : Fin cfg0.N) (s : Fin 64) (hs : s.val = t.val) (n : Fin 64) :
    (iblk m c 1 t : S1x1x64.Idx → EReal) (ix3 (0 : Fin 1) (0 : Fin 1) n) = in1 m c (ix3 (lay s) (num s) n) := by
  unfold iblk
  show (V m c main_v7) ((win0_1.rect t).emb (ix3 (0 : Fin 1) (0 : Fin 1) n)) = _
  have ee : (win0_1.rect t).emb (ix3 (0 : Fin 1) (0 : Fin 1) n) = (ix3 s (0 : Fin 1) n : S64x1x64.Idx) := by
    funext a
    apply Fin.ext
    refine (Pipeline.Window.rect_emb_val win0_1 t _ a).trans ?_
    have e := idx0_1 t
    match a with
    | ⟨0, _⟩ => show win0_1.index t 0 * 1 + 0 = s.val; rw [e.1]; omega
    | ⟨1, _⟩ => show win0_1.index t 1 * 1 + 0 = 0; have h := e.2.1; omega
    | ⟨2, _⟩ => show win0_1.index t 2 * 64 + n.val = n.val; have h := e.2.2; omega
  rw [ee, V_main_v7]
  refine shapeCast_apply _ _ _ (ix3 (lay s) (num s) n) ?_
  rw [Shape.rowMajor_val_three, Shape.rowMajor_val_three]
  show ((s.val / 32) * 32 + s.val % 32) * 64 + n.val = (s.val * 1 + 0) * 64 + n.val
  omega

theorem blk2 (c : Dev nD) (t : Fin cfg0.N) (s : Fin 64) (hs : s.val = t.val)  :
    (iblk m c 2 t : S1x1x1.Idx → EReal) (ix3 (0 : Fin 1) (0 : Fin 1) (0 : Fin 1)) = in2 m c (ix2 (lay s) (num s)) := by
  unfold iblk
  show (V m c main_v8) ((win0_2.rect t).emb (ix3 (0 : Fin 1) (0 : Fin 1) (0 : Fin 1))) = _
  have ee : (win0_2.rect t).emb (ix3 (0 : Fin 1) (0 : Fin 1) (0 : Fin 1)) = (ix3 s (0 : Fin 1) (0 : Fin 1) : S64x1x1.Idx) := by
    funext a
    apply Fin.ext
    refine (Pipeline.Window.rect_emb_val win0_2 t _ a).trans ?_
    have e := idx0_2 t
    match a with
    | ⟨0, _⟩ => show win0_2.index t 0 * 1 + 0 = s.val; rw [e.1]; omega
    | ⟨1, _⟩ => show win0_2.index t 1 * 1 + 0 = 0; have h := e.2.1; omega
    | ⟨2, _⟩ => show win0_2.index t 2 * 1 + 0 = 0; have h := e.2.2; omega
  rw [ee, V_main_v8]
  refine shapeCast_apply _ _ _ (ix2 (lay s) (num s)) ?_
  rw [Shape.rowMajor_val_two, Shape.rowMajor_val_three]
  show (s.val / 32) * 32 + s.val % 32 = (s.val * 1 + 0) * 1 + 0
  omega

theorem blk3 (c : Dev nD) (t : Fin cfg0.N) (s : Fin 64) (hs : s.val = t.val) (k : Fin 16) (n : Fin 64) :
    (iblk m c 3 t : S1x16x64.Idx → EReal) (ix3 (0 : Fin 1) k n) = in3 m c (ix4 (lay s) (num s) n k) := by
  unfold iblk
  show (V m c main_v1) ((win0_3.rect t).emb (ix3 (0 : Fin 1) k n)) = _
  have ee : (win0_3.rect t).emb (ix3 (0 : Fin 1) k n) = (ix3 s k n : S64x16x64.Idx) := by
    funext a
    apply Fin.ext
    refine (Pipeline.Window.rect_emb_val win0_3 t _ a).trans ?_
    have e := idx0_3 t
    match a with
    | ⟨0, _⟩ => show win0_3.index t 0 * 1 + 0 = s.val; rw [e.1]; omega
    | ⟨1, _⟩ => show win0_3.index t 1 * 16 + k.val = k.val; have h := e.2.1; omega
    | ⟨2, _⟩ => show win0_3.index t 2 * 64 + n.val = n.val; have h := e.2.2; omega
  rw [ee, V_main_v1]
  refine (transpose_apply _ _ _ _ (ix3 s n k : S64x64x16.Idx) (fun b => by fin_cases b <;> rfl)).trans ?_
  refine shapeCast_apply _ _ _ (ix4 (lay s) (num s) n k) ?_
  rw [Shape.rowMajor_val_four, Shape.rowMajor_val_three]
  show (((s.val / 32) * 32 + s.val % 32) * 64 + n.val) * 16 + k.val = (s.val * 64 + n.val) * 16 + k.val
  omega

theorem blk4 (c : Dev nD) (t : Fin cfg0.N) (s : Fin 64) (hs : s.val = t.val) (k : Fin 16) (n : Fin 64) :
    (iblk m c 4 t : S1x16x64.Idx → EReal) (ix3 (0 : Fin 1) k n) = in4 m c (ix4 (lay s) (num s) n k) := by
  unfold iblk
  show (V m c main_v3) ((win0_4.rect t).emb (ix3 (0 : Fin 1) k n)) = _
  have ee : (win0_4.rect t).emb (ix3 (0 : Fin 1) k n) = (ix3 s k n : S64x16x64.Idx) := by
    funext a
    apply Fin.ext
    refine (Pipeline.Window.rect_emb_val win0_4 t _ a).trans ?_
    have e := idx0_4 t
    match a with
    | ⟨0, _⟩ => show win0_4.index t 0 * 1 + 0 = s.val; rw [e.1]; omega
    | ⟨1, _⟩ => show win0_4.index t 1 * 16 + k.val = k.val; have h := e.2.1; omega
    | ⟨2, _⟩ => show win0_4.index t 2 * 64 + n.val = n.val; have h := e.2.2; omega
  rw [ee, V_main_v3]
  refine (transpose_apply _ _ _ _ (ix3 s n k : S64x64x16.Idx) (fun b => by fin_cases b <;> rfl)).trans ?_
  refine shapeCast_apply _ _ _ (ix4 (lay s) (num s) n k) ?_
  rw [Shape.rowMajor_val_four, Shape.rowMajor_val_three]
  show (((s.val / 32) * 32 + s.val % 32) * 64 + n.val) * 16 + k.val = (s.val * 64 + n.val) * 16 + k.val
  omega

theorem blk5 (c : Dev nD) (t : Fin cfg0.N) (s : Fin 64) (hs : s.val = t.val) (k : Fin 16) (n : Fin 64) :
    (iblk m c 5 t : S1x16x64.Idx → EReal) (ix3 (0 : Fin 1) k n) = in5 m c (ix4 (lay s) (num s) k n) := by
  unfold iblk
  show (V m c main_v4) ((win0_5.rect t).emb (ix3 (0 : Fin 1) k n)) = _
  have ee : (win0_5.rect t).emb (ix3 (0 : Fin 1) k n) = (ix3 s k n : S64x16x64.Idx) := by
    funext a
    apply Fin.ext
    refine (Pipeline.Window.rect_emb_val win0_5 t _ a).trans ?_
    have e := idx0_5 t
    match a with
    | ⟨0, _⟩ => show win0_5.index t 0 * 1 + 0 = s.val; rw [e.1]; omega
    | ⟨1, _⟩ => show win0_5.index t 1 * 16 + k.val = k.val; have h := e.2.1; omega
    | ⟨2, _⟩ => show win0_5.index t 2 * 64 + n.val = n.val; have h := e.2.2; omega
  rw [ee, V_main_v4]
  refine shapeCast_apply _ _ _ (ix4 (lay s) (num s) k n) ?_
  rw [Shape.rowMajor_val_four, Shape.rowMajor_val_three]
  show (((s.val / 32) * 32 + s.val % 32) * 16 + k.val) * 64 + n.val = (s.val * 16 + k.val) * 64 + n.val
  omega

theorem blk6 (c : Dev nD) (t : Fin cfg0.N) (s : Fin 64) (hs : s.val = t.val) (k : Fin 16) (n : Fin 64) :
    (iblk m c 6 t : S1x16x64.Idx → EReal) (ix3 (0 : Fin 1) k n) = in6 m c (ix4 (lay s) (num s) k n) := by
  unfold iblk
  show (V m c main_v5) ((win0_6.rect t).emb (ix3 (0 : Fin 1) k n)) = _
  have ee : (win0_6.rect t).emb (ix3 (0 : Fin 1) k n) = (ix3 s k n : S64x16x64.Idx) := by
    funext a
    apply Fin.ext
    refine (Pipeline.Window.rect_emb_val win0_6 t _ a).trans ?_
    have e := idx0_6 t
    match a with
    | ⟨0, _⟩ => show win0_6.index t 0 * 1 + 0 = s.val; rw [e.1]; omega
    | ⟨1, _⟩ => show win0_6.index t 1 * 16 + k.val = k.val; have h := e.2.1; omega
    | ⟨2, _⟩ => show win0_6.index t 2 * 64 + n.val = n.val; have h := e.2.2; omega
  rw [ee, V_main_v5]
  refine shapeCast_apply _ _ _ (ix4 (lay s) (num s) k n) ?_
  rw [Shape.rowMajor_val_four, Shape.rowMajor_val_three]
  show (((s.val / 32) * 32 + s.val % 32) * 16 + k.val) * 64 + n.val = (s.val * 16 + k.val) * 64 + n.val
  omega

/-- A grid point's blocks are one head's arguments. -/
theorem head_at (c : Dev nD) (t : Fin cfg0.N) (s : Fin 64) (hs : s.val = t.val) :
    headOf (iblk m c 0 t) (iblk m c 1 t) (iblk m c 2 t) (iblk m c 3 t) (iblk m c 4 t) (iblk m c 5 t) (iblk m c 6 t) = headM m c s :=
  head_mk (funext fun n => blk0 m c t s hs n) (funext fun n => blk1 m c t s hs n) (blk2 m c t s hs)
    (funext fun k => funext fun n => blk3 m c t s hs k n) (funext fun k => funext fun n => blk4 m c t s hs k n)
    (funext fun k => funext fun n => blk5 m c t s hs k n) (funext fun k => funext fun n => blk6 m c t s hs k n)

/-! The results, window by window. -/

def val7 (c : Dev nD) : Buf (Elt Ideal) ((c : Thread nD τ).loc main_v9_0) := fun (j : S64x8x16x16.Idx) => (headM m c (j 0)).kk (j 1).val (j 2) (j 3)

theorem flushes7 (c : Dev nD) (t : Fin cfg0.N) : (dats m 0 c).flushed 7 t = (win0_7.blk t).view.read (Elt Ideal) (val7 m c) := by
  show (cfg0.win 7).cut (grid0.coords t) ((dats m 0 c).after 7 t) = _
  rw [after0_7]
  have hN : cfg0.N = 64 := N_0
  have ht := t.isLt
  funext (y : S1x8x16x16.Idx)
  have y0 : (y 0).val < 1 := (y 0).isLt
  have y1 : (y 1).val < 8 := (y 1).isLt
  have y2 : (y 2).val < 16 := (y 2).isLt
  have y3 : (y 3).val < 16 := (y 3).isLt
  have e0 : (((win0_7.rect t).emb y) 0).val = win0_7.index t 0 * 1 + (y 0).val := Pipeline.Window.rect_emb_val win0_7 t y 0
  have e1 : (((win0_7.rect t).emb y) 1).val = win0_7.index t 1 * 8 + (y 1).val := Pipeline.Window.rect_emb_val win0_7 t y 1
  have e2 : (((win0_7.rect t).emb y) 2).val = win0_7.index t 2 * 16 + (y 2).val := Pipeline.Window.rect_emb_val win0_7 t y 2
  have e3 : (((win0_7.rect t).emb y) 3).val = win0_7.index t 3 * 16 + (y 3).val := Pipeline.Window.rect_emb_val win0_7 t y 3
  rw [(idx0_7 t).1] at e0
  rw [(idx0_7 t).2.1] at e1
  rw [(idx0_7 t).2.2.1] at e2
  rw [(idx0_7 t).2.2.2] at e3
  have read (g : S64x8x16x16.Idx → EReal) (h : out0_7 (F := Ideal) (iblk m c 0 t) (iblk m c 1 t) (iblk m c 2 t) (iblk m c 3 t) (iblk m c 4 t) (iblk m c 5 t) (iblk m c 6 t) y = g ((win0_7.rect t).emb y)) :
      (cfg0.win 7).cut (grid0.coords t) (out0_7 (F := Ideal) (iblk m c 0 t) (iblk m c 1 t) (iblk m c 2 t) (iblk m c 3 t) (iblk m c 4 t) (iblk m c 5 t) (iblk m c 6 t)) y = (win0_7.blk t).view.read (Elt Ideal) g y := h
  refine read (val7 m c) ?_
  rw [out7_apply, head_at m c t (((win0_7.rect t).emb y) 0) (by omega)]
  unfold val7
  have q1 : (y 1).val = (((win0_7.rect t).emb y) 1).val := by omega
  have q2 : (y 2 : Fin 16) = (((win0_7.rect t).emb y) 2 : Fin 16) := Fin.ext (by omega)
  have q3 : (y 3 : Fin 16) = (((win0_7.rect t).emb y) 3 : Fin 16) := Fin.ext (by omega)
  have all : ∀ (H : Head) (p p' : ℕ) (q q' : Fin 16) (r r' : Fin 16), p = p' → q = q' → r = r' → H.kk (p) q r = H.kk (p') q' r' := by
    intro H p p' q q' r r' h1 h2 h3; rw [h1, h2, h3]
  exact all _ _ _ _ _ _ _ q1 q2 q3

theorem cover7 (i : S64x8x16x16.Idx) : ∃ t : Fin cfg0.N, (cfg0.win 7).flush t = true ∧ i ∈ ((cfg0.win 7).blk t).view.set := by
  have h0 : (i 0 : ℕ) < 64 := (i 0).isLt
  have h1 : (i 1 : ℕ) < 8 := (i 1).isLt
  have h2 : (i 2 : ℕ) < 16 := (i 2).isLt
  have h3 : (i 3 : ℕ) < 16 := (i 3).isLt
  have hN : cfg0.N = 64 := N_0
  have ht : (i 0 : ℕ) < cfg0.N := by omega
  refine ⟨⟨_, ht⟩, flush0_7 _, ?_⟩
  show i ∈ ((View.whole main_v9_0).slice (win0_7.rect ⟨_, ht⟩)).set
  rw [View.set_slice_whole, Pipeline.Window.mem_rect_iff (w := win0_7)]
  have e := idx0_7 ⟨_, ht⟩
  intro a
  match a with
  | ⟨0, _⟩ => show win0_7.index ⟨_, ht⟩ 0 * 1 ≤ (i 0 : ℕ) ∧ (i 0 : ℕ) < win0_7.index ⟨_, ht⟩ 0 * 1 + 1; rw [e.1]; dsimp only; omega
  | ⟨1, _⟩ => show win0_7.index ⟨_, ht⟩ 1 * 8 ≤ (i 1 : ℕ) ∧ (i 1 : ℕ) < win0_7.index ⟨_, ht⟩ 1 * 8 + 8; rw [e.2.1]; omega
  | ⟨2, _⟩ => show win0_7.index ⟨_, ht⟩ 2 * 16 ≤ (i 2 : ℕ) ∧ (i 2 : ℕ) < win0_7.index ⟨_, ht⟩ 2 * 16 + 16; rw [e.2.2.1]; omega
  | ⟨3, _⟩ => show win0_7.index ⟨_, ht⟩ 3 * 16 ≤ (i 3 : ℕ) ∧ (i 3 : ℕ) < win0_7.index ⟨_, ht⟩ 3 * 16 + 16; rw [e.2.2.2]; omega

theorem final7 (c : Dev nD) : (dats m 0 c).arrAt 7 cfg0.N = val7 m c :=
  (dats m 0 c).arrAt_eq_of_cover 7 (val7 m c) (fun t _ => flushes7 m c t) cover7

def val8 (c : Dev nD) : Buf (Elt Ideal) ((c : Thread nD τ).loc main_v9_1) := fun (j : S64x8x16x64.Idx) => (headM m c (j 0)).wr (j 1).val (j 2) (j 3)

theorem flushes8 (c : Dev nD) (t : Fin cfg0.N) : (dats m 0 c).flushed 8 t = (win0_8.blk t).view.read (Elt Ideal) (val8 m c) := by
  show (cfg0.win 8).cut (grid0.coords t) ((dats m 0 c).after 8 t) = _
  rw [after0_8]
  have hN : cfg0.N = 64 := N_0
  have ht := t.isLt
  funext (y : S1x8x16x64.Idx)
  have y0 : (y 0).val < 1 := (y 0).isLt
  have y1 : (y 1).val < 8 := (y 1).isLt
  have y2 : (y 2).val < 16 := (y 2).isLt
  have y3 : (y 3).val < 64 := (y 3).isLt
  have e0 : (((win0_8.rect t).emb y) 0).val = win0_8.index t 0 * 1 + (y 0).val := Pipeline.Window.rect_emb_val win0_8 t y 0
  have e1 : (((win0_8.rect t).emb y) 1).val = win0_8.index t 1 * 8 + (y 1).val := Pipeline.Window.rect_emb_val win0_8 t y 1
  have e2 : (((win0_8.rect t).emb y) 2).val = win0_8.index t 2 * 16 + (y 2).val := Pipeline.Window.rect_emb_val win0_8 t y 2
  have e3 : (((win0_8.rect t).emb y) 3).val = win0_8.index t 3 * 64 + (y 3).val := Pipeline.Window.rect_emb_val win0_8 t y 3
  rw [(idx0_8 t).1] at e0
  rw [(idx0_8 t).2.1] at e1
  rw [(idx0_8 t).2.2.1] at e2
  rw [(idx0_8 t).2.2.2] at e3
  have read (g : S64x8x16x64.Idx → EReal) (h : out0_8 (F := Ideal) (iblk m c 0 t) (iblk m c 1 t) (iblk m c 2 t) (iblk m c 3 t) (iblk m c 4 t) (iblk m c 5 t) (iblk m c 6 t) y = g ((win0_8.rect t).emb y)) :
      (cfg0.win 8).cut (grid0.coords t) (out0_8 (F := Ideal) (iblk m c 0 t) (iblk m c 1 t) (iblk m c 2 t) (iblk m c 3 t) (iblk m c 4 t) (iblk m c 5 t) (iblk m c 6 t)) y = (win0_8.blk t).view.read (Elt Ideal) g y := h
  refine read (val8 m c) ?_
  rw [out8_apply, head_at m c t (((win0_8.rect t).emb y) 0) (by omega)]
  unfold val8
  have q1 : (y 1).val = (((win0_8.rect t).emb y) 1).val := by omega
  have q2 : (y 2 : Fin 16) = (((win0_8.rect t).emb y) 2 : Fin 16) := Fin.ext (by omega)
  have q3 : (y 3 : Fin 64) = (((win0_8.rect t).emb y) 3 : Fin 64) := Fin.ext (by omega)
  have all : ∀ (H : Head) (p p' : ℕ) (q q' : Fin 16) (r r' : Fin 64), p = p' → q = q' → r = r' → H.wr (p) q r = H.wr (p') q' r' := by
    intro H p p' q q' r r' h1 h2 h3; rw [h1, h2, h3]
  exact all _ _ _ _ _ _ _ q1 q2 q3

theorem cover8 (i : S64x8x16x64.Idx) : ∃ t : Fin cfg0.N, (cfg0.win 8).flush t = true ∧ i ∈ ((cfg0.win 8).blk t).view.set := by
  have h0 : (i 0 : ℕ) < 64 := (i 0).isLt
  have h1 : (i 1 : ℕ) < 8 := (i 1).isLt
  have h2 : (i 2 : ℕ) < 16 := (i 2).isLt
  have h3 : (i 3 : ℕ) < 64 := (i 3).isLt
  have hN : cfg0.N = 64 := N_0
  have ht : (i 0 : ℕ) < cfg0.N := by omega
  refine ⟨⟨_, ht⟩, flush0_8 _, ?_⟩
  show i ∈ ((View.whole main_v9_1).slice (win0_8.rect ⟨_, ht⟩)).set
  rw [View.set_slice_whole, Pipeline.Window.mem_rect_iff (w := win0_8)]
  have e := idx0_8 ⟨_, ht⟩
  intro a
  match a with
  | ⟨0, _⟩ => show win0_8.index ⟨_, ht⟩ 0 * 1 ≤ (i 0 : ℕ) ∧ (i 0 : ℕ) < win0_8.index ⟨_, ht⟩ 0 * 1 + 1; rw [e.1]; dsimp only; omega
  | ⟨1, _⟩ => show win0_8.index ⟨_, ht⟩ 1 * 8 ≤ (i 1 : ℕ) ∧ (i 1 : ℕ) < win0_8.index ⟨_, ht⟩ 1 * 8 + 8; rw [e.2.1]; omega
  | ⟨2, _⟩ => show win0_8.index ⟨_, ht⟩ 2 * 16 ≤ (i 2 : ℕ) ∧ (i 2 : ℕ) < win0_8.index ⟨_, ht⟩ 2 * 16 + 16; rw [e.2.2.1]; omega
  | ⟨3, _⟩ => show win0_8.index ⟨_, ht⟩ 3 * 64 ≤ (i 3 : ℕ) ∧ (i 3 : ℕ) < win0_8.index ⟨_, ht⟩ 3 * 64 + 64; rw [e.2.2.2]; omega

theorem final8 (c : Dev nD) : (dats m 0 c).arrAt 8 cfg0.N = val8 m c :=
  (dats m 0 c).arrAt_eq_of_cover 8 (val8 m c) (fun t _ => flushes8 m c t) cover8

def val9 (c : Dev nD) : Buf (Elt Ideal) ((c : Thread nD τ).loc main_v9_2) := fun (j : S64x8x16x64.Idx) => (headM m c (j 0)).wi (j 1).val (j 2) (j 3)

theorem flushes9 (c : Dev nD) (t : Fin cfg0.N) : (dats m 0 c).flushed 9 t = (win0_9.blk t).view.read (Elt Ideal) (val9 m c) := by
  show (cfg0.win 9).cut (grid0.coords t) ((dats m 0 c).after 9 t) = _
  rw [after0_9]
  have hN : cfg0.N = 64 := N_0
  have ht := t.isLt
  funext (y : S1x8x16x64.Idx)
  have y0 : (y 0).val < 1 := (y 0).isLt
  have y1 : (y 1).val < 8 := (y 1).isLt
  have y2 : (y 2).val < 16 := (y 2).isLt
  have y3 : (y 3).val < 64 := (y 3).isLt
  have e0 : (((win0_9.rect t).emb y) 0).val = win0_9.index t 0 * 1 + (y 0).val := Pipeline.Window.rect_emb_val win0_9 t y 0
  have e1 : (((win0_9.rect t).emb y) 1).val = win0_9.index t 1 * 8 + (y 1).val := Pipeline.Window.rect_emb_val win0_9 t y 1
  have e2 : (((win0_9.rect t).emb y) 2).val = win0_9.index t 2 * 16 + (y 2).val := Pipeline.Window.rect_emb_val win0_9 t y 2
  have e3 : (((win0_9.rect t).emb y) 3).val = win0_9.index t 3 * 64 + (y 3).val := Pipeline.Window.rect_emb_val win0_9 t y 3
  rw [(idx0_9 t).1] at e0
  rw [(idx0_9 t).2.1] at e1
  rw [(idx0_9 t).2.2.1] at e2
  rw [(idx0_9 t).2.2.2] at e3
  have read (g : S64x8x16x64.Idx → EReal) (h : out0_9 (F := Ideal) (iblk m c 0 t) (iblk m c 1 t) (iblk m c 2 t) (iblk m c 3 t) (iblk m c 4 t) (iblk m c 5 t) (iblk m c 6 t) y = g ((win0_9.rect t).emb y)) :
      (cfg0.win 9).cut (grid0.coords t) (out0_9 (F := Ideal) (iblk m c 0 t) (iblk m c 1 t) (iblk m c 2 t) (iblk m c 3 t) (iblk m c 4 t) (iblk m c 5 t) (iblk m c 6 t)) y = (win0_9.blk t).view.read (Elt Ideal) g y := h
  refine read (val9 m c) ?_
  rw [out9_apply, head_at m c t (((win0_9.rect t).emb y) 0) (by omega)]
  unfold val9
  have q1 : (y 1).val = (((win0_9.rect t).emb y) 1).val := by omega
  have q2 : (y 2 : Fin 16) = (((win0_9.rect t).emb y) 2 : Fin 16) := Fin.ext (by omega)
  have q3 : (y 3 : Fin 64) = (((win0_9.rect t).emb y) 3 : Fin 64) := Fin.ext (by omega)
  have all : ∀ (H : Head) (p p' : ℕ) (q q' : Fin 16) (r r' : Fin 64), p = p' → q = q' → r = r' → H.wi (p) q r = H.wi (p') q' r' := by
    intro H p p' q q' r r' h1 h2 h3; rw [h1, h2, h3]
  exact all _ _ _ _ _ _ _ q1 q2 q3

theorem cover9 (i : S64x8x16x64.Idx) : ∃ t : Fin cfg0.N, (cfg0.win 9).flush t = true ∧ i ∈ ((cfg0.win 9).blk t).view.set := by
  have h0 : (i 0 : ℕ) < 64 := (i 0).isLt
  have h1 : (i 1 : ℕ) < 8 := (i 1).isLt
  have h2 : (i 2 : ℕ) < 16 := (i 2).isLt
  have h3 : (i 3 : ℕ) < 64 := (i 3).isLt
  have hN : cfg0.N = 64 := N_0
  have ht : (i 0 : ℕ) < cfg0.N := by omega
  refine ⟨⟨_, ht⟩, flush0_9 _, ?_⟩
  show i ∈ ((View.whole main_v9_2).slice (win0_9.rect ⟨_, ht⟩)).set
  rw [View.set_slice_whole, Pipeline.Window.mem_rect_iff (w := win0_9)]
  have e := idx0_9 ⟨_, ht⟩
  intro a
  match a with
  | ⟨0, _⟩ => show win0_9.index ⟨_, ht⟩ 0 * 1 ≤ (i 0 : ℕ) ∧ (i 0 : ℕ) < win0_9.index ⟨_, ht⟩ 0 * 1 + 1; rw [e.1]; dsimp only; omega
  | ⟨1, _⟩ => show win0_9.index ⟨_, ht⟩ 1 * 8 ≤ (i 1 : ℕ) ∧ (i 1 : ℕ) < win0_9.index ⟨_, ht⟩ 1 * 8 + 8; rw [e.2.1]; omega
  | ⟨2, _⟩ => show win0_9.index ⟨_, ht⟩ 2 * 16 ≤ (i 2 : ℕ) ∧ (i 2 : ℕ) < win0_9.index ⟨_, ht⟩ 2 * 16 + 16; rw [e.2.2.1]; omega
  | ⟨3, _⟩ => show win0_9.index ⟨_, ht⟩ 3 * 64 ≤ (i 3 : ℕ) ∧ (i 3 : ℕ) < win0_9.index ⟨_, ht⟩ 3 * 64 + 64; rw [e.2.2.2]; omega

theorem final9 (c : Dev nD) : (dats m 0 c).arrAt 9 cfg0.N = val9 m c :=
  (dats m 0 c).arrAt_eq_of_cover 9 (val9 m c) (fun t _ => flushes9 m c t) cover9

def val10 (c : Dev nD) : Buf (Elt Ideal) ((c : Thread nD τ).loc main_v9_3) := fun (j : S64x8x16x64.Idx) => (headM m c (j 0)).er ((j 1).val + 1) (j 2) (j 3)

theorem flushes10 (c : Dev nD) (t : Fin cfg0.N) : (dats m 0 c).flushed 10 t = (win0_10.blk t).view.read (Elt Ideal) (val10 m c) := by
  show (cfg0.win 10).cut (grid0.coords t) ((dats m 0 c).after 10 t) = _
  rw [after0_10]
  have hN : cfg0.N = 64 := N_0
  have ht := t.isLt
  funext (y : S1x8x16x64.Idx)
  have y0 : (y 0).val < 1 := (y 0).isLt
  have y1 : (y 1).val < 8 := (y 1).isLt
  have y2 : (y 2).val < 16 := (y 2).isLt
  have y3 : (y 3).val < 64 := (y 3).isLt
  have e0 : (((win0_10.rect t).emb y) 0).val = win0_10.index t 0 * 1 + (y 0).val := Pipeline.Window.rect_emb_val win0_10 t y 0
  have e1 : (((win0_10.rect t).emb y) 1).val = win0_10.index t 1 * 8 + (y 1).val := Pipeline.Window.rect_emb_val win0_10 t y 1
  have e2 : (((win0_10.rect t).emb y) 2).val = win0_10.index t 2 * 16 + (y 2).val := Pipeline.Window.rect_emb_val win0_10 t y 2
  have e3 : (((win0_10.rect t).emb y) 3).val = win0_10.index t 3 * 64 + (y 3).val := Pipeline.Window.rect_emb_val win0_10 t y 3
  rw [(idx0_10 t).1] at e0
  rw [(idx0_10 t).2.1] at e1
  rw [(idx0_10 t).2.2.1] at e2
  rw [(idx0_10 t).2.2.2] at e3
  have read (g : S64x8x16x64.Idx → EReal) (h : out0_10 (F := Ideal) (iblk m c 0 t) (iblk m c 1 t) (iblk m c 2 t) (iblk m c 3 t) (iblk m c 4 t) (iblk m c 5 t) (iblk m c 6 t) y = g ((win0_10.rect t).emb y)) :
      (cfg0.win 10).cut (grid0.coords t) (out0_10 (F := Ideal) (iblk m c 0 t) (iblk m c 1 t) (iblk m c 2 t) (iblk m c 3 t) (iblk m c 4 t) (iblk m c 5 t) (iblk m c 6 t)) y = (win0_10.blk t).view.read (Elt Ideal) g y := h
  refine read (val10 m c) ?_
  rw [out10_apply, head_at m c t (((win0_10.rect t).emb y) 0) (by omega)]
  unfold val10
  have q1 : (y 1).val = (((win0_10.rect t).emb y) 1).val := by omega
  have q2 : (y 2 : Fin 16) = (((win0_10.rect t).emb y) 2 : Fin 16) := Fin.ext (by omega)
  have q3 : (y 3 : Fin 64) = (((win0_10.rect t).emb y) 3 : Fin 64) := Fin.ext (by omega)
  have all : ∀ (H : Head) (p p' : ℕ) (q q' : Fin 16) (r r' : Fin 64), p = p' → q = q' → r = r' → H.er (p + 1) q r = H.er (p' + 1) q' r' := by
    intro H p p' q q' r r' h1 h2 h3; rw [h1, h2, h3]
  exact all _ _ _ _ _ _ _ q1 q2 q3

theorem cover10 (i : S64x8x16x64.Idx) : ∃ t : Fin cfg0.N, (cfg0.win 10).flush t = true ∧ i ∈ ((cfg0.win 10).blk t).view.set := by
  have h0 : (i 0 : ℕ) < 64 := (i 0).isLt
  have h1 : (i 1 : ℕ) < 8 := (i 1).isLt
  have h2 : (i 2 : ℕ) < 16 := (i 2).isLt
  have h3 : (i 3 : ℕ) < 64 := (i 3).isLt
  have hN : cfg0.N = 64 := N_0
  have ht : (i 0 : ℕ) < cfg0.N := by omega
  refine ⟨⟨_, ht⟩, flush0_10 _, ?_⟩
  show i ∈ ((View.whole main_v9_3).slice (win0_10.rect ⟨_, ht⟩)).set
  rw [View.set_slice_whole, Pipeline.Window.mem_rect_iff (w := win0_10)]
  have e := idx0_10 ⟨_, ht⟩
  intro a
  match a with
  | ⟨0, _⟩ => show win0_10.index ⟨_, ht⟩ 0 * 1 ≤ (i 0 : ℕ) ∧ (i 0 : ℕ) < win0_10.index ⟨_, ht⟩ 0 * 1 + 1; rw [e.1]; dsimp only; omega
  | ⟨1, _⟩ => show win0_10.index ⟨_, ht⟩ 1 * 8 ≤ (i 1 : ℕ) ∧ (i 1 : ℕ) < win0_10.index ⟨_, ht⟩ 1 * 8 + 8; rw [e.2.1]; omega
  | ⟨2, _⟩ => show win0_10.index ⟨_, ht⟩ 2 * 16 ≤ (i 2 : ℕ) ∧ (i 2 : ℕ) < win0_10.index ⟨_, ht⟩ 2 * 16 + 16; rw [e.2.2.1]; omega
  | ⟨3, _⟩ => show win0_10.index ⟨_, ht⟩ 3 * 64 ≤ (i 3 : ℕ) ∧ (i 3 : ℕ) < win0_10.index ⟨_, ht⟩ 3 * 64 + 64; rw [e.2.2.2]; omega

theorem final10 (c : Dev nD) : (dats m 0 c).arrAt 10 cfg0.N = val10 m c :=
  (dats m 0 c).arrAt_eq_of_cover 10 (val10 m c) (fun t _ => flushes10 m c t) cover10

def val11 (c : Dev nD) : Buf (Elt Ideal) ((c : Thread nD τ).loc main_v9_4) := fun (j : S64x8x16x64.Idx) => (headM m c (j 0)).ei ((j 1).val + 1) (j 2) (j 3)

theorem flushes11 (c : Dev nD) (t : Fin cfg0.N) : (dats m 0 c).flushed 11 t = (win0_11.blk t).view.read (Elt Ideal) (val11 m c) := by
  show (cfg0.win 11).cut (grid0.coords t) ((dats m 0 c).after 11 t) = _
  rw [after0_11]
  have hN : cfg0.N = 64 := N_0
  have ht := t.isLt
  funext (y : S1x8x16x64.Idx)
  have y0 : (y 0).val < 1 := (y 0).isLt
  have y1 : (y 1).val < 8 := (y 1).isLt
  have y2 : (y 2).val < 16 := (y 2).isLt
  have y3 : (y 3).val < 64 := (y 3).isLt
  have e0 : (((win0_11.rect t).emb y) 0).val = win0_11.index t 0 * 1 + (y 0).val := Pipeline.Window.rect_emb_val win0_11 t y 0
  have e1 : (((win0_11.rect t).emb y) 1).val = win0_11.index t 1 * 8 + (y 1).val := Pipeline.Window.rect_emb_val win0_11 t y 1
  have e2 : (((win0_11.rect t).emb y) 2).val = win0_11.index t 2 * 16 + (y 2).val := Pipeline.Window.rect_emb_val win0_11 t y 2
  have e3 : (((win0_11.rect t).emb y) 3).val = win0_11.index t 3 * 64 + (y 3).val := Pipeline.Window.rect_emb_val win0_11 t y 3
  rw [(idx0_11 t).1] at e0
  rw [(idx0_11 t).2.1] at e1
  rw [(idx0_11 t).2.2.1] at e2
  rw [(idx0_11 t).2.2.2] at e3
  have read (g : S64x8x16x64.Idx → EReal) (h : out0_11 (F := Ideal) (iblk m c 0 t) (iblk m c 1 t) (iblk m c 2 t) (iblk m c 3 t) (iblk m c 4 t) (iblk m c 5 t) (iblk m c 6 t) y = g ((win0_11.rect t).emb y)) :
      (cfg0.win 11).cut (grid0.coords t) (out0_11 (F := Ideal) (iblk m c 0 t) (iblk m c 1 t) (iblk m c 2 t) (iblk m c 3 t) (iblk m c 4 t) (iblk m c 5 t) (iblk m c 6 t)) y = (win0_11.blk t).view.read (Elt Ideal) g y := h
  refine read (val11 m c) ?_
  rw [out11_apply, head_at m c t (((win0_11.rect t).emb y) 0) (by omega)]
  unfold val11
  have q1 : (y 1).val = (((win0_11.rect t).emb y) 1).val := by omega
  have q2 : (y 2 : Fin 16) = (((win0_11.rect t).emb y) 2 : Fin 16) := Fin.ext (by omega)
  have q3 : (y 3 : Fin 64) = (((win0_11.rect t).emb y) 3 : Fin 64) := Fin.ext (by omega)
  have all : ∀ (H : Head) (p p' : ℕ) (q q' : Fin 16) (r r' : Fin 64), p = p' → q = q' → r = r' → H.ei (p + 1) q r = H.ei (p' + 1) q' r' := by
    intro H p p' q q' r r' h1 h2 h3; rw [h1, h2, h3]
  exact all _ _ _ _ _ _ _ q1 q2 q3

theorem cover11 (i : S64x8x16x64.Idx) : ∃ t : Fin cfg0.N, (cfg0.win 11).flush t = true ∧ i ∈ ((cfg0.win 11).blk t).view.set := by
  have h0 : (i 0 : ℕ) < 64 := (i 0).isLt
  have h1 : (i 1 : ℕ) < 8 := (i 1).isLt
  have h2 : (i 2 : ℕ) < 16 := (i 2).isLt
  have h3 : (i 3 : ℕ) < 64 := (i 3).isLt
  have hN : cfg0.N = 64 := N_0
  have ht : (i 0 : ℕ) < cfg0.N := by omega
  refine ⟨⟨_, ht⟩, flush0_11 _, ?_⟩
  show i ∈ ((View.whole main_v9_4).slice (win0_11.rect ⟨_, ht⟩)).set
  rw [View.set_slice_whole, Pipeline.Window.mem_rect_iff (w := win0_11)]
  have e := idx0_11 ⟨_, ht⟩
  intro a
  match a with
  | ⟨0, _⟩ => show win0_11.index ⟨_, ht⟩ 0 * 1 ≤ (i 0 : ℕ) ∧ (i 0 : ℕ) < win0_11.index ⟨_, ht⟩ 0 * 1 + 1; rw [e.1]; dsimp only; omega
  | ⟨1, _⟩ => show win0_11.index ⟨_, ht⟩ 1 * 8 ≤ (i 1 : ℕ) ∧ (i 1 : ℕ) < win0_11.index ⟨_, ht⟩ 1 * 8 + 8; rw [e.2.1]; omega
  | ⟨2, _⟩ => show win0_11.index ⟨_, ht⟩ 2 * 16 ≤ (i 2 : ℕ) ∧ (i 2 : ℕ) < win0_11.index ⟨_, ht⟩ 2 * 16 + 16; rw [e.2.2.1]; omega
  | ⟨3, _⟩ => show win0_11.index ⟨_, ht⟩ 3 * 64 ≤ (i 3 : ℕ) ∧ (i 3 : ℕ) < win0_11.index ⟨_, ht⟩ 3 * 64 + 64; rw [e.2.2.2]; omega

theorem final11 (c : Dev nD) : (dats m 0 c).arrAt 11 cfg0.N = val11 m c :=
  (dats m 0 c).arrAt_eq_of_cover 11 (val11 m c) (fun t _ => flushes11 m c t) cover11

def val12 (c : Dev nD) : Buf (Elt Ideal) ((c : Thread nD τ).loc main_v9_5) := fun (j : S64x1x64.Idx) => ((headM m c (j 0)).pw (j 2) 8).1

theorem flushes12 (c : Dev nD) (t : Fin cfg0.N) : (dats m 0 c).flushed 12 t = (win0_12.blk t).view.read (Elt Ideal) (val12 m c) := by
  show (cfg0.win 12).cut (grid0.coords t) ((dats m 0 c).after 12 t) = _
  rw [after0_12]
  have hN : cfg0.N = 64 := N_0
  have ht := t.isLt
  funext (y : S1x1x64.Idx)
  have y0 : (y 0).val < 1 := (y 0).isLt
  have y1 : (y 1).val < 1 := (y 1).isLt
  have y2 : (y 2).val < 64 := (y 2).isLt
  have e0 : (((win0_12.rect t).emb y) 0).val = win0_12.index t 0 * 1 + (y 0).val := Pipeline.Window.rect_emb_val win0_12 t y 0
  have e1 : (((win0_12.rect t).emb y) 1).val = win0_12.index t 1 * 1 + (y 1).val := Pipeline.Window.rect_emb_val win0_12 t y 1
  have e2 : (((win0_12.rect t).emb y) 2).val = win0_12.index t 2 * 64 + (y 2).val := Pipeline.Window.rect_emb_val win0_12 t y 2
  rw [(idx0_12 t).1] at e0
  rw [(idx0_12 t).2.1] at e1
  rw [(idx0_12 t).2.2] at e2
  have read (g : S64x1x64.Idx → EReal) (h : out0_12 (F := Ideal) (iblk m c 0 t) (iblk m c 1 t) (iblk m c 2 t) (iblk m c 3 t) (iblk m c 4 t) (iblk m c 5 t) (iblk m c 6 t) y = g ((win0_12.rect t).emb y)) :
      (cfg0.win 12).cut (grid0.coords t) (out0_12 (F := Ideal) (iblk m c 0 t) (iblk m c 1 t) (iblk m c 2 t) (iblk m c 3 t) (iblk m c 4 t) (iblk m c 5 t) (iblk m c 6 t)) y = (win0_12.blk t).view.read (Elt Ideal) g y := h
  refine read (val12 m c) ?_
  rw [out12_apply, head_at m c t (((win0_12.rect t).emb y) 0) (by omega)]
  unfold val12
  have q2 : (y 2 : Fin 64) = (((win0_12.rect t).emb y) 2 : Fin 64) := Fin.ext (by omega)
  exact congrArg (fun n : Fin 64 => ((headM m c (((win0_12.rect t).emb y) 0)).pw n 8).1) q2

theorem cover12 (i : S64x1x64.Idx) : ∃ t : Fin cfg0.N, (cfg0.win 12).flush t = true ∧ i ∈ ((cfg0.win 12).blk t).view.set := by
  have h0 : (i 0 : ℕ) < 64 := (i 0).isLt
  have h1 : (i 1 : ℕ) < 1 := (i 1).isLt
  have h2 : (i 2 : ℕ) < 64 := (i 2).isLt
  have hN : cfg0.N = 64 := N_0
  have ht : (i 0 : ℕ) < cfg0.N := by omega
  refine ⟨⟨_, ht⟩, flush0_12 _, ?_⟩
  show i ∈ ((View.whole main_v9_5).slice (win0_12.rect ⟨_, ht⟩)).set
  rw [View.set_slice_whole, Pipeline.Window.mem_rect_iff (w := win0_12)]
  have e := idx0_12 ⟨_, ht⟩
  intro a
  match a with
  | ⟨0, _⟩ => show win0_12.index ⟨_, ht⟩ 0 * 1 ≤ (i 0 : ℕ) ∧ (i 0 : ℕ) < win0_12.index ⟨_, ht⟩ 0 * 1 + 1; rw [e.1]; dsimp only; omega
  | ⟨1, _⟩ => show win0_12.index ⟨_, ht⟩ 1 * 1 ≤ (i 1 : ℕ) ∧ (i 1 : ℕ) < win0_12.index ⟨_, ht⟩ 1 * 1 + 1; rw [e.2.1]; omega
  | ⟨2, _⟩ => show win0_12.index ⟨_, ht⟩ 2 * 64 ≤ (i 2 : ℕ) ∧ (i 2 : ℕ) < win0_12.index ⟨_, ht⟩ 2 * 64 + 64; rw [e.2.2]; omega

theorem final12 (c : Dev nD) : (dats m 0 c).arrAt 12 cfg0.N = val12 m c :=
  (dats m 0 c).arrAt_eq_of_cover 12 (val12 m c) (fun t _ => flushes12 m c t) cover12

def val13 (c : Dev nD) : Buf (Elt Ideal) ((c : Thread nD τ).loc main_v9_6) := fun (j : S64x1x64.Idx) => ((headM m c (j 0)).pw (j 2) 8).2

theorem flushes13 (c : Dev nD) (t : Fin cfg0.N) : (dats m 0 c).flushed 13 t = (win0_13.blk t).view.read (Elt Ideal) (val13 m c) := by
  show (cfg0.win 13).cut (grid0.coords t) ((dats m 0 c).after 13 t) = _
  rw [after0_13]
  have hN : cfg0.N = 64 := N_0
  have ht := t.isLt
  funext (y : S1x1x64.Idx)
  have y0 : (y 0).val < 1 := (y 0).isLt
  have y1 : (y 1).val < 1 := (y 1).isLt
  have y2 : (y 2).val < 64 := (y 2).isLt
  have e0 : (((win0_13.rect t).emb y) 0).val = win0_13.index t 0 * 1 + (y 0).val := Pipeline.Window.rect_emb_val win0_13 t y 0
  have e1 : (((win0_13.rect t).emb y) 1).val = win0_13.index t 1 * 1 + (y 1).val := Pipeline.Window.rect_emb_val win0_13 t y 1
  have e2 : (((win0_13.rect t).emb y) 2).val = win0_13.index t 2 * 64 + (y 2).val := Pipeline.Window.rect_emb_val win0_13 t y 2
  rw [(idx0_13 t).1] at e0
  rw [(idx0_13 t).2.1] at e1
  rw [(idx0_13 t).2.2] at e2
  have read (g : S64x1x64.Idx → EReal) (h : out0_13 (F := Ideal) (iblk m c 0 t) (iblk m c 1 t) (iblk m c 2 t) (iblk m c 3 t) (iblk m c 4 t) (iblk m c 5 t) (iblk m c 6 t) y = g ((win0_13.rect t).emb y)) :
      (cfg0.win 13).cut (grid0.coords t) (out0_13 (F := Ideal) (iblk m c 0 t) (iblk m c 1 t) (iblk m c 2 t) (iblk m c 3 t) (iblk m c 4 t) (iblk m c 5 t) (iblk m c 6 t)) y = (win0_13.blk t).view.read (Elt Ideal) g y := h
  refine read (val13 m c) ?_
  rw [out13_apply, head_at m c t (((win0_13.rect t).emb y) 0) (by omega)]
  unfold val13
  have q2 : (y 2 : Fin 64) = (((win0_13.rect t).emb y) 2 : Fin 64) := Fin.ext (by omega)
  exact congrArg (fun n : Fin 64 => ((headM m c (((win0_13.rect t).emb y) 0)).pw n 8).2) q2

theorem cover13 (i : S64x1x64.Idx) : ∃ t : Fin cfg0.N, (cfg0.win 13).flush t = true ∧ i ∈ ((cfg0.win 13).blk t).view.set := by
  have h0 : (i 0 : ℕ) < 64 := (i 0).isLt
  have h1 : (i 1 : ℕ) < 1 := (i 1).isLt
  have h2 : (i 2 : ℕ) < 64 := (i 2).isLt
  have hN : cfg0.N = 64 := N_0
  have ht : (i 0 : ℕ) < cfg0.N := by omega
  refine ⟨⟨_, ht⟩, flush0_13 _, ?_⟩
  show i ∈ ((View.whole main_v9_6).slice (win0_13.rect ⟨_, ht⟩)).set
  rw [View.set_slice_whole, Pipeline.Window.mem_rect_iff (w := win0_13)]
  have e := idx0_13 ⟨_, ht⟩
  intro a
  match a with
  | ⟨0, _⟩ => show win0_13.index ⟨_, ht⟩ 0 * 1 ≤ (i 0 : ℕ) ∧ (i 0 : ℕ) < win0_13.index ⟨_, ht⟩ 0 * 1 + 1; rw [e.1]; dsimp only; omega
  | ⟨1, _⟩ => show win0_13.index ⟨_, ht⟩ 1 * 1 ≤ (i 1 : ℕ) ∧ (i 1 : ℕ) < win0_13.index ⟨_, ht⟩ 1 * 1 + 1; rw [e.2.1]; omega
  | ⟨2, _⟩ => show win0_13.index ⟨_, ht⟩ 2 * 64 ≤ (i 2 : ℕ) ∧ (i 2 : ℕ) < win0_13.index ⟨_, ht⟩ 2 * 64 + 64; rw [e.2.2]; omega

theorem final13 (c : Dev nD) : (dats m 0 c).arrAt 13 cfg0.N = val13 m c :=
  (dats m 0 c).arrAt_eq_of_cover 13 (val13 m c) (fun t _ => flushes13 m c t) cover13

/-- The run, read: the seven results, and the arguments unchanged. -/
theorem run : θ_run defs (onTc (τ := τ) (main (F := Ideal))) ⟨m, fun _ => 0, ρ⟩ fun r => ∀ c : Dev nD,
      r.2.mem ((c : Thread nD τ).loc main_v9_0) = val7 m c
      ∧ r.2.mem ((c : Thread nD τ).loc main_v9_1) = val8 m c
      ∧ r.2.mem ((c : Thread nD τ).loc main_v9_2) = val9 m c
      ∧ r.2.mem ((c : Thread nD τ).loc main_v9_3) = val10 m c
      ∧ r.2.mem ((c : Thread nD τ).loc main_v9_4) = val11 m c
      ∧ r.2.mem ((c : Thread nD τ).loc main_v9_5) = val12 m c
      ∧ r.2.mem ((c : Thread nD τ).loc main_v9_6) = val13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (final7 m c),
    ((h c).1 8).trans (final8 m c),
    ((h c).1 9).trans (final9 m c),
    ((h c).1 10).trans (final10 m c),
    ((h c).1 11).trans (final11 m c),
    ((h c).1 12).trans (final12 m c),
    ((h c).1 13).trans (final13 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (Gen.run_main m ρ)

end Cert.Kernel4Ideal.Powers

end
-- ==== Proof.PowRef.lean ====
/- What the fourth call's plain reference computes, entry by entry: the same head's weights, powers and products. -/
module

public import proofs.«01_k».proof.Proof.PowSpec
public import proofs.«01_k».proof.Proof.Gen.Reference4Ideal.Read
public import Idealize.ShloMosaic.Lib.Pipeline.ValueKit.Basic
public import Idealize.ShloMosaic.Lib.Pointwise
public import Idealize.ShloMosaic.Lib.KernelVsHost

@[expose] public section

set_option maxRecDepth 16384

noncomputable section

namespace Cert.Reference4Ideal.Powers

open Cert.Reference4Ideal Cert.Reference4Ideal.Gen Cert.Reference4Ideal.Read Cert.Proof.Powers
open Idealize.ShloMosaic

/-- A head's parameters, from the reference's arguments. -/
def headR (x0 x1 : FVec Ideal S2x32x64 .f32) (x2 : FVec Ideal S2x32 .f32) (x3 x4 : FVec Ideal S2x32x64x16 .f32) (x5 x6 : FVec Ideal S2x32x16x64 .f32) (l : Fin 2) (g : Fin 32) : Head where
  ar n := x0 (ix3 l g n)
  ai n := x1 (ix3 l g n)
  ld := x2 (ix2 l g)
  br c n := x3 (ix4 l g n c)
  bi c n := x4 (ix4 l g n c)
  cr c n := x5 (ix4 l g c n)
  ci c n := x6 (ix4 l g c n)

variable (x0 x1 : FVec Ideal S2x32x64 .f32) (x2 : FVec Ideal S2x32 .f32) (x3 x4 : FVec Ideal S2x32x64x16 .f32) (x5 x6 : FVec Ideal S2x32x16x64 .f32) (l : Fin 2) (g : Fin 32)

theorem v2_at (n : Fin 64) : val_main_v2 (F := Ideal) x2 (ix3 l g n) = (headR x0 x1 x2 x3 x4 x5 x6 l g).dt := by
  simp only [val_main_v2_apply, val_main_v1_apply, val_main_v0_apply]
  have e : idx_main_v1 (idx_main_v2 (ix3 l g n)) = ix2 l g := by funext a; fin_cases a <;> rfl
  rw [e]
  rfl
theorem v5_at (n : Fin 64) : val_main_v5 (F := Ideal) x2 (ix3 l g n) = (headR x0 x1 x2 x3 x4 x5 x6 l g).dt := by
  simp only [val_main_v5_apply, val_main_v1_apply, val_main_v0_apply]
  have e : idx_main_v1 (idx_main_v5 (ix3 l g n)) = ix2 l g := by funext a; fin_cases a <;> rfl
  rw [e]
  rfl
theorem v9_at (n : Fin 64) : val_main_v9 (F := Ideal) x2 (ix3 l g n) = (headR x0 x1 x2 x3 x4 x5 x6 l g).dt := by
  simp only [val_main_v9_apply, val_main_v1_apply, val_main_v0_apply]
  have e : idx_main_v1 (idx_main_v9 (ix3 l g n)) = ix2 l g := by funext a; fin_cases a <;> rfl
  rw [e]
  rfl
theorem v4_at (n : Fin 64) : val_main_v4 (F := Ideal) x0 x2 (ix3 l g n) = (headR x0 x1 x2 x3 x4 x5 x6 l g).mag n := by
  show FloatOps.hostUnary (F := Ideal) (φ := .f32) .exp (val_main_v2 (F := Ideal) x2 (ix3 l g n) * x0 (ix3 l g n)) = _
  rw [v2_at x0 x1 x2 x3 x4 x5 x6]
  rfl
theorem v8_at (n : Fin 64) : val_main_v8 (F := Ideal) x0 x1 x2 (ix3 l g n) = (headR x0 x1 x2 x3 x4 x5 x6 l g).abr n := by
  show val_main_v4 (F := Ideal) x0 x2 (ix3 l g n) * FloatOps.hostUnary (F := Ideal) (φ := .f32) .cos (val_main_v5 (F := Ideal) x2 (ix3 l g n) * x1 (ix3 l g n)) = _
  rw [v4_at x0 x1 x2 x3 x4 x5 x6, v5_at x0 x1 x2 x3 x4 x5 x6]
  rfl
theorem v12_at (n : Fin 64) : val_main_v12 (F := Ideal) x0 x1 x2 (ix3 l g n) = (headR x0 x1 x2 x3 x4 x5 x6 l g).abi n := by
  show val_main_v4 (F := Ideal) x0 x2 (ix3 l g n) * FloatOps.hostUnary (F := Ideal) (φ := .f32) .sin (val_main_v9 (F := Ideal) x2 (ix3 l g n) * x1 (ix3 l g n)) = _
  rw [v4_at x0 x1 x2 x3 x4 x5 x6, v9_at x0 x1 x2 x3 x4 x5 x6]
  rfl
theorem v16_at (n : Fin 64) : val_main_v16 (F := Ideal) (ix3 l g n) = one := by
  rw [val_main_v16_apply]
  rfl
theorem v21_at (n : Fin 64) : val_main_v21 (F := Ideal) x0 x1 x2 (ix3 l g n) = (headR x0 x1 x2 x3 x4 x5 x6 l g).fr n := by
  show FloatOps.hostDivf (F := Ideal) (φ := .f32) ((val_main_v8 (F := Ideal) x0 x1 x2 (ix3 l g n) - val_main_v16 (F := Ideal)  (ix3 l g n)) * x0 (ix3 l g n) + val_main_v12 (F := Ideal) x0 x1 x2 (ix3 l g n) * x1 (ix3 l g n)) (x0 (ix3 l g n) * x0 (ix3 l g n) + x1 (ix3 l g n) * x1 (ix3 l g n)) = _
  rw [v8_at x0 x1 x2 x3 x4 x5 x6, v12_at x0 x1 x2 x3 x4 x5 x6, v16_at]
  rfl
theorem v25_at (n : Fin 64) : val_main_v25 (F := Ideal) x0 x1 x2 (ix3 l g n) = (headR x0 x1 x2 x3 x4 x5 x6 l g).fi n := by
  show FloatOps.hostDivf (F := Ideal) (φ := .f32) (val_main_v12 (F := Ideal) x0 x1 x2 (ix3 l g n) * x0 (ix3 l g n) - (val_main_v8 (F := Ideal) x0 x1 x2 (ix3 l g n) - val_main_v16 (F := Ideal)  (ix3 l g n)) * x1 (ix3 l g n)) (x0 (ix3 l g n) * x0 (ix3 l g n) + x1 (ix3 l g n) * x1 (ix3 l g n)) = _
  rw [v8_at x0 x1 x2 x3 x4 x5 x6, v12_at x0 x1 x2 x3 x4 x5 x6, v16_at]
  rfl
theorem v32_at (c : Fin 16) (n : Fin 64) : val_main_v32 (F := Ideal) x0 x1 x2 x3 x4 (ix4 l g n c) = (headR x0 x1 x2 x3 x4 x5 x6 l g).bbr c n := by
  show val_main_v27 (F := Ideal) x0 x1 x2 (ix4 l g n c) * x3 (ix4 l g n c) - val_main_v30 (F := Ideal) x0 x1 x2 (ix4 l g n c) * x4 (ix4 l g n c) = _
  rw [val_main_v27_apply, val_main_v26_apply, val_main_v30_apply, val_main_v29_apply]
  have e : idx_main_v26 (idx_main_v27 (ix4 l g n c)) = ix3 l g n := by funext a; fin_cases a <;> rfl
  have e' : idx_main_v29 (idx_main_v30 (ix4 l g n c)) = ix3 l g n := by funext a; fin_cases a <;> rfl
  rw [e, e', v21_at x0 x1 x2 x3 x4 x5 x6, v25_at x0 x1 x2 x3 x4 x5 x6]
  rfl
theorem v39_at (c : Fin 16) (n : Fin 64) : val_main_v39 (F := Ideal) x0 x1 x2 x3 x4 (ix4 l g n c) = (headR x0 x1 x2 x3 x4 x5 x6 l g).bbi c n := by
  show val_main_v34 (F := Ideal) x0 x1 x2 (ix4 l g n c) * x4 (ix4 l g n c) + val_main_v37 (F := Ideal) x0 x1 x2 (ix4 l g n c) * x3 (ix4 l g n c) = _
  rw [val_main_v34_apply, val_main_v33_apply, val_main_v37_apply, val_main_v36_apply]
  have e : idx_main_v33 (idx_main_v34 (ix4 l g n c)) = ix3 l g n := by funext a; fin_cases a <;> rfl
  have e' : idx_main_v36 (idx_main_v37 (ix4 l g n c)) = ix3 l g n := by funext a; fin_cases a <;> rfl
  rw [e, e', v21_at x0 x1 x2 x3 x4 x5 x6, v25_at x0 x1 x2 x3 x4 x5 x6]
  rfl
theorem v40_at (n : Fin 64) : val_main_v40 (F := Ideal)  (ix3 l g n) = ((headR x0 x1 x2 x3 x4 x5 x6 l g).pw n 0).1 := by
  rw [val_main_v40_apply]
  rfl
theorem v41_at (n : Fin 64) : val_main_v41 (F := Ideal)  (ix3 l g n) = ((headR x0 x1 x2 x3 x4 x5 x6 l g).pw n 0).2 := by
  rw [val_main_v41_apply]
  rfl
theorem v44_at (n : Fin 64) : val_main_v44 (F := Ideal) x0 x1 x2 (ix3 l g n) = ((headR x0 x1 x2 x3 x4 x5 x6 l g).pw n 1).1 := by
  show val_main_v40 (F := Ideal)  (ix3 l g n) * val_main_v8 (F := Ideal) x0 x1 x2 (ix3 l g n) - val_main_v41 (F := Ideal)  (ix3 l g n) * val_main_v12 (F := Ideal) x0 x1 x2 (ix3 l g n) = _
  rw [v40_at x0 x1 x2 x3 x4 x5 x6, v41_at x0 x1 x2 x3 x4 x5 x6, v8_at x0 x1 x2 x3 x4 x5 x6, v12_at x0 x1 x2 x3 x4 x5 x6]
  rfl
theorem v47_at (n : Fin 64) : val_main_v47 (F := Ideal) x0 x1 x2 (ix3 l g n) = ((headR x0 x1 x2 x3 x4 x5 x6 l g).pw n 1).2 := by
  show val_main_v40 (F := Ideal)  (ix3 l g n) * val_main_v12 (F := Ideal) x0 x1 x2 (ix3 l g n) + val_main_v41 (F := Ideal)  (ix3 l g n) * val_main_v8 (F := Ideal) x0 x1 x2 (ix3 l g n) = _
  rw [v40_at x0 x1 x2 x3 x4 x5 x6, v41_at x0 x1 x2 x3 x4 x5 x6, v8_at x0 x1 x2 x3 x4 x5 x6, v12_at x0 x1 x2 x3 x4 x5 x6]
  rfl
theorem v50_at (n : Fin 64) : val_main_v50 (F := Ideal) x0 x1 x2 (ix3 l g n) = ((headR x0 x1 x2 x3 x4 x5 x6 l g).pw n 2).1 := by
  show val_main_v44 (F := Ideal) x0 x1 x2 (ix3 l g n) * val_main_v8 (F := Ideal) x0 x1 x2 (ix3 l g n) - val_main_v47 (F := Ideal) x0 x1 x2 (ix3 l g n) * val_main_v12 (F := Ideal) x0 x1 x2 (ix3 l g n) = _
  rw [v44_at x0 x1 x2 x3 x4 x5 x6, v47_at x0 x1 x2 x3 x4 x5 x6, v8_at x0 x1 x2 x3 x4 x5 x6, v12_at x0 x1 x2 x3 x4 x5 x6]
  rfl
theorem v53_at (n : Fin 64) : val_main_v53 (F := Ideal) x0 x1 x2 (ix3 l g n) = ((headR x0 x1 x2 x3 x4 x5 x6 l g).pw n 2).2 := by
  show val_main_v44 (F := Ideal) x0 x1 x2 (ix3 l g n) * val_main_v12 (F := Ideal) x0 x1 x2 (ix3 l g n) + val_main_v47 (F := Ideal) x0 x1 x2 (ix3 l g n) * val_main_v8 (F := Ideal) x0 x1 x2 (ix3 l g n) = _
  rw [v44_at x0 x1 x2 x3 x4 x5 x6, v47_at x0 x1 x2 x3 x4 x5 x6, v8_at x0 x1 x2 x3 x4 x5 x6, v12_at x0 x1 x2 x3 x4 x5 x6]
  rfl
theorem v56_at (n : Fin 64) : val_main_v56 (F := Ideal) x0 x1 x2 (ix3 l g n) = ((headR x0 x1 x2 x3 x4 x5 x6 l g).pw n 3).1 := by
  show val_main_v50 (F := Ideal) x0 x1 x2 (ix3 l g n) * val_main_v8 (F := Ideal) x0 x1 x2 (ix3 l g n) - val_main_v53 (F := Ideal) x0 x1 x2 (ix3 l g n) * val_main_v12 (F := Ideal) x0 x1 x2 (ix3 l g n) = _
  rw [v50_at x0 x1 x2 x3 x4 x5 x6, v53_at x0 x1 x2 x3 x4 x5 x6, v8_at x0 x1 x2 x3 x4 x5 x6, v12_at x0 x1 x2 x3 x4 x5 x6]
  rfl
theorem v59_at (n : Fin 64) : val_main_v59 (F := Ideal) x0 x1 x2 (ix3 l g n) = ((headR x0 x1 x2 x3 x4 x5 x6 l g).pw n 3).2 := by
  show val_main_v50 (F := Ideal) x0 x1 x2 (ix3 l g n) * val_main_v12 (F := Ideal) x0 x1 x2 (ix3 l g n) + val_main_v53 (F := Ideal) x0 x1 x2 (ix3 l g n) * val_main_v8 (F := Ideal) x0 x1 x2 (ix3 l g n) = _
  rw [v50_at x0 x1 x2 x3 x4 x5 x6, v53_at x0 x1 x2 x3 x4 x5 x6, v8_at x0 x1 x2 x3 x4 x5 x6, v12_at x0 x1 x2 x3 x4 x5 x6]
  rfl
theorem v62_at (n : Fin 64) : val_main_v62 (F := Ideal) x0 x1 x2 (ix3 l g n) = ((headR x0 x1 x2 x3 x4 x5 x6 l g).pw n 4).1 := by
  show val_main_v56 (F := Ideal) x0 x1 x2 (ix3 l g n) * val_main_v8 (F := Ideal) x0 x1 x2 (ix3 l g n) - val_main_v59 (F := Ideal) x0 x1 x2 (ix3 l g n) * val_main_v12 (F := Ideal) x0 x1 x2 (ix3 l g n) = _
  rw [v56_at x0 x1 x2 x3 x4 x5 x6, v59_at x0 x1 x2 x3 x4 x5 x6, v8_at x0 x1 x2 x3 x4 x5 x6, v12_at x0 x1 x2 x3 x4 x5 x6]
  rfl
theorem v65_at (n : Fin 64) : val_main_v65 (F := Ideal) x0 x1 x2 (ix3 l g n) = ((headR x0 x1 x2 x3 x4 x5 x6 l g).pw n 4).2 := by
  show val_main_v56 (F := Ideal) x0 x1 x2 (ix3 l g n) * val_main_v12 (F := Ideal) x0 x1 x2 (ix3 l g n) + val_main_v59 (F := Ideal) x0 x1 x2 (ix3 l g n) * val_main_v8 (F := Ideal) x0 x1 x2 (ix3 l g n) = _
  rw [v56_at x0 x1 x2 x3 x4 x5 x6, v59_at x0 x1 x2 x3 x4 x5 x6, v8_at x0 x1 x2 x3 x4 x5 x6, v12_at x0 x1 x2 x3 x4 x5 x6]
  rfl
theorem v68_at (n : Fin 64) : val_main_v68 (F := Ideal) x0 x1 x2 (ix3 l g n) = ((headR x0 x1 x2 x3 x4 x5 x6 l g).pw n 5).1 := by
  show val_main_v62 (F := Ideal) x0 x1 x2 (ix3 l g n) * val_main_v8 (F := Ideal) x0 x1 x2 (ix3 l g n) - val_main_v65 (F := Ideal) x0 x1 x2 (ix3 l g n) * val_main_v12 (F := Ideal) x0 x1 x2 (ix3 l g n) = _
  rw [v62_at x0 x1 x2 x3 x4 x5 x6, v65_at x0 x1 x2 x3 x4 x5 x6, v8_at x0 x1 x2 x3 x4 x5 x6, v12_at x0 x1 x2 x3 x4 x5 x6]
  rfl
theorem v71_at (n : Fin 64) : val_main_v71 (F := Ideal) x0 x1 x2 (ix3 l g n) = ((headR x0 x1 x2 x3 x4 x5 x6 l g).pw n 5).2 := by
  show val_main_v62 (F := Ideal) x0 x1 x2 (ix3 l g n) * val_main_v12 (F := Ideal) x0 x1 x2 (ix3 l g n) + val_main_v65 (F := Ideal) x0 x1 x2 (ix3 l g n) * val_main_v8 (F := Ideal) x0 x1 x2 (ix3 l g n) = _
  rw [v62_at x0 x1 x2 x3 x4 x5 x6, v65_at x0 x1 x2 x3 x4 x5 x6, v8_at x0 x1 x2 x3 x4 x5 x6, v12_at x0 x1 x2 x3 x4 x5 x6]
  rfl
theorem v74_at (n : Fin 64) : val_main_v74 (F := Ideal) x0 x1 x2 (ix3 l g n) = ((headR x0 x1 x2 x3 x4 x5 x6 l g).pw n 6).1 := by
  show val_main_v68 (F := Ideal) x0 x1 x2 (ix3 l g n) * val_main_v8 (F := Ideal) x0 x1 x2 (ix3 l g n) - val_main_v71 (F := Ideal) x0 x1 x2 (ix3 l g n) * val_main_v12 (F := Ideal) x0 x1 x2 (ix3 l g n) = _
  rw [v68_at x0 x1 x2 x3 x4 x5 x6, v71_at x0 x1 x2 x3 x4 x5 x6, v8_at x0 x1 x2 x3 x4 x5 x6, v12_at x0 x1 x2 x3 x4 x5 x6]
  rfl
theorem v77_at (n : Fin 64) : val_main_v77 (F := Ideal) x0 x1 x2 (ix3 l g n) = ((headR x0 x1 x2 x3 x4 x5 x6 l g).pw n 6).2 := by
  show val_main_v68 (F := Ideal) x0 x1 x2 (ix3 l g n) * val_main_v12 (F := Ideal) x0 x1 x2 (ix3 l g n) + val_main_v71 (F := Ideal) x0 x1 x2 (ix3 l g n) * val_main_v8 (F := Ideal) x0 x1 x2 (ix3 l g n) = _
  rw [v68_at x0 x1 x2 x3 x4 x5 x6, v71_at x0 x1 x2 x3 x4 x5 x6, v8_at x0 x1 x2 x3 x4 x5 x6, v12_at x0 x1 x2 x3 x4 x5 x6]
  rfl
theorem v80_at (n : Fin 64) : val_main_v80 (F := Ideal) x0 x1 x2 (ix3 l g n) = ((headR x0 x1 x2 x3 x4 x5 x6 l g).pw n 7).1 := by
  show val_main_v74 (F := Ideal) x0 x1 x2 (ix3 l g n) * val_main_v8 (F := Ideal) x0 x1 x2 (ix3 l g n) - val_main_v77 (F := Ideal) x0 x1 x2 (ix3 l g n) * val_main_v12 (F := Ideal) x0 x1 x2 (ix3 l g n) = _
  rw [v74_at x0 x1 x2 x3 x4 x5 x6, v77_at x0 x1 x2 x3 x4 x5 x6, v8_at x0 x1 x2 x3 x4 x5 x6, v12_at x0 x1 x2 x3 x4 x5 x6]
  rfl
theorem v83_at (n : Fin 64) : val_main_v83 (F := Ideal) x0 x1 x2 (ix3 l g n) = ((headR x0 x1 x2 x3 x4 x5 x6 l g).pw n 7).2 := by
  show val_main_v74 (F := Ideal) x0 x1 x2 (ix3 l g n) * val_main_v12 (F := Ideal) x0 x1 x2 (ix3 l g n) + val_main_v77 (F := Ideal) x0 x1 x2 (ix3 l g n) * val_main_v8 (F := Ideal) x0 x1 x2 (ix3 l g n) = _
  rw [v74_at x0 x1 x2 x3 x4 x5 x6, v77_at x0 x1 x2 x3 x4 x5 x6, v8_at x0 x1 x2 x3 x4 x5 x6, v12_at x0 x1 x2 x3 x4 x5 x6]
  rfl
theorem v86_at (n : Fin 64) : val_main_v86 (F := Ideal) x0 x1 x2 (ix3 l g n) = ((headR x0 x1 x2 x3 x4 x5 x6 l g).pw n 8).1 := by
  show val_main_v80 (F := Ideal) x0 x1 x2 (ix3 l g n) * val_main_v8 (F := Ideal) x0 x1 x2 (ix3 l g n) - val_main_v83 (F := Ideal) x0 x1 x2 (ix3 l g n) * val_main_v12 (F := Ideal) x0 x1 x2 (ix3 l g n) = _
  rw [v80_at x0 x1 x2 x3 x4 x5 x6, v83_at x0 x1 x2 x3 x4 x5 x6, v8_at x0 x1 x2 x3 x4 x5 x6, v12_at x0 x1 x2 x3 x4 x5 x6]
  rfl
theorem v89_at (n : Fin 64) : val_main_v89 (F := Ideal) x0 x1 x2 (ix3 l g n) = ((headR x0 x1 x2 x3 x4 x5 x6 l g).pw n 8).2 := by
  show val_main_v80 (F := Ideal) x0 x1 x2 (ix3 l g n) * val_main_v12 (F := Ideal) x0 x1 x2 (ix3 l g n) + val_main_v83 (F := Ideal) x0 x1 x2 (ix3 l g n) * val_main_v8 (F := Ideal) x0 x1 x2 (ix3 l g n) = _
  rw [v80_at x0 x1 x2 x3 x4 x5 x6, v83_at x0 x1 x2 x3 x4 x5 x6, v8_at x0 x1 x2 x3 x4 x5 x6, v12_at x0 x1 x2 x3 x4 x5 x6]
  rfl

/-- The nine powers, one after another. -/
theorem v99_at (k : Fin 9) (n : Fin 64) : val_main_v99 (F := Ideal) x0 x1 x2 (ix4 l g k n) = ((headR x0 x1 x2 x3 x4 x5 x6 l g).pw n k.val).1 := by
  have e := concatenate_ofFn_unit_apply (t := S2x32x9x64) (s₁ := S2x32x1x64) (2 : Fin 4) (N := 9) (![val_main_v90 (F := Ideal), val_main_v91 (F := Ideal) x0 x1 x2, val_main_v92 (F := Ideal) x0 x1 x2, val_main_v93 (F := Ideal) x0 x1 x2, val_main_v94 (F := Ideal) x0 x1 x2, val_main_v95 (F := Ideal) x0 x1 x2, val_main_v96 (F := Ideal) x0 x1 x2, val_main_v97 (F := Ideal) x0 x1 x2, val_main_v98 (F := Ideal) x0 x1 x2] : Fin 9 → (S2x32x1x64.Idx → EReal)) concatenates_S2x32x1x64_S2x32x1x64_S2x32x1x64_S2x32x1x64_S2x32x1x64_S2x32x1x64_S2x32x1x64_S2x32x1x64_S2x32x1x64_S2x32x9x64_d2 rfl rfl (ix4 l g k n) k rfl (ix4 l g (0 : Fin 1) n) (fun b hb => by fin_cases b <;> first | rfl | exact absurd rfl hb)
  refine Eq.trans (show _ = _ from e) ?_
  fin_cases k
  · exact (val_main_v90_apply (F := Ideal)  (ix4 l g (0 : Fin 1) n)).trans ((congrArg (val_main_v40 (F := Ideal) ) (show idx_main_v90 (ix4 l g (0 : Fin 1) n) = ix3 l g n from by funext a; fin_cases a <;> rfl)).trans (v40_at x0 x1 x2 x3 x4 x5 x6 l g n))
  · exact (val_main_v91_apply (F := Ideal) x0 x1 x2 (ix4 l g (0 : Fin 1) n)).trans ((congrArg (val_main_v44 (F := Ideal) x0 x1 x2) (show idx_main_v91 (ix4 l g (0 : Fin 1) n) = ix3 l g n from by funext a; fin_cases a <;> rfl)).trans (v44_at x0 x1 x2 x3 x4 x5 x6 l g n))
  · exact (val_main_v92_apply (F := Ideal) x0 x1 x2 (ix4 l g (0 : Fin 1) n)).trans ((congrArg (val_main_v50 (F := Ideal) x0 x1 x2) (show idx_main_v92 (ix4 l g (0 : Fin 1) n) = ix3 l g n from by funext a; fin_cases a <;> rfl)).trans (v50_at x0 x1 x2 x3 x4 x5 x6 l g n))
  · exact (val_main_v93_apply (F := Ideal) x0 x1 x2 (ix4 l g (0 : Fin 1) n)).trans ((congrArg (val_main_v56 (F := Ideal) x0 x1 x2) (show idx_main_v93 (ix4 l g (0 : Fin 1) n) = ix3 l g n from by funext a; fin_cases a <;> rfl)).trans (v56_at x0 x1 x2 x3 x4 x5 x6 l g n))
  · exact (val_main_v94_apply (F := Ideal) x0 x1 x2 (ix4 l g (0 : Fin 1) n)).trans ((congrArg (val_main_v62 (F := Ideal) x0 x1 x2) (show idx_main_v94 (ix4 l g (0 : Fin 1) n) = ix3 l g n from by funext a; fin_cases a <;> rfl)).trans (v62_at x0 x1 x2 x3 x4 x5 x6 l g n))
  · exact (val_main_v95_apply (F := Ideal) x0 x1 x2 (ix4 l g (0 : Fin 1) n)).trans ((congrArg (val_main_v68 (F := Ideal) x0 x1 x2) (show idx_main_v95 (ix4 l g (0 : Fin 1) n) = ix3 l g n from by funext a; fin_cases a <;> rfl)).trans (v68_at x0 x1 x2 x3 x4 x5 x6 l g n))
  · exact (val_main_v96_apply (F := Ideal) x0 x1 x2 (ix4 l g (0 : Fin 1) n)).trans ((congrArg (val_main_v74 (F := Ideal) x0 x1 x2) (show idx_main_v96 (ix4 l g (0 : Fin 1) n) = ix3 l g n from by funext a; fin_cases a <;> rfl)).trans (v74_at x0 x1 x2 x3 x4 x5 x6 l g n))
  · exact (val_main_v97_apply (F := Ideal) x0 x1 x2 (ix4 l g (0 : Fin 1) n)).trans ((congrArg (val_main_v80 (F := Ideal) x0 x1 x2) (show idx_main_v97 (ix4 l g (0 : Fin 1) n) = ix3 l g n from by funext a; fin_cases a <;> rfl)).trans (v80_at x0 x1 x2 x3 x4 x5 x6 l g n))
  · exact (val_main_v98_apply (F := Ideal) x0 x1 x2 (ix4 l g (0 : Fin 1) n)).trans ((congrArg (val_main_v86 (F := Ideal) x0 x1 x2) (show idx_main_v98 (ix4 l g (0 : Fin 1) n) = ix3 l g n from by funext a; fin_cases a <;> rfl)).trans (v86_at x0 x1 x2 x3 x4 x5 x6 l g n))
theorem v100_at (k : Fin 9) (n : Fin 64) : val_main_v100 (F := Ideal) x0 x1 x2 (ix5 l g k (0 : Fin 1) n) = ((headR x0 x1 x2 x3 x4 x5 x6 l g).pw n k.val).1 := by
  rw [val_main_v100_apply]
  have e : idx_main_v100 (ix5 l g k (0 : Fin 1) n) = ix4 l g k n := by funext a; fin_cases a <;> rfl
  rw [e, v99_at x0 x1 x2 x3 x4 x5 x6]

/-- The nine powers, one after another. -/
theorem v110_at (k : Fin 9) (n : Fin 64) : val_main_v110 (F := Ideal) x0 x1 x2 (ix4 l g k n) = ((headR x0 x1 x2 x3 x4 x5 x6 l g).pw n k.val).2 := by
  have e := concatenate_ofFn_unit_apply (t := S2x32x9x64) (s₁ := S2x32x1x64) (2 : Fin 4) (N := 9) (![val_main_v101 (F := Ideal), val_main_v102 (F := Ideal) x0 x1 x2, val_main_v103 (F := Ideal) x0 x1 x2, val_main_v104 (F := Ideal) x0 x1 x2, val_main_v105 (F := Ideal) x0 x1 x2, val_main_v106 (F := Ideal) x0 x1 x2, val_main_v107 (F := Ideal) x0 x1 x2, val_main_v108 (F := Ideal) x0 x1 x2, val_main_v109 (F := Ideal) x0 x1 x2] : Fin 9 → (S2x32x1x64.Idx → EReal)) concatenates_S2x32x1x64_S2x32x1x64_S2x32x1x64_S2x32x1x64_S2x32x1x64_S2x32x1x64_S2x32x1x64_S2x32x1x64_S2x32x1x64_S2x32x9x64_d2 rfl rfl (ix4 l g k n) k rfl (ix4 l g (0 : Fin 1) n) (fun b hb => by fin_cases b <;> first | rfl | exact absurd rfl hb)
  refine Eq.trans (show _ = _ from e) ?_
  fin_cases k
  · exact (val_main_v101_apply (F := Ideal)  (ix4 l g (0 : Fin 1) n)).trans ((congrArg (val_main_v41 (F := Ideal) ) (show idx_main_v101 (ix4 l g (0 : Fin 1) n) = ix3 l g n from by funext a; fin_cases a <;> rfl)).trans (v41_at x0 x1 x2 x3 x4 x5 x6 l g n))
  · exact (val_main_v102_apply (F := Ideal) x0 x1 x2 (ix4 l g (0 : Fin 1) n)).trans ((congrArg (val_main_v47 (F := Ideal) x0 x1 x2) (show idx_main_v102 (ix4 l g (0 : Fin 1) n) = ix3 l g n from by funext a; fin_cases a <;> rfl)).trans (v47_at x0 x1 x2 x3 x4 x5 x6 l g n))
  · exact (val_main_v103_apply (F := Ideal) x0 x1 x2 (ix4 l g (0 : Fin 1) n)).trans ((congrArg (val_main_v53 (F := Ideal) x0 x1 x2) (show idx_main_v103 (ix4 l g (0 : Fin 1) n) = ix3 l g n from by funext a; fin_cases a <;> rfl)).trans (v53_at x0 x1 x2 x3 x4 x5 x6 l g n))
  · exact (val_main_v104_apply (F := Ideal) x0 x1 x2 (ix4 l g (0 : Fin 1) n)).trans ((congrArg (val_main_v59 (F := Ideal) x0 x1 x2) (show idx_main_v104 (ix4 l g (0 : Fin 1) n) = ix3 l g n from by funext a; fin_cases a <;> rfl)).trans (v59_at x0 x1 x2 x3 x4 x5 x6 l g n))
  · exact (val_main_v105_apply (F := Ideal) x0 x1 x2 (ix4 l g (0 : Fin 1) n)).trans ((congrArg (val_main_v65 (F := Ideal) x0 x1 x2) (show idx_main_v105 (ix4 l g (0 : Fin 1) n) = ix3 l g n from by funext a; fin_cases a <;> rfl)).trans (v65_at x0 x1 x2 x3 x4 x5 x6 l g n))
  · exact (val_main_v106_apply (F := Ideal) x0 x1 x2 (ix4 l g (0 : Fin 1) n)).trans ((congrArg (val_main_v71 (F := Ideal) x0 x1 x2) (show idx_main_v106 (ix4 l g (0 : Fin 1) n) = ix3 l g n from by funext a; fin_cases a <;> rfl)).trans (v71_at x0 x1 x2 x3 x4 x5 x6 l g n))
  · exact (val_main_v107_apply (F := Ideal) x0 x1 x2 (ix4 l g (0 : Fin 1) n)).trans ((congrArg (val_main_v77 (F := Ideal) x0 x1 x2) (show idx_main_v107 (ix4 l g (0 : Fin 1) n) = ix3 l g n from by funext a; fin_cases a <;> rfl)).trans (v77_at x0 x1 x2 x3 x4 x5 x6 l g n))
  · exact (val_main_v108_apply (F := Ideal) x0 x1 x2 (ix4 l g (0 : Fin 1) n)).trans ((congrArg (val_main_v83 (F := Ideal) x0 x1 x2) (show idx_main_v108 (ix4 l g (0 : Fin 1) n) = ix3 l g n from by funext a; fin_cases a <;> rfl)).trans (v83_at x0 x1 x2 x3 x4 x5 x6 l g n))
  · exact (val_main_v109_apply (F := Ideal) x0 x1 x2 (ix4 l g (0 : Fin 1) n)).trans ((congrArg (val_main_v89 (F := Ideal) x0 x1 x2) (show idx_main_v109 (ix4 l g (0 : Fin 1) n) = ix3 l g n from by funext a; fin_cases a <;> rfl)).trans (v89_at x0 x1 x2 x3 x4 x5 x6 l g n))
theorem v111_at (k : Fin 9) (n : Fin 64) : val_main_v111 (F := Ideal) x0 x1 x2 (ix5 l g k (0 : Fin 1) n) = ((headR x0 x1 x2 x3 x4 x5 x6 l g).pw n k.val).2 := by
  rw [val_main_v111_apply]
  have e : idx_main_v111 (ix5 l g k (0 : Fin 1) n) = ix4 l g k n := by funext a; fin_cases a <;> rfl
  rw [e, v110_at x0 x1 x2 x3 x4 x5 x6]
theorem v120_at (k : Fin 9) (c : Fin 16) (n : Fin 64) : val_main_v120 (F := Ideal) x0 x1 x2 x5 x6 (ix5 l g k c n) = (headR x0 x1 x2 x3 x4 x5 x6 l g).er k.val c n := by
  show val_main_v114 (F := Ideal) x5 (ix5 l g k c n) * val_main_v115 (F := Ideal) x0 x1 x2 (ix5 l g k c n) - val_main_v117 (F := Ideal) x6 (ix5 l g k c n) * val_main_v118 (F := Ideal) x0 x1 x2 (ix5 l g k c n) = _
  rw [val_main_v114_apply, val_main_v112_apply, val_main_v115_apply, val_main_v117_apply, val_main_v113_apply, val_main_v118_apply]
  have e1 : idx_main_v112 (idx_main_v114 (ix5 l g k c n)) = ix4 l g c n := by funext a; fin_cases a <;> rfl
  have e2 : idx_main_v115 (ix5 l g k c n) = ix5 l g k (0 : Fin 1) n := by funext a; fin_cases a <;> rfl
  have e3 : idx_main_v113 (idx_main_v117 (ix5 l g k c n)) = ix4 l g c n := by funext a; fin_cases a <;> rfl
  have e4 : idx_main_v118 (ix5 l g k c n) = ix5 l g k (0 : Fin 1) n := by funext a; fin_cases a <;> rfl
  rw [e1, e2, e3, e4, v100_at x0 x1 x2 x3 x4 x5 x6, v111_at x0 x1 x2 x3 x4 x5 x6]
  rfl
theorem v127_at (k : Fin 9) (c : Fin 16) (n : Fin 64) : val_main_v127 (F := Ideal) x0 x1 x2 x5 x6 (ix5 l g k c n) = (headR x0 x1 x2 x3 x4 x5 x6 l g).ei k.val c n := by
  show val_main_v121 (F := Ideal) x5 (ix5 l g k c n) * val_main_v122 (F := Ideal) x0 x1 x2 (ix5 l g k c n) + val_main_v124 (F := Ideal) x6 (ix5 l g k c n) * val_main_v125 (F := Ideal) x0 x1 x2 (ix5 l g k c n) = _
  rw [val_main_v121_apply, val_main_v112_apply, val_main_v122_apply, val_main_v124_apply, val_main_v113_apply, val_main_v125_apply]
  have e1 : idx_main_v112 (idx_main_v121 (ix5 l g k c n)) = ix4 l g c n := by funext a; fin_cases a <;> rfl
  have e2 : idx_main_v122 (ix5 l g k c n) = ix5 l g k (0 : Fin 1) n := by funext a; fin_cases a <;> rfl
  have e3 : idx_main_v113 (idx_main_v124 (ix5 l g k c n)) = ix4 l g c n := by funext a; fin_cases a <;> rfl
  have e4 : idx_main_v125 (ix5 l g k c n) = ix5 l g k (0 : Fin 1) n := by funext a; fin_cases a <;> rfl
  rw [e1, e2, e3, e4, v111_at x0 x1 x2 x3 x4 x5 x6, v100_at x0 x1 x2 x3 x4 x5 x6]
  rfl
theorem v140_at (k : Fin 8) (c : Fin 16) (n : Fin 64) : val_main_v140 (F := Ideal) x0 x1 x2 x3 x4 (ix5 l g k c n) = (headR x0 x1 x2 x3 x4 x5 x6 l g).wr k.val c n := by
  show val_main_v133 (F := Ideal) x0 x1 x2 (ix5 l g k c n) * val_main_v134 (F := Ideal) x0 x1 x2 x3 x4 (ix5 l g k c n) - val_main_v137 (F := Ideal) x0 x1 x2 (ix5 l g k c n) * val_main_v138 (F := Ideal) x0 x1 x2 x3 x4 (ix5 l g k c n) = _
  rw [val_main_v133_apply, val_main_v132_apply, val_main_v134_apply, val_main_v129_apply, val_main_v128_apply, val_main_v137_apply, val_main_v136_apply, val_main_v138_apply, val_main_v131_apply, val_main_v130_apply]
  have e1 : idx_main_v132 (idx_main_v133 (ix5 l g k c n)) = ix5 l g (⟨k.val, by omega⟩ : Fin 9) (0 : Fin 1) n := by funext a; fin_cases a <;> rfl
  have e2 : idx_main_v128 (idx_main_v129 (idx_main_v134 (ix5 l g k c n))) = ix4 l g n c := by funext a; fin_cases a <;> rfl
  have e3 : idx_main_v136 (idx_main_v137 (ix5 l g k c n)) = ix5 l g (⟨k.val, by omega⟩ : Fin 9) (0 : Fin 1) n := by funext a; fin_cases a <;> rfl
  have e4 : idx_main_v130 (idx_main_v131 (idx_main_v138 (ix5 l g k c n))) = ix4 l g n c := by funext a; fin_cases a <;> rfl
  rw [e1, e2, e3, e4, v100_at x0 x1 x2 x3 x4 x5 x6, v111_at x0 x1 x2 x3 x4 x5 x6, v32_at x0 x1 x2 x3 x4 x5 x6, v39_at x0 x1 x2 x3 x4 x5 x6]
  rfl
theorem v149_at (k : Fin 8) (c : Fin 16) (n : Fin 64) : val_main_v149 (F := Ideal) x0 x1 x2 x3 x4 (ix5 l g k c n) = (headR x0 x1 x2 x3 x4 x5 x6 l g).wi k.val c n := by
  show val_main_v142 (F := Ideal) x0 x1 x2 (ix5 l g k c n) * val_main_v143 (F := Ideal) x0 x1 x2 x3 x4 (ix5 l g k c n) + val_main_v146 (F := Ideal) x0 x1 x2 (ix5 l g k c n) * val_main_v147 (F := Ideal) x0 x1 x2 x3 x4 (ix5 l g k c n) = _
  rw [val_main_v142_apply, val_main_v141_apply, val_main_v143_apply, val_main_v131_apply, val_main_v130_apply, val_main_v146_apply, val_main_v145_apply, val_main_v147_apply, val_main_v129_apply, val_main_v128_apply]
  have e1 : idx_main_v141 (idx_main_v142 (ix5 l g k c n)) = ix5 l g (⟨k.val, by omega⟩ : Fin 9) (0 : Fin 1) n := by funext a; fin_cases a <;> rfl
  have e2 : idx_main_v130 (idx_main_v131 (idx_main_v143 (ix5 l g k c n))) = ix4 l g n c := by funext a; fin_cases a <;> rfl
  have e3 : idx_main_v145 (idx_main_v146 (ix5 l g k c n)) = ix5 l g (⟨k.val, by omega⟩ : Fin 9) (0 : Fin 1) n := by funext a; fin_cases a <;> rfl
  have e4 : idx_main_v128 (idx_main_v129 (idx_main_v147 (ix5 l g k c n))) = ix4 l g n c := by funext a; fin_cases a <;> rfl
  rw [e1, e2, e3, e4, v100_at x0 x1 x2 x3 x4 x5 x6, v111_at x0 x1 x2 x3 x4 x5 x6, v39_at x0 x1 x2 x3 x4 x5 x6, v32_at x0 x1 x2 x3 x4 x5 x6]
  rfl

theorem v154_at (k : Fin 8) (c d : Fin 16) : val_main_v154 (F := Ideal) x0 x1 x2 x3 x4 x5 x6 (ix5 l g k c d) = (headR x0 x1 x2 x3 x4 x5 x6 l g).kk k.val c d := by
  show val_main_v151 (F := Ideal) x0 x1 x2 x3 x4 x5 x6 (ix5 l g k c d) - val_main_v153 (F := Ideal) x0 x1 x2 x3 x4 x5 x6 (ix5 l g k c d) = _
  rw [val_main_v151_apply, val_main_v153_apply]
  unfold Head.kk
  have a1 (n : Fin 64) : val_main_v150 (F := Ideal) x0 x1 x2 x5 x6 (lidx_main_v151 (ix5 l g k c d) n) = (headR x0 x1 x2 x3 x4 x5 x6 l g).er k.val c n := by
    rw [val_main_v150_apply]
    have e : idx_main_v150 (lidx_main_v151 (ix5 l g k c d) n) = ix5 l g (⟨k.val, by omega⟩ : Fin 9) c n := by funext a; fin_cases a <;> rfl
    rw [e, v120_at x0 x1 x2 x3 x4 x5 x6]
  have a2 (n : Fin 64) : val_main_v32 (F := Ideal) x0 x1 x2 x3 x4 (ridx_main_v151 (ix5 l g k c d) n) = (headR x0 x1 x2 x3 x4 x5 x6 l g).bbr d n := by
    have e : ridx_main_v151 (ix5 l g k c d) n = ix4 l g n d := by funext a; fin_cases a <;> rfl
    rw [e, v32_at x0 x1 x2 x3 x4 x5 x6]
  have a3 (n : Fin 64) : val_main_v152 (F := Ideal) x0 x1 x2 x5 x6 (lidx_main_v153 (ix5 l g k c d) n) = (headR x0 x1 x2 x3 x4 x5 x6 l g).ei k.val c n := by
    rw [val_main_v152_apply]
    have e : idx_main_v152 (lidx_main_v153 (ix5 l g k c d) n) = ix5 l g (⟨k.val, by omega⟩ : Fin 9) c n := by funext a; fin_cases a <;> rfl
    rw [e, v127_at x0 x1 x2 x3 x4 x5 x6]
  have a4 (n : Fin 64) : val_main_v39 (F := Ideal) x0 x1 x2 x3 x4 (ridx_main_v153 (ix5 l g k c d) n) = (headR x0 x1 x2 x3 x4 x5 x6 l g).bbi d n := by
    have e : ridx_main_v153 (ix5 l g k c d) n = ix4 l g n d := by funext a; fin_cases a <;> rfl
    rw [e, v39_at x0 x1 x2 x3 x4 x5 x6]
  simp only [a1, a2, a3, a4]

/-- The layer and the head a flat head number names. -/
abbrev flatHead (s : Fin 64) : Head := headR x0 x1 x2 x3 x4 x5 x6 ⟨s.val / 32, by omega⟩ ⟨s.val % 32, Nat.mod_lt _ (by decide)⟩

theorem v155_at (y : S64x8x16x16.Idx) : val_main_v155 (F := Ideal) x0 x1 x2 x3 x4 x5 x6 y = (flatHead x0 x1 x2 x3 x4 x5 x6 (y 0)).kk (y 1).val (y 2) (y 3) := by
  have h0 : (y 0).val < 64 := (y 0).isLt
  refine (shapeCast_apply (val_main_v154 (F := Ideal) x0 x1 x2 x3 x4 x5 x6) _ y (ix5 (⟨(y 0).val / 32, by have h : (y 0).val < 64 := (y 0).isLt; omega⟩ : Fin 2) (⟨(y 0).val % 32, Nat.mod_lt _ (by decide)⟩ : Fin 32) (y 1) (y 2) (y 3)) ?_).trans ?_
  · rw [Shape.rowMajor_val_five, Shape.rowMajor_val_four]
    show ((((y 0).val / 32 * 32 + (y 0).val % 32) * 8 + (y 1).val) * 16 + (y 2).val) * 16 + (y 3).val = (((y 0).val * 8 + (y 1).val) * 16 + (y 2).val) * 16 + (y 3).val
    omega
  · exact v154_at x0 x1 x2 x3 x4 x5 x6 _ _ (y 1) (y 2) (y 3)
theorem v156_at (y : S64x8x16x64.Idx) : val_main_v156 (F := Ideal) x0 x1 x2 x3 x4 y = (flatHead x0 x1 x2 x3 x4 x5 x6 (y 0)).wr (y 1).val (y 2) (y 3) := by
  have h0 : (y 0).val < 64 := (y 0).isLt
  refine (shapeCast_apply (val_main_v140 (F := Ideal) x0 x1 x2 x3 x4) _ y (ix5 (⟨(y 0).val / 32, by have h : (y 0).val < 64 := (y 0).isLt; omega⟩ : Fin 2) (⟨(y 0).val % 32, Nat.mod_lt _ (by decide)⟩ : Fin 32) (y 1) (y 2) (y 3)) ?_).trans ?_
  · rw [Shape.rowMajor_val_five, Shape.rowMajor_val_four]
    show ((((y 0).val / 32 * 32 + (y 0).val % 32) * 8 + (y 1).val) * 16 + (y 2).val) * 64 + (y 3).val = (((y 0).val * 8 + (y 1).val) * 16 + (y 2).val) * 64 + (y 3).val
    omega
  · exact v140_at x0 x1 x2 x3 x4 x5 x6 _ _ (y 1) (y 2) (y 3)
theorem v157_at (y : S64x8x16x64.Idx) : val_main_v157 (F := Ideal) x0 x1 x2 x3 x4 y = (flatHead x0 x1 x2 x3 x4 x5 x6 (y 0)).wi (y 1).val (y 2) (y 3) := by
  have h0 : (y 0).val < 64 := (y 0).isLt
  refine (shapeCast_apply (val_main_v149 (F := Ideal) x0 x1 x2 x3 x4) _ y (ix5 (⟨(y 0).val / 32, by have h : (y 0).val < 64 := (y 0).isLt; omega⟩ : Fin 2) (⟨(y 0).val % 32, Nat.mod_lt _ (by decide)⟩ : Fin 32) (y 1) (y 2) (y 3)) ?_).trans ?_
  · rw [Shape.rowMajor_val_five, Shape.rowMajor_val_four]
    show ((((y 0).val / 32 * 32 + (y 0).val % 32) * 8 + (y 1).val) * 16 + (y 2).val) * 64 + (y 3).val = (((y 0).val * 8 + (y 1).val) * 16 + (y 2).val) * 64 + (y 3).val
    omega
  · exact v149_at x0 x1 x2 x3 x4 x5 x6 _ _ (y 1) (y 2) (y 3)
theorem v158_at (k : Fin 8) (c : Fin 16) (n : Fin 64) : val_main_v158 (F := Ideal) x0 x1 x2 x5 x6 (ix5 l g k c n) = (headR x0 x1 x2 x3 x4 x5 x6 l g).er (k.val + 1) c n := by
  rw [val_main_v158_apply]
  have e : idx_main_v158 (ix5 l g k c n) = ix5 l g (⟨k.val + 1, by omega⟩ : Fin 9) c n := by
    funext a
    fin_cases a
    · rfl
    · rfl
    · exact Fin.ext (Nat.add_comm 1 k.val)
    · rfl
    · rfl
  rw [e, v120_at x0 x1 x2 x3 x4 x5 x6]
theorem v159_at (y : S64x8x16x64.Idx) : val_main_v159 (F := Ideal) x0 x1 x2 x5 x6 y = (flatHead x0 x1 x2 x3 x4 x5 x6 (y 0)).er ((y 1).val + 1) (y 2) (y 3) := by
  have h0 : (y 0).val < 64 := (y 0).isLt
  refine (shapeCast_apply (val_main_v158 (F := Ideal) x0 x1 x2 x5 x6) _ y (ix5 (⟨(y 0).val / 32, by have h : (y 0).val < 64 := (y 0).isLt; omega⟩ : Fin 2) (⟨(y 0).val % 32, Nat.mod_lt _ (by decide)⟩ : Fin 32) (y 1) (y 2) (y 3)) ?_).trans ?_
  · rw [Shape.rowMajor_val_five, Shape.rowMajor_val_four]
    show ((((y 0).val / 32 * 32 + (y 0).val % 32) * 8 + (y 1).val) * 16 + (y 2).val) * 64 + (y 3).val = (((y 0).val * 8 + (y 1).val) * 16 + (y 2).val) * 64 + (y 3).val
    omega
  · exact v158_at x0 x1 x2 x3 x4 x5 x6 _ _ (y 1) (y 2) (y 3)
theorem v160_at (k : Fin 8) (c : Fin 16) (n : Fin 64) : val_main_v160 (F := Ideal) x0 x1 x2 x5 x6 (ix5 l g k c n) = (headR x0 x1 x2 x3 x4 x5 x6 l g).ei (k.val + 1) c n := by
  rw [val_main_v160_apply]
  have e : idx_main_v160 (ix5 l g k c n) = ix5 l g (⟨k.val + 1, by omega⟩ : Fin 9) c n := by
    funext a
    fin_cases a
    · rfl
    · rfl
    · exact Fin.ext (Nat.add_comm 1 k.val)
    · rfl
    · rfl
  rw [e, v127_at x0 x1 x2 x3 x4 x5 x6]
theorem v161_at (y : S64x8x16x64.Idx) : val_main_v161 (F := Ideal) x0 x1 x2 x5 x6 y = (flatHead x0 x1 x2 x3 x4 x5 x6 (y 0)).ei ((y 1).val + 1) (y 2) (y 3) := by
  have h0 : (y 0).val < 64 := (y 0).isLt
  refine (shapeCast_apply (val_main_v160 (F := Ideal) x0 x1 x2 x5 x6) _ y (ix5 (⟨(y 0).val / 32, by have h : (y 0).val < 64 := (y 0).isLt; omega⟩ : Fin 2) (⟨(y 0).val % 32, Nat.mod_lt _ (by decide)⟩ : Fin 32) (y 1) (y 2) (y 3)) ?_).trans ?_
  · rw [Shape.rowMajor_val_five, Shape.rowMajor_val_four]
    show ((((y 0).val / 32 * 32 + (y 0).val % 32) * 8 + (y 1).val) * 16 + (y 2).val) * 64 + (y 3).val = (((y 0).val * 8 + (y 1).val) * 16 + (y 2).val) * 64 + (y 3).val
    omega
  · exact v160_at x0 x1 x2 x3 x4 x5 x6 _ _ (y 1) (y 2) (y 3)
theorem v164_at (y : S64x1x64.Idx) : val_main_v164 (F := Ideal) x0 x1 x2 y = ((flatHead x0 x1 x2 x3 x4 x5 x6 (y 0)).pw (y 2) 8).1 := by
  have h0 : (y 0).val < 64 := (y 0).isLt
  have h1 : (y 1).val < 1 := (y 1).isLt
  refine (shapeCast_apply (val_main_v163 (F := Ideal) x0 x1 x2) _ y (ix4 (⟨(y 0).val / 32, by have h : (y 0).val < 64 := (y 0).isLt; omega⟩ : Fin 2) (⟨(y 0).val % 32, Nat.mod_lt _ (by decide)⟩ : Fin 32) (0 : Fin 1) (y 2)) ?_).trans ?_
  · rw [Shape.rowMajor_val_four, Shape.rowMajor_val_three]
    show (((y 0).val / 32 * 32 + (y 0).val % 32) * 1 + 0) * 64 + (y 2).val = ((y 0).val * 1 + (y 1).val) * 64 + (y 2).val
    omega
  refine (shapeCast_apply (val_main_v162 (F := Ideal) x0 x1 x2) _ _ (ix5 (⟨(y 0).val / 32, by have h : (y 0).val < 64 := (y 0).isLt; omega⟩ : Fin 2) (⟨(y 0).val % 32, Nat.mod_lt _ (by decide)⟩ : Fin 32) (0 : Fin 1) (0 : Fin 1) (y 2)) ?_).trans ?_
  · rw [Shape.rowMajor_val_five, Shape.rowMajor_val_four]
    show ((((y 0).val / 32 * 32 + (y 0).val % 32) * 1 + 0) * 1 + 0) * 64 + (y 2).val = (((y 0).val / 32 * 32 + (y 0).val % 32) * 1 + 0) * 64 + (y 2).val
    omega
  rw [val_main_v162_apply]
  have e : idx_main_v162 (ix5 (⟨(y 0).val / 32, by have h : (y 0).val < 64 := (y 0).isLt; omega⟩ : Fin 2) (⟨(y 0).val % 32, Nat.mod_lt _ (by decide)⟩ : Fin 32) (0 : Fin 1) (0 : Fin 1) (y 2)) = ix5 (⟨(y 0).val / 32, by have h : (y 0).val < 64 := (y 0).isLt; omega⟩ : Fin 2) (⟨(y 0).val % 32, Nat.mod_lt _ (by decide)⟩ : Fin 32) (8 : Fin 9) (0 : Fin 1) (y 2) := by funext a; fin_cases a <;> rfl
  exact (congrArg (val_main_v100 (F := Ideal) x0 x1 x2) e).trans (v100_at x0 x1 x2 x3 x4 x5 x6 _ _ 8 (y 2))
theorem v167_at (y : S64x1x64.Idx) : val_main_v167 (F := Ideal) x0 x1 x2 y = ((flatHead x0 x1 x2 x3 x4 x5 x6 (y 0)).pw (y 2) 8).2 := by
  have h0 : (y 0).val < 64 := (y 0).isLt
  have h1 : (y 1).val < 1 := (y 1).isLt
  refine (shapeCast_apply (val_main_v166 (F := Ideal) x0 x1 x2) _ y (ix4 (⟨(y 0).val / 32, by have h : (y 0).val < 64 := (y 0).isLt; omega⟩ : Fin 2) (⟨(y 0).val % 32, Nat.mod_lt _ (by decide)⟩ : Fin 32) (0 : Fin 1) (y 2)) ?_).trans ?_
  · rw [Shape.rowMajor_val_four, Shape.rowMajor_val_three]
    show (((y 0).val / 32 * 32 + (y 0).val % 32) * 1 + 0) * 64 + (y 2).val = ((y 0).val * 1 + (y 1).val) * 64 + (y 2).val
    omega
  refine (shapeCast_apply (val_main_v165 (F := Ideal) x0 x1 x2) _ _ (ix5 (⟨(y 0).val / 32, by have h : (y 0).val < 64 := (y 0).isLt; omega⟩ : Fin 2) (⟨(y 0).val % 32, Nat.mod_lt _ (by decide)⟩ : Fin 32) (0 : Fin 1) (0 : Fin 1) (y 2)) ?_).trans ?_
  · rw [Shape.rowMajor_val_five, Shape.rowMajor_val_four]
    show ((((y 0).val / 32 * 32 + (y 0).val % 32) * 1 + 0) * 1 + 0) * 64 + (y 2).val = (((y 0).val / 32 * 32 + (y 0).val % 32) * 1 + 0) * 64 + (y 2).val
    omega
  rw [val_main_v165_apply]
  have e : idx_main_v165 (ix5 (⟨(y 0).val / 32, by have h : (y 0).val < 64 := (y 0).isLt; omega⟩ : Fin 2) (⟨(y 0).val % 32, Nat.mod_lt _ (by decide)⟩ : Fin 32) (0 : Fin 1) (0 : Fin 1) (y 2)) = ix5 (⟨(y 0).val / 32, by have h : (y 0).val < 64 := (y 0).isLt; omega⟩ : Fin 2) (⟨(y 0).val % 32, Nat.mod_lt _ (by decide)⟩ : Fin 32) (8 : Fin 9) (0 : Fin 1) (y 2) := by funext a; fin_cases a <;> rfl
  exact (congrArg (val_main_v111 (F := Ideal) x0 x1 x2) e).trans (v111_at x0 x1 x2 x3 x4 x5 x6 _ _ 8 (y 2))

end Cert.Reference4Ideal.Powers

end
-- ==== Proof.PowAlg.lean ====
/- The powers call computes the reference's seven arrays over the extended reals. -/
module

public import proofs.«01_k».proof.Defs
public import proofs.«01_k».proof.Proof.PowValue
public import proofs.«01_k».proof.Proof.PowRef
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Proof.Powers

open Idealize.ShloMosaic Idealize.ShloMosaic.TcCoe Idealize.SL.Sem
open Cert.Kernel4Ideal.Powers (val7 val8 val9 val10 val11 val12 val13)

/-- The reference's frame. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2.2.2, Idealize.ShloMosaic.sem_eq_zero_of_no_sems (by decide) r.2⟩)
    (Cert.Reference4Ideal.Value.run (F := Ideal) m ρ)

/-- The two programs compute the same seven arrays. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => val7 m c, fun c => val8 m c, fun c => val9 m c, fun c => val10 m c, fun c => val11 m c, fun c => val12 m c, fun c => val13 m c, Cert.Kernel4Ideal.Powers.run m ρ, ?_⟩
  refine (θ_run Cert.Reference4Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference4Ideal.Value.run (F := Ideal) m' ρ')
  · rw [Cert.Reference4Ideal.Read.val_main_v155_eq]
    obtain ⟨a0, a1, a2, a3, a4, a5, a6⟩ := hagree c
    show Cert.Reference4Ideal.Read.val_main_v155 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = val7 m c
    rw [a0, a1, a2, a3, a4, a5, a6]
    exact funext fun j => Cert.Reference4Ideal.Powers.v155_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v156_eq]
    obtain ⟨a0, a1, a2, a3, a4, a5, a6⟩ := hagree c
    show Cert.Reference4Ideal.Read.val_main_v156 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) = val8 m c
    rw [a0, a1, a2, a3, a4]
    exact funext fun j => Cert.Reference4Ideal.Powers.v156_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v157_eq]
    obtain ⟨a0, a1, a2, a3, a4, a5, a6⟩ := hagree c
    show Cert.Reference4Ideal.Read.val_main_v157 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) = val9 m c
    rw [a0, a1, a2, a3, a4]
    exact funext fun j => Cert.Reference4Ideal.Powers.v157_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v159_eq]
    obtain ⟨a0, a1, a2, a3, a4, a5, a6⟩ := hagree c
    show Cert.Reference4Ideal.Read.val_main_v159 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = val10 m c
    rw [a0, a1, a2, a5, a6]
    exact funext fun j => Cert.Reference4Ideal.Powers.v159_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v161_eq]
    obtain ⟨a0, a1, a2, a3, a4, a5, a6⟩ := hagree c
    show Cert.Reference4Ideal.Read.val_main_v161 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = val11 m c
    rw [a0, a1, a2, a5, a6]
    exact funext fun j => Cert.Reference4Ideal.Powers.v161_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v164_eq]
    obtain ⟨a0, a1, a2, a3, a4, a5, a6⟩ := hagree c
    show Cert.Reference4Ideal.Read.val_main_v164 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) = val12 m c
    rw [a0, a1, a2]
    exact funext fun j => Cert.Reference4Ideal.Powers.v164_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j
  · rw [Cert.Reference4Ideal.Read.val_main_v167_eq]
    obtain ⟨a0, a1, a2, a3, a4, a5, a6⟩ := hagree c
    show Cert.Reference4Ideal.Read.val_main_v167 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) = val13 m c
    rw [a0, a1, a2]
    exact funext fun j => Cert.Reference4Ideal.Powers.v167_at (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) j

end Cert.Proof.Powers

end
-- ==== Proof.lean ====
/- The claims, assembled: the frames of the twelve programs, the idealizations, and the four calls' values. -/
module

public import proofs.«01_k».proof.Proof.Gen.Kernel2Ideal.Launch
public import proofs.«01_k».proof.Proof.Gen.Kernel2Ideal.Skeleton
public import proofs.«01_k».proof.Proof.Gen.Kernel2.Launch
public import proofs.«01_k».proof.Proof.Gen.Reference2Ideal.Run
public import proofs.«01_k».proof.Proof.Gen.Reference2Ideal.Read
public import proofs.«01_k».proof.Proof.Gen.Pre_routed_counts
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Defs
public import proofs.«01_k».proof.Proof.Gen.Kernel.Frame
public import proofs.«01_k».proof.Proof.FinAlg
public import proofs.«01_k».proof.Proof.ExpAlg
public import proofs.«01_k».proof.Proof.PlanAlg
public import proofs.«01_k».proof.Proof.PowAlg
public import Idealize.ShloMosaic.Lib.Quiescent

@[expose] public section

noncomputable section

namespace Cert.Proof

open Idealize.ShloMosaic Idealize.SL.Sem

/-- The two programs have one text: their kernel bodies are the same, -/
theorem bodies_eq : Cert.Kernel.defs₀ (F := Bits) = Cert.KernelIdeal.defs₀ (F := Bits) := by
  refine congrArg Defs.onTc ?_
  funext k a
  match k, a with
  | 0, (t, s) => rfl

/-- and with them their body tables. -/
theorem tables_eq : Cert.Kernel.defs (F := Bits) = Cert.KernelIdeal.defs (F := Bits) :=
  congrArg (Pipeline.defs Cert.KernelIdeal.pcfgs) bodies_eq

/-- The kernel's frame: the run over any float values is the kernel's at the words. -/
theorem frame_kernel : Cert.quiescent_Kernel (hKernel := Cert.Kernel.Gen.facts) := fun m ρ _ => by
  rw [tables_eq]
  exact (θ_run Cert.KernelIdeal.defs _ _).mono (fun _ h => h) (Cert.KernelIdeal.Fin.frame (F := Bits) m ρ)

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_distinct_slots.Gen.facts, Cert.Pre_routed_counts.Gen.facts,
  frame_kernel, fun m ρ _ => Cert.KernelIdeal.Fin.frame m ρ, fun m ρ _ => Cert.KernelIdeal.Fin.frame m ρ,
  frame_reference, fun m ρ _ => frame_reference m ρ trivial,
  Cert.Proof.Exp.frame_kernel, Cert.Proof.Exp.frame_ideal, Cert.Proof.Exp.frame_reference, fun m ρ _ => Cert.Proof.Exp.frame_reference m ρ trivial,
  fun m ρ _ => Cert.Kernel3.Gen.frame m ρ, fun m ρ _ => Cert.Kernel3Ideal.Gen.frame m ρ, Cert.Proof.Ranks.frame_reference,
  fun m ρ _ => Cert.Kernel4.Gen.frame m ρ, fun m ρ _ => Cert.Kernel4Ideal.Gen.frame m ρ, Cert.Proof.Powers.frame_reference,
  trivial, Cert.Proof.Fin.algebraic, trivial, Cert.Proof.Exp.algebraic,
  trivial, Cert.Proof.Ranks.algebraic, trivial, Cert.Proof.Powers.algebraic⟩

end Cert.Proof

end
